-- ==== Defs.lean ====
def Pre_Bound (m : (ℓ : Loc Cert.Bound.nD Cert.Bound.τ Cert.Bound.sig) → Buf (Elt Bits) ℓ) : Prop :=
  True

def Pre_BoundIdeal (m : (ℓ : Loc Cert.BoundIdeal.nD Cert.BoundIdeal.τ Cert.BoundIdeal.sig) → Buf (Elt Ideal) ℓ) : Prop :=
  True

def Pre_BoundIdeal_finite [hPre_finite : Cert.Pre_finite.Facts] (m : (ℓ : Loc Cert.BoundIdeal.nD Cert.BoundIdeal.τ Cert.BoundIdeal.sig) → Buf (Elt Ideal) ℓ) : Prop :=
  ∀ c : Dev Cert.BoundIdeal.nD,
    (Cert.Pre_finite.fn (F := Ideal) (m ((c.tc : Thread Cert.BoundIdeal.nD Cert.BoundIdeal.τ).loc Cert.BoundIdeal.main_arg0)) (m ((c.tc : Thread Cert.BoundIdeal.nD Cert.BoundIdeal.τ).loc Cert.BoundIdeal.main_arg1)) (m ((c.tc : Thread Cert.BoundIdeal.nD Cert.BoundIdeal.τ).loc Cert.BoundIdeal.main_arg2)) (m ((c.tc : Thread Cert.BoundIdeal.nD Cert.BoundIdeal.τ).loc Cert.BoundIdeal.main_arg3))) = (fun _ => 1#1)

def Pre_BoundRefIdeal (m : (ℓ : Loc Cert.BoundRefIdeal.nD Cert.BoundRefIdeal.τ Cert.BoundRefIdeal.sig) → Buf (Elt Ideal) ℓ) : Prop :=
  True

def Pre_BoundRefIdeal_finite [hPre_finite : Cert.Pre_finite.Facts] (m : (ℓ : Loc Cert.BoundRefIdeal.nD Cert.BoundRefIdeal.τ Cert.BoundRefIdeal.sig) → Buf (Elt Ideal) ℓ) : Prop :=
  ∀ c : Dev Cert.BoundRefIdeal.nD,
    (Cert.Pre_finite.fn (F := Ideal) (m ((c.tc : Thread Cert.BoundRefIdeal.nD Cert.BoundRefIdeal.τ).loc Cert.BoundRefIdeal.main_arg0)) (m ((c.tc : Thread Cert.BoundRefIdeal.nD Cert.BoundRefIdeal.τ).loc Cert.BoundRefIdeal.main_arg1)) (m ((c.tc : Thread Cert.BoundRefIdeal.nD Cert.BoundRefIdeal.τ).loc Cert.BoundRefIdeal.main_arg2)) (m ((c.tc : Thread Cert.BoundRefIdeal.nD Cert.BoundRefIdeal.τ).loc Cert.BoundRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_finite_rope [hPre_finite_rope : Cert.Pre_finite_rope.Facts] (m : (ℓ : Loc Cert.InpIdeal.nD Cert.InpIdeal.τ Cert.InpIdeal.sig) → Buf (Elt Ideal) ℓ) : Prop :=
  ∀ c : Dev Cert.InpIdeal.nD,
    (Cert.Pre_finite_rope.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6))) = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_finite_rope [hPre_finite_rope : Cert.Pre_finite_rope.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_finite_rope.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6))) = (fun _ => 1#1)

def quiescent_Bound [hBound : Cert.Bound.Facts] : Prop :=
  ∀ (m : (ℓ : Loc Cert.Bound.nD Cert.Bound.τ Cert.Bound.sig) → Buf (Elt Bits) ℓ) (g : Dev Cert.Bound.nD → PrngReg), Pre_Bound m →
    θ_run (Cert.Bound.defs (F := Bits)) (onTc (τ := Cert.Bound.τ) (Cert.Bound.main (F := Bits))) ⟨m, fun _ => 0, g⟩ (fun r => (∀ c : Dev Cert.Bound.nD,
      r.2.mem ((c.tc : Thread Cert.Bound.nD Cert.Bound.τ).loc Cert.Bound.main_arg0) = m ((c.tc : Thread Cert.Bound.nD Cert.Bound.τ).loc Cert.Bound.main_arg0)
      ∧ r.2.mem ((c.tc : Thread Cert.Bound.nD Cert.Bound.τ).loc Cert.Bound.main_arg1) = m ((c.tc : Thread Cert.Bound.nD Cert.Bound.τ).loc Cert.Bound.main_arg1)
      ∧ r.2.mem ((c.tc : Thread Cert.Bound.nD Cert.Bound.τ).loc Cert.Bound.main_arg2) = m ((c.tc : Thread Cert.Bound.nD Cert.Bound.τ).loc Cert.Bound.main_arg2)
      ∧ r.2.mem ((c.tc : Thread Cert.Bound.nD Cert.Bound.τ).loc Cert.Bound.main_arg3) = m ((c.tc : Thread Cert.Bound.nD Cert.Bound.τ).loc Cert.Bound.main_arg3))
      ∧ r.2.sem = fun _ => 0)

def quiescent_BoundIdeal [hBoundIdeal : Cert.BoundIdeal.Facts] : Prop :=
  ∀ (m : (ℓ : Loc Cert.BoundIdeal.nD Cert.BoundIdeal.τ Cert.BoundIdeal.sig) → Buf (Elt Ideal) ℓ) (g : Dev Cert.BoundIdeal.nD → PrngReg), Pre_BoundIdeal m →
    θ_run (Cert.BoundIdeal.defs (F := Ideal)) (onTc (τ := Cert.BoundIdeal.τ) (Cert.BoundIdeal.main (F := Ideal))) ⟨m, fun _ => 0, g⟩ (fun r => (∀ c : Dev Cert.BoundIdeal.nD,
      r.2.mem ((c.tc : Thread Cert.BoundIdeal.nD Cert.BoundIdeal.τ).loc Cert.BoundIdeal.main_arg0) = m ((c.tc : Thread Cert.BoundIdeal.nD Cert.BoundIdeal.τ).loc Cert.BoundIdeal.main_arg0)
      ∧ r.2.mem ((c.tc : Thread Cert.BoundIdeal.nD Cert.BoundIdeal.τ).loc Cert.BoundIdeal.main_arg1) = m ((c.tc : Thread Cert.BoundIdeal.nD Cert.BoundIdeal.τ).loc Cert.BoundIdeal.main_arg1)
      ∧ r.2.mem ((c.tc : Thread Cert.BoundIdeal.nD Cert.BoundIdeal.τ).loc Cert.BoundIdeal.main_arg2) = m ((c.tc : Thread Cert.BoundIdeal.nD Cert.BoundIdeal.τ).loc Cert.BoundIdeal.main_arg2)
      ∧ r.2.mem ((c.tc : Thread Cert.BoundIdeal.nD Cert.BoundIdeal.τ).loc Cert.BoundIdeal.main_arg3) = m ((c.tc : Thread Cert.BoundIdeal.nD Cert.BoundIdeal.τ).loc Cert.BoundIdeal.main_arg3))
      ∧ r.2.sem = fun _ => 0)

def quiescent_BoundIdeal_pre_finite [hBoundIdeal : Cert.BoundIdeal.Facts] [hPre_finite : Cert.Pre_finite.Facts] : Prop :=
  ∀ (m : (ℓ : Loc Cert.BoundIdeal.nD Cert.BoundIdeal.τ Cert.BoundIdeal.sig) → Buf (Elt Ideal) ℓ) (g : Dev Cert.BoundIdeal.nD → PrngReg), Pre_BoundIdeal_finite m →
    θ_run (Cert.BoundIdeal.defs (F := Ideal)) (onTc (τ := Cert.BoundIdeal.τ) (Cert.BoundIdeal.main (F := Ideal))) ⟨m, fun _ => 0, g⟩ (fun r => (∀ c : Dev Cert.BoundIdeal.nD,
      r.2.mem ((c.tc : Thread Cert.BoundIdeal.nD Cert.BoundIdeal.τ).loc Cert.BoundIdeal.main_arg0) = m ((c.tc : Thread Cert.BoundIdeal.nD Cert.BoundIdeal.τ).loc Cert.BoundIdeal.main_arg0)
      ∧ r.2.mem ((c.tc : Thread Cert.BoundIdeal.nD Cert.BoundIdeal.τ).loc Cert.BoundIdeal.main_arg1) = m ((c.tc : Thread Cert.BoundIdeal.nD Cert.BoundIdeal.τ).loc Cert.BoundIdeal.main_arg1)
      ∧ r.2.mem ((c.tc : Thread Cert.BoundIdeal.nD Cert.BoundIdeal.τ).loc Cert.BoundIdeal.main_arg2) = m ((c.tc : Thread Cert.BoundIdeal.nD Cert.BoundIdeal.τ).loc Cert.BoundIdeal.main_arg2)
      ∧ r.2.mem ((c.tc : Thread Cert.BoundIdeal.nD Cert.BoundIdeal.τ).loc Cert.BoundIdeal.main_arg3) = m ((c.tc : Thread Cert.BoundIdeal.nD Cert.BoundIdeal.τ).loc Cert.BoundIdeal.main_arg3))
      ∧ r.2.sem = fun _ => 0)

def quiescent_BoundRefIdeal [hBoundRefIdeal : Cert.BoundRefIdeal.Facts] : Prop :=
  ∀ (m : (ℓ : Loc Cert.BoundRefIdeal.nD Cert.BoundRefIdeal.τ Cert.BoundRefIdeal.sig) → Buf (Elt Ideal) ℓ) (g : Dev Cert.BoundRefIdeal.nD → PrngReg), Pre_BoundRefIdeal m →
    θ_run (Cert.BoundRefIdeal.defs (F := Ideal)) (onTc (τ := Cert.BoundRefIdeal.τ) (Cert.BoundRefIdeal.main (F := Ideal))) ⟨m, fun _ => 0, g⟩ (fun r => (∀ c : Dev Cert.BoundRefIdeal.nD,
      r.2.mem ((c.tc : Thread Cert.BoundRefIdeal.nD Cert.BoundRefIdeal.τ).loc Cert.BoundRefIdeal.main_arg0) = m ((c.tc : Thread Cert.BoundRefIdeal.nD Cert.BoundRefIdeal.τ).loc Cert.BoundRefIdeal.main_arg0)
      ∧ r.2.mem ((c.tc : Thread Cert.BoundRefIdeal.nD Cert.BoundRefIdeal.τ).loc Cert.BoundRefIdeal.main_arg1) = m ((c.tc : Thread Cert.BoundRefIdeal.nD Cert.BoundRefIdeal.τ).loc Cert.BoundRefIdeal.main_arg1)
      ∧ r.2.mem ((c.tc : Thread Cert.BoundRefIdeal.nD Cert.BoundRefIdeal.τ).loc Cert.BoundRefIdeal.main_arg2) = m ((c.tc : Thread Cert.BoundRefIdeal.nD Cert.BoundRefIdeal.τ).loc Cert.BoundRefIdeal.main_arg2)
      ∧ r.2.mem ((c.tc : Thread Cert.BoundRefIdeal.nD Cert.BoundRefIdeal.τ).loc Cert.BoundRefIdeal.main_arg3) = m ((c.tc : Thread Cert.BoundRefIdeal.nD Cert.BoundRefIdeal.τ).loc Cert.BoundRefIdeal.main_arg3))
      ∧ r.2.sem = fun _ => 0)

def quiescent_BoundRefIdeal_pre_finite [hBoundRefIdeal : Cert.BoundRefIdeal.Facts] [hPre_finite : Cert.Pre_finite.Facts] : Prop :=
  ∀ (m : (ℓ : Loc Cert.BoundRefIdeal.nD Cert.BoundRefIdeal.τ Cert.BoundRefIdeal.sig) → Buf (Elt Ideal) ℓ) (g : Dev Cert.BoundRefIdeal.nD → PrngReg), Pre_BoundRefIdeal_finite m →
    θ_run (Cert.BoundRefIdeal.defs (F := Ideal)) (onTc (τ := Cert.BoundRefIdeal.τ) (Cert.BoundRefIdeal.main (F := Ideal))) ⟨m, fun _ => 0, g⟩ (fun r => (∀ c : Dev Cert.BoundRefIdeal.nD,
      r.2.mem ((c.tc : Thread Cert.BoundRefIdeal.nD Cert.BoundRefIdeal.τ).loc Cert.BoundRefIdeal.main_arg0) = m ((c.tc : Thread Cert.BoundRefIdeal.nD Cert.BoundRefIdeal.τ).loc Cert.BoundRefIdeal.main_arg0)
      ∧ r.2.mem ((c.tc : Thread Cert.BoundRefIdeal.nD Cert.BoundRefIdeal.τ).loc Cert.BoundRefIdeal.main_arg1) = m ((c.tc : Thread Cert.BoundRefIdeal.nD Cert.BoundRefIdeal.τ).loc Cert.BoundRefIdeal.main_arg1)
      ∧ r.2.mem ((c.tc : Thread Cert.BoundRefIdeal.nD Cert.BoundRefIdeal.τ).loc Cert.BoundRefIdeal.main_arg2) = m ((c.tc : Thread Cert.BoundRefIdeal.nD Cert.BoundRefIdeal.τ).loc Cert.BoundRefIdeal.main_arg2)
      ∧ r.2.mem ((c.tc : Thread Cert.BoundRefIdeal.nD Cert.BoundRefIdeal.τ).loc Cert.BoundRefIdeal.main_arg3) = m ((c.tc : Thread Cert.BoundRefIdeal.nD Cert.BoundRefIdeal.τ).loc Cert.BoundRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ r.2.sem = fun _ => 0)

def quiescent_InpIdeal_pre_finite_rope [hInpIdeal : Cert.InpIdeal.Facts] [hPre_finite_rope : Cert.Pre_finite_rope.Facts] : Prop :=
  ∀ (m : (ℓ : Loc Cert.InpIdeal.nD Cert.InpIdeal.τ Cert.InpIdeal.sig) → Buf (Elt Ideal) ℓ) (g : Dev Cert.InpIdeal.nD → PrngReg), Pre_InpIdeal_finite_rope m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6))
      ∧ r.2.sem = fun _ => 0)

def quiescent_InpRefIdeal_pre_finite_rope [hInpRefIdeal : Cert.InpRefIdeal.Facts] [hPre_finite_rope : Cert.Pre_finite_rope.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_finite_rope m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6))
      ∧ r.2.sem = fun _ => 0)

def preserves_Bound_BoundIdeal : Prop :=
  True

def algebraic_BoundIdeal_BoundRefIdeal_pre_finite [hBoundIdeal : Cert.BoundIdeal.Facts] [hBoundRefIdeal : Cert.BoundRefIdeal.Facts] [hPre_finite : Cert.Pre_finite.Facts] : Prop :=
  ∀ (m : (ℓ : Loc Cert.BoundIdeal.nD Cert.BoundIdeal.τ Cert.BoundIdeal.sig) → Buf (Elt Ideal) ℓ) (g : Dev Cert.BoundIdeal.nD → PrngReg)
    (m' : (ℓ : Loc Cert.BoundRefIdeal.nD Cert.BoundRefIdeal.τ Cert.BoundRefIdeal.sig) → Buf (Elt Ideal) ℓ) (g' : Dev Cert.BoundRefIdeal.nD → PrngReg), Pre_BoundIdeal_finite m →
    (∀ c : Dev Cert.BoundIdeal.nD,
      m' ((c.tc : Thread Cert.BoundRefIdeal.nD Cert.BoundRefIdeal.τ).loc Cert.BoundRefIdeal.main_arg0) = m ((c.tc : Thread Cert.BoundIdeal.nD Cert.BoundIdeal.τ).loc Cert.BoundIdeal.main_arg0)
      ∧ m' ((c.tc : Thread Cert.BoundRefIdeal.nD Cert.BoundRefIdeal.τ).loc Cert.BoundRefIdeal.main_arg1) = m ((c.tc : Thread Cert.BoundIdeal.nD Cert.BoundIdeal.τ).loc Cert.BoundIdeal.main_arg1)
      ∧ m' ((c.tc : Thread Cert.BoundRefIdeal.nD Cert.BoundRefIdeal.τ).loc Cert.BoundRefIdeal.main_arg2) = m ((c.tc : Thread Cert.BoundIdeal.nD Cert.BoundIdeal.τ).loc Cert.BoundIdeal.main_arg2)
      ∧ m' ((c.tc : Thread Cert.BoundRefIdeal.nD Cert.BoundRefIdeal.τ).loc Cert.BoundRefIdeal.main_arg3) = m ((c.tc : Thread Cert.BoundIdeal.nD Cert.BoundIdeal.τ).loc Cert.BoundIdeal.main_arg3)) →
    ∃ (v0 : (c : Dev Cert.BoundIdeal.nD) → Buf (Elt Ideal) ((c.tc : Thread Cert.BoundIdeal.nD Cert.BoundIdeal.τ).loc Cert.BoundIdeal.main_v1)),
      θ_run (Cert.BoundIdeal.defs (F := Ideal)) (onTc (τ := Cert.BoundIdeal.τ) (Cert.BoundIdeal.main (F := Ideal))) ⟨m, fun _ => 0, g⟩ (fun r => ∀ c : Dev Cert.BoundIdeal.nD,
          r.2.mem ((c.tc : Thread Cert.BoundIdeal.nD Cert.BoundIdeal.τ).loc Cert.BoundIdeal.main_v1) = v0 c
          ∧ r.2.mem ((c.tc : Thread Cert.BoundIdeal.nD Cert.BoundIdeal.τ).loc Cert.BoundIdeal.main_arg0) = m ((c.tc : Thread Cert.BoundIdeal.nD Cert.BoundIdeal.τ).loc Cert.BoundIdeal.main_arg0)
          ∧ r.2.mem ((c.tc : Thread Cert.BoundIdeal.nD Cert.BoundIdeal.τ).loc Cert.BoundIdeal.main_arg1) = m ((c.tc : Thread Cert.BoundIdeal.nD Cert.BoundIdeal.τ).loc Cert.BoundIdeal.main_arg1)
          ∧ r.2.mem ((c.tc : Thread Cert.BoundIdeal.nD Cert.BoundIdeal.τ).loc Cert.BoundIdeal.main_arg2) = m ((c.tc : Thread Cert.BoundIdeal.nD Cert.BoundIdeal.τ).loc Cert.BoundIdeal.main_arg2)
          ∧ r.2.mem ((c.tc : Thread Cert.BoundIdeal.nD Cert.BoundIdeal.τ).loc Cert.BoundIdeal.main_arg3) = m ((c.tc : Thread Cert.BoundIdeal.nD Cert.BoundIdeal.τ).loc Cert.BoundIdeal.main_arg3))
      ∧ θ_run (Cert.BoundRefIdeal.defs (F := Ideal)) (onTc (τ := Cert.BoundRefIdeal.τ) (Cert.BoundRefIdeal.main (F := Ideal))) ⟨m', fun _ => 0, g'⟩ (fun r => ∀ c : Dev Cert.BoundRefIdeal.nD,
          r.2.mem ((c.tc : Thread Cert.BoundRefIdeal.nD Cert.BoundRefIdeal.τ).loc Cert.BoundRefIdeal.main_v21) = v0 c
          ∧ r.2.mem ((c.tc : Thread Cert.BoundRefIdeal.nD Cert.BoundRefIdeal.τ).loc Cert.BoundRefIdeal.main_arg0) = m' ((c.tc : Thread Cert.BoundRefIdeal.nD Cert.BoundRefIdeal.τ).loc Cert.BoundRefIdeal.main_arg0)
          ∧ r.2.mem ((c.tc : Thread Cert.BoundRefIdeal.nD Cert.BoundRefIdeal.τ).loc Cert.BoundRefIdeal.main_arg1) = m' ((c.tc : Thread Cert.BoundRefIdeal.nD Cert.BoundRefIdeal.τ).loc Cert.BoundRefIdeal.main_arg1)
          ∧ r.2.mem ((c.tc : Thread Cert.BoundRefIdeal.nD Cert.BoundRefIdeal.τ).loc Cert.BoundRefIdeal.main_arg2) = m' ((c.tc : Thread Cert.BoundRefIdeal.nD Cert.BoundRefIdeal.τ).loc Cert.BoundRefIdeal.main_arg2)
          ∧ r.2.mem ((c.tc : Thread Cert.BoundRefIdeal.nD Cert.BoundRefIdeal.τ).loc Cert.BoundRefIdeal.main_arg3) = m' ((c.tc : Thread Cert.BoundRefIdeal.nD Cert.BoundRefIdeal.τ).loc Cert.BoundRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v68) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v42) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Inp_InpIdeal : Prop :=
  True

def algebraic_InpIdeal_InpRefIdeal_pre_finite_rope [hInpIdeal : Cert.InpIdeal.Facts] [hInpRefIdeal : Cert.InpRefIdeal.Facts] [hPre_finite_rope : Cert.Pre_finite_rope.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_finite_rope m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)) →
    ∃ (v0 : (c : Dev Cert.InpIdeal.nD) → Buf (Elt Ideal) ((c.tc : Thread Cert.InpIdeal.nD Cert.InpIdeal.τ).loc Cert.InpIdeal.main_v57_0)) (v1 : (c : Dev Cert.InpIdeal.nD) → Buf (Elt Ideal) ((c.tc : Thread Cert.InpIdeal.nD Cert.InpIdeal.τ).loc Cert.InpIdeal.main_v57_1)) (v2 : (c : Dev Cert.InpIdeal.nD) → Buf (Elt Ideal) ((c.tc : Thread Cert.InpIdeal.nD Cert.InpIdeal.τ).loc Cert.InpIdeal.main_v57_2)) (v3 : (c : Dev Cert.InpIdeal.nD) → Buf (Elt Ideal) ((c.tc : Thread Cert.InpIdeal.nD Cert.InpIdeal.τ).loc Cert.InpIdeal.main_v57_3)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v57_0) = v0 c
          ∧ r.2.mem ((c.tc : Thread Cert.InpIdeal.nD Cert.InpIdeal.τ).loc Cert.InpIdeal.main_v57_1) = v1 c
          ∧ r.2.mem ((c.tc : Thread Cert.InpIdeal.nD Cert.InpIdeal.τ).loc Cert.InpIdeal.main_v57_2) = v2 c
          ∧ r.2.mem ((c.tc : Thread Cert.InpIdeal.nD Cert.InpIdeal.τ).loc Cert.InpIdeal.main_v57_3) = v3 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v14) = v0 c
          ∧ r.2.mem ((c.tc : Thread Cert.InpRefIdeal.nD Cert.InpRefIdeal.τ).loc Cert.InpRefIdeal.main_v119) = v1 c
          ∧ r.2.mem ((c.tc : Thread Cert.InpRefIdeal.nD Cert.InpRefIdeal.τ).loc Cert.InpRefIdeal.main_v121) = v2 c
          ∧ r.2.mem ((c.tc : Thread Cert.InpRefIdeal.nD Cert.InpRefIdeal.τ).loc Cert.InpRefIdeal.main_v122) = v3 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6))

def Claim : Prop :=
  ∃ (hBound : Cert.Bound.Facts) (hBoundIdeal : Cert.BoundIdeal.Facts) (hBoundRefIdeal : Cert.BoundRefIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hInp : Cert.Inp.Facts) (hInpIdeal : Cert.InpIdeal.Facts) (hInpRefIdeal : Cert.InpRefIdeal.Facts) (hPre_finite : Cert.Pre_finite.Facts) (hPre_finite_rope : Cert.Pre_finite_rope.Facts),
    quiescent_Bound (hBound := hBound)
    ∧ quiescent_BoundIdeal (hBoundIdeal := hBoundIdeal)
    ∧ quiescent_BoundIdeal_pre_finite (hBoundIdeal := hBoundIdeal) (hPre_finite := hPre_finite)
    ∧ quiescent_BoundRefIdeal (hBoundRefIdeal := hBoundRefIdeal)
    ∧ quiescent_BoundRefIdeal_pre_finite (hBoundRefIdeal := hBoundRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ quiescent_Inp (hInp := hInp)
    ∧ quiescent_InpIdeal (hInpIdeal := hInpIdeal)
    ∧ quiescent_InpIdeal_pre_finite_rope (hInpIdeal := hInpIdeal) (hPre_finite_rope := hPre_finite_rope)
    ∧ quiescent_InpRefIdeal (hInpRefIdeal := hInpRefIdeal)
    ∧ quiescent_InpRefIdeal_pre_finite_rope (hInpRefIdeal := hInpRefIdeal) (hPre_finite_rope := hPre_finite_rope)
    ∧ preserves_Bound_BoundIdeal
    ∧ algebraic_BoundIdeal_BoundRefIdeal_pre_finite (hBoundIdeal := hBoundIdeal) (hBoundRefIdeal := hBoundRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
    ∧ preserves_Inp_InpIdeal
    ∧ algebraic_InpIdeal_InpRefIdeal_pre_finite_rope (hInpIdeal := hInpIdeal) (hInpRefIdeal := hInpRefIdeal) (hPre_finite_rope := hPre_finite_rope)
-- ==== Pre_finite.lean ====
abbrev S2x8 : Shape := ⟨2, ![2, 8]⟩
abbrev S2x8x8192x128 : Shape := ⟨4, ![2, 8, 8192, 128]⟩
abbrev S2x16x512x512 : Shape := ⟨4, ![2, 16, 512, 512]⟩
abbrev S_ : Shape := ⟨0, ![]⟩

class Facts : Prop where
  bitsLt_bf16_f32 : FTy.bits .bf16 < FTy.bits .f32
  bcast_S_S2x8x8192x128 : S_.BroadcastsInDim S2x8x8192x128 (![] : Fin 0 → Fin S2x8x8192x128.rank)
  bcast_S_S2x8 : S_.BroadcastsInDim S2x8 (![] : Fin 0 → Fin S2x8.rank)
  reducesTo_S2x8_S_d0_1 : S2x8.ReducesTo [0, 1] S_
  h_S_ : 0 < S_.numel
  reducesTo_S2x8x8192x128_S_d0_1_2_3 : S2x8x8192x128.ReducesTo [0, 1, 2, 3] S_
  bcast_S_S2x16x512x512 : S_.BroadcastsInDim S2x16x512x512 (![] : Fin 0 → Fin S2x16x512x512.rank)
  reducesTo_S2x16x512x512_S_d0_1_2_3 : S2x16x512x512.ReducesTo [0, 1, 2, 3] S_

variable [Facts]

def fn_where {F : FTy → Type} [FloatOps F] (arg0 : IVec S2x8x8192x128 1) (arg1 : IVec S2x8x8192x128 1) (arg2 : IVec S2x8x8192x128 1) : IVec S2x8x8192x128 1 :=
  let v0 : IVec S2x8x8192x128 1 := select arg0 arg1 arg2
  v0

def fn_part2 {F : FTy → Type} [FloatOps F] (main_v33 : IVec S_ 1) (main_v34 : IVec S_ 1) : IVec S_ 1 :=
  let main_v35 : IVec S_ 1 := andi main_v33 main_v34
  main_v35

def fn_part1 {F : FTy → Type} [FloatOps F] (main_arg2 : FVec F S2x8x8192x128 .bf16) (main_arg3 : FVec F S2x16x512x512 .bf16) (main_v11 : IVec S2x8x8192x128 1) (main_v15 : IVec S_ 1) (main_v17 : FVec F S2x8x8192x128 .f32) : IVec S_ 1 :=
  let main_cst_4 : FVec F S_ .f32 := constant S_ .f32 0x7F800000#32
  let main_v18 : FVec F S2x8x8192x128 .f32 := broadcastInDim S2x8x8192x128 ![] bcast_S_S2x8x8192x128 main_cst_4
  let main_v19 : IVec S2x8x8192x128 1 := cmpf .olt main_v17 main_v18
  let main_c_5 : IVec S_ 1 := constantI S_ 1 1#1
  let main_v20 : IVec S_ 1 := (fun x v => Host.reduce IntOp.andi x v reducesTo_S2x8x8192x128_S_d0_1_2_3 h_S_) main_v19 main_c_5
  let main_v21 : IVec S_ 1 := andi main_v15 main_v20
  let main_v22 : FVec F S2x8x8192x128 .f32 := (extf .f32 · bitsLt_bf16_f32) main_arg2
  let main_v23 : FVec F S2x8x8192x128 .f32 := Host.absf main_v22
  let main_cst_6 : FVec F S_ .f32 := constant S_ .f32 0x7F800000#32
  let main_v24 : FVec F S2x8x8192x128 .f32 := broadcastInDim S2x8x8192x128 ![] bcast_S_S2x8x8192x128 main_cst_6
  let main_v25 : IVec S2x8x8192x128 1 := cmpf .olt main_v23 main_v24
  let main_c_7 : IVec S_ 1 := constantI S_ 1 1#1
  let main_v26 : IVec S_ 1 := (fun x v => Host.reduce IntOp.andi x v reducesTo_S2x8x8192x128_S_d0_1_2_3 h_S_) main_v25 main_c_7
  let main_v27 : IVec S_ 1 := andi main_v21 main_v26
  let main_v28 : FVec F S2x16x512x512 .f32 := (extf .f32 · bitsLt_bf16_f32) main_arg3
  let main_v29 : FVec F S2x16x512x512 .f32 := Host.absf main_v28
  let main_cst_8 : FVec F S_ .f32 := constant S_ .f32 0x7F800000#32
  let main_v30 : FVec F S2x16x512x512 .f32 := broadcastInDim S2x16x512x512 ![] bcast_S_S2x16x512x512 main_cst_8
  let main_v31 : IVec S2x16x512x512 1 := cmpf .olt main_v29 main_v30
  let main_c_9 : IVec S_ 1 := constantI S_ 1 1#1
  let main_v32 : IVec S_ 1 := (fun x v => Host.reduce IntOp.andi x v reducesTo_S2x16x512x512_S_d0_1_2_3 h_S_) main_v31 main_c_9
  let main_v33 : IVec S_ 1 := andi main_v27 main_v32
  let main_c_10 : IVec S_ 1 := constantI S_ 1 1#1
  let main_v34 : IVec S_ 1 := (fun x v => Host.reduce IntOp.andi x v reducesTo_S2x8x8192x128_S_d0_1_2_3 h_S_) main_v11 main_c_10
  fn_part2 (F := F) main_v33 main_v34

def fn {F : FTy → Type} [FloatOps F] (main_arg0 : FVec F S2x8 .f32) (main_arg1 : FVec F S2x8x8192x128 .bf16) (main_arg2 : FVec F S2x8x8192x128 .bf16) (main_arg3 : FVec F S2x16x512x512 .bf16) : IVec S_ 1 :=
  let main_v0 : IVec S2x8x8192x128 32 := iotaInDim S2x8x8192x128 32 3
  let main_v1 : FVec F S2x8x8192x128 .f32 := (extf .f32 · bitsLt_bf16_f32) main_arg2
  let main_c : IVec S_ 32 := constantI S_ 32 96#32
  let main_v2 : IVec S2x8x8192x128 32 := broadcastInDim S2x8x8192x128 ![] bcast_S_S2x8x8192x128 main_c
  let main_v3 : IVec S2x8x8192x128 1 := cmpi .eq main_v0 main_v2
  let main_cst : FVec F S_ .f32 := constant S_ .f32 0x3F800000#32
  let main_v4 : FVec F S2x8x8192x128 .f32 := broadcastInDim S2x8x8192x128 ![] bcast_S_S2x8x8192x128 main_cst
  let main_v5 : IVec S2x8x8192x128 1 := cmpf .oeq main_v1 main_v4
  let main_c_0 : IVec S_ 32 := constantI S_ 32 96#32
  let main_v6 : IVec S2x8x8192x128 32 := broadcastInDim S2x8x8192x128 ![] bcast_S_S2x8x8192x128 main_c_0
  let main_v7 : IVec S2x8x8192x128 1 := cmpi .slt main_v0 main_v6
  let main_cst_1 : FVec F S_ .f32 := constant S_ .f32 0x00000000#32
  let main_v8 : FVec F S2x8x8192x128 .f32 := broadcastInDim S2x8x8192x128 ![] bcast_S_S2x8x8192x128 main_cst_1
  let main_v9 : IVec S2x8x8192x128 1 := cmpf .oeq main_v1 main_v8
  let main_v10 : IVec S2x8x8192x128 1 := ori main_v7 main_v9
  let main_v11 : IVec S2x8x8192x128 1 := fn_where (F := F) main_v3 main_v5 main_v10
  let main_v12 : FVec F S2x8 .f32 := Host.absf main_arg0
  let main_cst_2 : FVec F S_ .f32 := constant S_ .f32 0x7F800000#32
  let main_v13 : FVec F S2x8 .f32 := broadcastInDim S2x8 ![] bcast_S_S2x8 main_cst_2
  let main_v14 : IVec S2x8 1 := cmpf .olt main_v12 main_v13
  let main_c_3 : IVec S_ 1 := constantI S_ 1 1#1
  let main_v15 : IVec S_ 1 := (fun x v => Host.reduce IntOp.andi x v reducesTo_S2x8_S_d0_1 h_S_) main_v14 main_c_3
  let main_v16 : FVec F S2x8x8192x128 .f32 := (extf .f32 · bitsLt_bf16_f32) main_arg1
  let main_v17 : FVec F S2x8x8192x128 .f32 := Host.absf main_v16
  fn_part1 (F := F) main_arg2 main_arg3 main_v11 main_v15 main_v17
-- ==== Pre_finite_rope.lean ====
abbrev S2x8192x1024 : Shape := ⟨3, ![2, 8192, 1024]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1024x32 : Shape := ⟨2, ![1024, 32]⟩
abbrev S384x8x96 : Shape := ⟨3, ![384, 8, 96]⟩
abbrev S384x8x32 : Shape := ⟨3, ![384, 8, 32]⟩
abbrev S_ : Shape := ⟨0, ![]⟩

class Facts : Prop where
  slices_S1024x2208_S1024x32_0_2176 : S1024x2208.Slices ![0, 2176] S1024x32
  shapeCasts_S384x768_S384x8x96 : S384x768.ShapeCasts S384x8x96
  slices_S384x8x96_S384x8x32_0_0_64 : S384x8x96.Slices ![0, 0, 64] S384x8x32
  bcast_S_S1024 : S_.BroadcastsInDim S1024 (![] : Fin 0 → Fin S1024.rank)
  reducesTo_S1024_S_d0 : S1024.ReducesTo [0] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S384 : S_.BroadcastsInDim S384 (![] : Fin 0 → Fin S384.rank)
  reducesTo_S384_S_d0 : S384.ReducesTo [0] S_
  bcast_S_S384x8x32 : S_.BroadcastsInDim S384x8x32 (![] : Fin 0 → Fin S384x8x32.rank)
  reducesTo_S384x8x32_S_d0_1_2 : S384x8x32.ReducesTo [0, 1, 2] S_

variable [Facts]

def fn_part1 {F : FTy → Type} [FloatOps F] (main_v16 : IVec S_ 1) (main_v17 : FVec F S384x8x32 .f32) : IVec S_ 1 :=
  let main_cst_4 : FVec F S_ .f32 := constant S_ .f32 0x7F800000#32
  let main_v18 : FVec F S384x8x32 .f32 := broadcastInDim S384x8x32 ![] bcast_S_S384x8x32 main_cst_4
  let main_v19 : IVec S384x8x32 1 := cmpf .olt main_v17 main_v18
  let main_c_5 : IVec S_ 1 := constantI S_ 1 1#1
  let main_v20 : IVec S_ 1 := (fun x v => Host.reduce IntOp.andi x v reducesTo_S384x8x32_S_d0_1_2 h_S_) main_v19 main_c_5
  let main_v21 : IVec S_ 1 := andi main_v16 main_v20
  main_v21

def fn {F : FTy → Type} [FloatOps F] (main_arg0 : FVec F S2x8192x1024 .f32) (main_arg1 : FVec F S1024 .f32) (main_arg2 : FVec F S1024x2208 .f32) (main_arg3 : FVec F S384 .f32) (main_arg4 : FVec F S384x768 .f32) (main_arg5 : FVec F S256 .f32) (main_arg6 : FVec F S256x1024 .f32) : IVec S_ 1 :=
  let main_v0 : FVec F S1024x32 .f32 := (extractStridedSlice S1024x32 ![0, 2176] · slices_S1024x2208_S1024x32_0_2176) main_arg2
  let main_v1 : FVec F S384x8x96 .f32 := shapeCast S384x8x96 main_arg4 shapeCasts_S384x768_S384x8x96
  let main_v2 : FVec F S384x8x32 .f32 := (extractStridedSlice S384x8x32 ![0, 0, 64] · slices_S384x8x96_S384x8x32_0_0_64) main_v1
  let main_v3 : FVec F S1024 .f32 := Host.absf main_arg1
  let main_cst : FVec F S_ .f32 := constant S_ .f32 0x7F800000#32
  let main_v4 : FVec F S1024 .f32 := broadcastInDim S1024 ![] bcast_S_S1024 main_cst
  let main_v5 : IVec S1024 1 := cmpf .olt main_v3 main_v4
  let main_c : IVec S_ 1 := constantI S_ 1 1#1
  let main_v6 : IVec S_ 1 := (fun x v => Host.reduce IntOp.andi x v reducesTo_S1024_S_d0 h_S_) main_v5 main_c
  let main_v7 : FVec F S1024x32 .f32 := Host.absf main_v0
  let main_cst_0 : FVec F S_ .f32 := constant S_ .f32 0x7F800000#32
  let main_v8 : FVec F S1024x32 .f32 := broadcastInDim S1024x32 ![] bcast_S_S1024x32 main_cst_0
  let main_v9 : IVec S1024x32 1 := cmpf .olt main_v7 main_v8
  let main_c_1 : IVec S_ 1 := constantI S_ 1 1#1
  let main_v10 : IVec S_ 1 := (fun x v => Host.reduce IntOp.andi x v reducesTo_S1024x32_S_d0_1 h_S_) main_v9 main_c_1
  let main_v11 : IVec S_ 1 := andi main_v6 main_v10
  let main_v12 : FVec F S384 .f32 := Host.absf main_arg3
  let main_cst_2 : FVec F S_ .f32 := constant S_ .f32 0x7F800000#32
  let main_v13 : FVec F S384 .f32 := broadcastInDim S384 ![] bcast_S_S384 main_cst_2
  let main_v14 : IVec S384 1 := cmpf .olt main_v12 main_v13
  let main_c_3 : IVec S_ 1 := constantI S_ 1 1#1
  let main_v15 : IVec S_ 1 := (fun x v => Host.reduce IntOp.andi x v reducesTo_S384_S_d0 h_S_) main_v14 main_c_3
  let main_v16 : IVec S_ 1 := andi main_v11 main_v15
  let main_v17 : FVec F S384x8x32 .f32 := Host.absf main_v2
  fn_part1 (F := F) main_v16 main_v17
-- ==== Bound.lean ====
abbrev S2x8 : Shape := ⟨2, ![2, 8]⟩
abbrev S2x8x8192x128 : Shape := ⟨4, ![2, 8, 8192, 128]⟩
abbrev S2x16x512x512 : Shape := ⟨4, ![2, 16, 512, 512]⟩
abbrev S16 : Shape := ⟨1, ![16]⟩
abbrev S2x512x8192 : Shape := ⟨3, ![2, 512, 8192]⟩
abbrev S1x1x8192x128 : Shape := ⟨4, ![1, 1, 8192, 128]⟩
abbrev S1x16x64x512 : Shape := ⟨4, ![1, 16, 64, 512]⟩
abbrev S1x64x8192 : Shape := ⟨3, ![1, 64, 8192]⟩
abbrev S8192x128 : Shape := ⟨2, ![8192, 128]⟩
abbrev S512x8192 : Shape := ⟨2, ![512, 8192]⟩
abbrev S1 : Shape := ⟨1, ![1]⟩
abbrev S16x512 : Shape := ⟨2, ![16, 512]⟩
abbrev S80x8192 : Shape := ⟨2, ![80, 8192]⟩
abbrev S1x1x512x128 : Shape := ⟨4, ![1, 1, 512, 128]⟩
abbrev S512x128 : Shape := ⟨2, ![512, 128]⟩
abbrev S1x1x64x512 : Shape := ⟨4, ![1, 1, 64, 512]⟩
abbrev S64x512 : Shape := ⟨2, ![64, 512]⟩
abbrev S80x512 : Shape := ⟨2, ![80, 512]⟩
abbrev S64x8192 : Shape := ⟨2, ![64, 8192]⟩
abbrev S1x8192 : Shape := ⟨2, ![1, 8192]⟩

abbrev nBuf : Space → Nat
  | .hbm => 6
  | .vmem => 11
  | .smem => 1
  | _ => 0

abbrev bufTy : (tb : Table) → Fin (tcTables nBuf tb) → BufTy
  | .hbm, ⟨0, _⟩ => ⟨S2x8, .f32⟩
  | .hbm, ⟨1, _⟩ => ⟨S2x8x8192x128, .bf16⟩
  | .hbm, ⟨2, _⟩ => ⟨S2x8x8192x128, .bf16⟩
  | .hbm, ⟨3, _⟩ => ⟨S2x16x512x512, .bf16⟩
  | .hbm, ⟨4, _⟩ => ⟨S16, .f32⟩
  | .hbm, ⟨5, _⟩ => ⟨S2x512x8192, .f32⟩
  | .local _ .vmem, ⟨0, _⟩ => ⟨S1x1x8192x128, .bf16⟩
  | .local _ .vmem, ⟨1, _⟩ => ⟨S1x1x8192x128, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x16x64x512, .bf16⟩
  | .local _ .vmem, ⟨5, _⟩ => ⟨S1x16x64x512, .bf16⟩
  | .local _ .vmem, ⟨6, _⟩ => ⟨S1x64x8192, .f32⟩
  | .local _ .vmem, ⟨7, _⟩ => ⟨S1x64x8192, .f32⟩
  | .local _ .vmem, ⟨8, _⟩ => ⟨S8192x128, .bf16⟩
  | .local _ .vmem, ⟨9, _⟩ => ⟨S512x8192, .bf16⟩
  | .local _ .vmem, ⟨10, _⟩ => ⟨S512x8192, .bf16⟩
  | .local _ .smem, ⟨0, _⟩ => ⟨S16, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 1], ![false, false, false]⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v7 : Index := Scalar.indexCast v1
  ![v7.toNat]
@[reducible] def k0_t1_loop : Scf.Loop 32 :=
  let c0_i32 : BitVec 32 := 0#32
  let c8_i32_10 : BitVec 32 := 8#32
  let v23 : BitVec 32 := Scalar.addi c0_i32 c8_i32_10
  let c1_i32 : BitVec 32 := 1#32
  ⟨c0_i32, v23, c1_i32⟩
def k0_mult1 (k0_t1 : Fin k0_t1_loop.trips) : BitVec 32 :=
  let c2_i32 : BitVec 32 := 2#32
  let c0_i32 : BitVec 32 := 0#32
  let c1_i32 : BitVec 32 := 1#32
  let arg11 : BitVec 32 := Scf.iv c0_i32 c1_i32 k0_t1
  let v38 : BitVec 32 := Scalar.muli c2_i32 arg11
  let c512_i32 : BitVec 32 := 512#32
  let v39 : BitVec 32 := Scalar.muli v38 c512_i32
  v39
def k0_off2 (k0_t1 : Fin k0_t1_loop.trips) : Fin 4 → Nat :=
  let c0_21 : Index := 0#32
  let c0_22 : Index := 0#32
  let c2_i32 : BitVec 32 := 2#32
  let c0_i32 : BitVec 32 := 0#32
  let c1_i32 : BitVec 32 := 1#32
  let arg11 : BitVec 32 := Scf.iv c0_i32 c1_i32 k0_t1
  let v38 : BitVec 32 := Scalar.muli c2_i32 arg11
  let c512_i32 : BitVec 32 := 512#32
  let v39 : BitVec 32 := Scalar.muli v38 c512_i32
  let v40 : BitVec 32 := v39
  let v41 : Index := Scalar.indexCast v40
  let c0_23 : Index := 0#32
  ![0, 0, v41.toNat, 0]
def k0_off3 (k0_t1 : Fin k0_t1_loop.trips) : Fin 4 → Nat :=
  let c0_32 : Index := 0#32
  let c2_i32_29 : BitVec 32 := 2#32
  let c0_i32 : BitVec 32 := 0#32
  let c1_i32 : BitVec 32 := 1#32
  let arg11 : BitVec 32 := Scf.iv c0_i32 c1_i32 k0_t1
  let v51 : BitVec 32 := Scalar.muli c2_i32_29 arg11
  let c1_i32_30 : BitVec 32 := 1#32
  let v52 : BitVec 32 := Scalar.subi v51 c1_i32_30
  let c0_i32_31 : BitVec 32 := 0#32
  let v53 : BitVec 32 := Scalar.maxsi v52 c0_i32_31
  let v54 : Index := Scalar.indexCast v53
  let c0_33 : Index := 0#32
  let c0_34 : Index := 0#32
  ![0, v54.toNat, 0, 0]
def k0_mult2 (k0_t1 : Fin k0_t1_loop.trips) : BitVec 32 :=
  let c2_i32_38 : BitVec 32 := 2#32
  let c0_i32 : BitVec 32 := 0#32
  let c1_i32 : BitVec 32 := 1#32
  let arg11 : BitVec 32 := Scf.iv c0_i32 c1_i32 k0_t1
  let v61 : BitVec 32 := Scalar.muli c2_i32_38 arg11
  let c1_i32_39 : BitVec 32 := 1#32
  let v62 : BitVec 32 := Scalar.addi v61 c1_i32_39
  let c512_i32_40 : BitVec 32 := 512#32
  let v63 : BitVec 32 := Scalar.muli v62 c512_i32_40
  v63
def k0_off4 (k0_t1 : Fin k0_t1_loop.trips) : Fin 4 → Nat :=
  let c0_41 : Index := 0#32
  let c0_42 : Index := 0#32
  let c2_i32_38 : BitVec 32 := 2#32
  let c0_i32 : BitVec 32 := 0#32
  let c1_i32 : BitVec 32 := 1#32
  let arg11 : BitVec 32 := Scf.iv c0_i32 c1_i32 k0_t1
  let v61 : BitVec 32 := Scalar.muli c2_i32_38 arg11
  let c1_i32_39 : BitVec 32 := 1#32
  let v62 : BitVec 32 := Scalar.addi v61 c1_i32_39
  let c512_i32_40 : BitVec 32 := 512#32
  let v63 : BitVec 32 := Scalar.muli v62 c512_i32_40
  let v64 : BitVec 32 := v63
  let v65 : Index := Scalar.indexCast v64
  let c0_43 : Index := 0#32
  ![0, 0, v65.toNat, 0]
def k0_off5 (k0_t1 : Fin k0_t1_loop.trips) : Fin 4 → Nat :=
  let c0_50 : Index := 0#32
  let c2_i32_49 : BitVec 32 := 2#32
  let c0_i32 : BitVec 32 := 0#32
  let c1_i32 : BitVec 32 := 1#32
  let arg11 : BitVec 32 := Scf.iv c0_i32 c1_i32 k0_t1
  let v75 : BitVec 32 := Scalar.muli c2_i32_49 arg11
  let v76 : Index := Scalar.indexCast v75
  let c0_51 : Index := 0#32
  let c0_52 : Index := 0#32
  ![0, v76.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== BoundRefIdeal.lean ====
abbrev S2x8 : Shape := ⟨2, ![2, 8]⟩
abbrev S2x8x8192x128 : Shape := ⟨4, ![2, 8, 8192, 128]⟩
abbrev S2x16x512x512 : Shape := ⟨4, ![2, 16, 512, 512]⟩
abbrev S2x8x8192x96 : Shape := ⟨4, ![2, 8, 8192, 96]⟩
abbrev S2x16x8x64x512 : Shape := ⟨5, ![2, 16, 8, 64, 512]⟩
abbrev S2x8x16x512x64 : Shape := ⟨5, ![2, 8, 16, 512, 64]⟩
abbrev S2x8x8192x64 : Shape := ⟨4, ![2, 8, 8192, 64]⟩
abbrev S2x8x8192x8192 : Shape := ⟨4, ![2, 8, 8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S2x512x8192 : Shape := ⟨3, ![2, 512, 8192]⟩

abbrev nBuf : Space → Nat
  | .hbm => 29
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8x8192x128, .bf16⟩
  | .hbm, ⟨2, _⟩ => ⟨S2x8x8192x128, .bf16⟩
  | .hbm, ⟨3, _⟩ => ⟨S2x16x512x512, .bf16⟩
  | .hbm, ⟨4, _⟩ => ⟨S2x8x8192x96, .bf16⟩
  | .hbm, ⟨5, _⟩ => ⟨S2x8x8192x96, .f32⟩
  | .hbm, ⟨6, _⟩ => ⟨S2x8x8192x96, .bf16⟩
  | .hbm, ⟨7, _⟩ => ⟨S2x8x8192x96, .f32⟩
  | .hbm, ⟨8, _⟩ => ⟨S2x16x512x512, .f32⟩
  | .hbm, ⟨9, _⟩ => ⟨S2x16x8x64x512, .f32⟩
  | .hbm, ⟨10, _⟩ => ⟨S2x8x16x512x64, .f32⟩
  | .hbm, ⟨11, _⟩ => ⟨S2x8x8192x64, .f32⟩
  | .hbm, ⟨12, _⟩ => ⟨S2x8x8192x8192, .f32⟩
  | .hbm, ⟨13, _⟩ => ⟨S_, .f32⟩
  | .hbm, ⟨14, _⟩ => ⟨S2x8x8192, .f32⟩
  | .hbm, ⟨15, _⟩ => ⟨S2x8x8192x1, .f32⟩
  | .hbm, ⟨16, _⟩ => ⟨S2x8x8192x8192, .f32⟩
  | .hbm, ⟨17, _⟩ => ⟨S2x8x8192x8192, .f32⟩
  | .hbm, ⟨18, _⟩ => ⟨S_, .f32⟩
  | .hbm, ⟨19, _⟩ => ⟨S2x8x8192x8192, .f32⟩
  | .hbm, ⟨20, _⟩ => ⟨S2x8x8192x8192, .f32⟩
  | .hbm, ⟨21, _⟩ => ⟨S_, .f32⟩
  | .hbm, ⟨22, _⟩ => ⟨S2x8x8192, .f32⟩
  | .hbm, ⟨23, _⟩ => ⟨S2x8x8192x1, .f32⟩
  | .hbm, ⟨24, _⟩ => ⟨S2x8x8192x8192, .f32⟩
  | .hbm, ⟨25, _⟩ => ⟨S2x8x8192x8192, .f32⟩
  | .hbm, ⟨26, _⟩ => ⟨S2x8x8192x64, .f32⟩
  | .hbm, ⟨27, _⟩ => ⟨S2x8x64x8192, .f32⟩
  | .hbm, ⟨28, _⟩ => ⟨S2x512x8192, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Ffn.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S3 : Shape := ⟨1, ![3]⟩
abbrev S_ : Shape := ⟨0, ![]⟩
abbrev S1x16x1024 : Shape := ⟨3, ![1, 16, 1024]⟩
abbrev S1x512x1024 : Shape := ⟨3, ![1, 512, 1024]⟩
abbrev S2x2x2x544x128 : Shape := ⟨5, ![2, 2, 2, 544, 128]⟩
abbrev S512x2816 : Shape := ⟨2, ![512, 2816]⟩
abbrev S16x1024 : Shape := ⟨2, ![16, 1024]⟩
abbrev S16 : Shape := ⟨1, ![16]⟩
abbrev S16x1 : Shape := ⟨2, ![16, 1]⟩
abbrev S512x1024 : Shape := ⟨2, ![512, 1024]⟩
abbrev S512 : Shape := ⟨1, ![512]⟩
abbrev S512x1 : Shape := ⟨2, ![512, 1]⟩
abbrev S544x1024 : Shape := ⟨2, ![544, 1024]⟩
abbrev S1024x256 : Shape := ⟨2, ![1024, 256]⟩
abbrev S544x256 : Shape := ⟨2, ![544, 256]⟩
abbrev S544x128 : Shape := ⟨2, ![544, 128]⟩
abbrev S1x1x1x544x128 : Shape := ⟨5, ![1, 1, 1, 544, 128]⟩
abbrev S3x128 : Shape := ⟨2, ![3, 128]⟩
abbrev S1x128 : Shape := ⟨2, ![1, 128]⟩
abbrev S1 : Shape := ⟨1, ![1]⟩
abbrev S1x1x1x512x128 : Shape := ⟨5, ![1, 1, 1, 512, 128]⟩
abbrev S512x128 : Shape := ⟨2, ![512, 128]⟩
abbrev S1024x1024 : Shape := ⟨2, ![1024, 1024]⟩
abbrev S512x768 : Shape := ⟨2, ![512, 768]⟩
abbrev S768x1024 : Shape := ⟨2, ![768, 1024]⟩

abbrev nBuf : Space → Nat
  | .hbm => 17
  | .vmem => 16
  | .smem => 1
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S3, .i32⟩
  | .hbm, ⟨13, _⟩ => ⟨S_, .i32⟩
  | .hbm, ⟨14, _⟩ => ⟨S3, .i32⟩
  | .hbm, ⟨15, _⟩ => ⟨S3, .i32⟩
  | .hbm, ⟨16, _⟩ => ⟨S2x8192x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1024x5632, .bf16⟩
  | .local _ .vmem, ⟨8, _⟩ => ⟨S3x5632, .f32⟩
  | .local _ .vmem, ⟨9, _⟩ => ⟨S1x5632, .f32⟩
  | .local _ .vmem, ⟨10, _⟩ => ⟨S2816x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S2x2x2x544x128, .f32⟩
  | .local _ .vmem, ⟨15, _⟩ => ⟨S512x2816, .bf16⟩
  | .local _ .smem, ⟨0, _⟩ => ⟨S3, .i32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 16], ![false, false]⟩

def k0_off1 (v101 : BitVec 32) : Fin 5 → Nat :=
  let c0_75 : Index := 0#32
  let c0_76 : Index := 0#32
  let c0_77 : Index := 0#32
  let v102 : Index := Scalar.indexCast v101
  let c0_78 : Index := 0#32
  ![0, 0, 0, v102.toNat, 0]

def k0_chk1 (v101 : BitVec 32) : Prop :=
  (∀ a, (k0_off1 v101) a + S1x1x1x512x128.size a ≤ S2x2x2x544x128.size a)
theorem k0_off1_inb : ∀ (v101 : BitVec 32) (k0_hw1 : k0_chk1 v101), ∀ a, (k0_off1 v101) a + S1x1x1x512x128.size a ≤ S2x2x2x544x128.size a := fun v101 k0_hw1 => k0_hw1

def k0_off2 (v110 : BitVec 32) : Fin 5 → Nat :=
  let c0_80 : Index := 0#32
  let c0_81 : Index := 0#32
  let c0_82 : Index := 0#32
  let v111 : Index := Scalar.indexCast v110
  let c0_83 : Index := 0#32
  ![0, 0, 0, v111.toNat, 0]

def k0_chk2 (v110 : BitVec 32) : Prop :=
  (∀ a, (k0_off2 v110) a + S1x1x1x512x128.size a ≤ S2x2x2x544x128.size a)
theorem k0_off2_inb : ∀ (v110 : BitVec 32) (k0_hw2 : k0_chk2 v110), ∀ a, (k0_off2 v110) a + S1x1x1x512x128.size a ≤ S2x2x2x544x128.size a := fun v110 k0_hw2 => k0_hw2

def k0_off3 (v118 : BitVec 32) : Fin 5 → Nat :=
  let c0_84 : Index := 0#32
  let c0_85 : Index := 0#32
  let c0_86 : Index := 0#32
  let v119 : Index := Scalar.indexCast v118
  let c0_87 : Index := 0#32
  ![0, 0, 0, v119.toNat, 0]

def k0_chk3 (v118 : BitVec 32) : Prop :=
  (∀ a, (k0_off3 v118) a + S1x1x1x512x128.size a ≤ S2x2x2x544x128.size a)
theorem k0_off3_inb : ∀ (v118 : BitVec 32) (k0_hw3 : k0_chk3 v118), ∀ a, (k0_off3 v118) a + S1x1x1x512x128.size a ≤ S2x2x2x544x128.size a := fun v118 k0_hw3 => k0_hw3

def k0_off4 (v142 : BitVec 32) : Fin 5 → Nat :=
  let c0_97 : Index := 0#32
  let c1_98 : Index := 1#32
  let c0_99 : Index := 0#32
  let v143 : Index := Scalar.indexCast v142
  let c0_100 : Index := 0#32
  ![0, 1, 0, v143.toNat, 0]

def k0_chk4 (v142 : BitVec 32) : Prop :=
  (∀ a, (k0_off4 v142) a + S1x1x1x512x128.size a ≤ S2x2x2x544x128.size a)
theorem k0_off4_inb : ∀ (v142 : BitVec 32) (k0_hw4 : k0_chk4 v142), ∀ a, (k0_off4 v142) a + S1x1x1x512x128.size a ≤ S2x2x2x544x128.size a := fun v142 k0_hw4 => k0_hw4

def k0_off5 (v151 : BitVec 32) : Fin 5 → Nat :=
  let c0_102 : Index := 0#32
  let c1_103 : Index := 1#32
  let c0_104 : Index := 0#32
  let v152 : Index := Scalar.indexCast v151
  let c0_105 : Index := 0#32
  ![0, 1, 0, v152.toNat, 0]

def k0_chk5 (v151 : BitVec 32) : Prop :=
  (∀ a, (k0_off5 v151) a + S1x1x1x512x128.size a ≤ S2x2x2x544x128.size a)
theorem k0_off5_inb : ∀ (v151 : BitVec 32) (k0_hw5 : k0_chk5 v151), ∀ a, (k0_off5 v151) a + S1x1x1x512x128.size a ≤ S2x2x2x544x128.size a := fun v151 k0_hw5 => k0_hw5

def k0_off6 (v159 : BitVec 32) : Fin 5 → Nat :=
  let c0_107 : Index := 0#32
  let c1_108 : Index := 1#32
  let c0_109 : Index := 0#32
  let v160 : Index := Scalar.indexCast v159
  let c0_110 : Index := 0#32
  ![0, 1, 0, v160.toNat, 0]

def k0_chk6 (v159 : BitVec 32) : Prop :=
  (∀ a, (k0_off6 v159) a + S1x1x1x512x128.size a ≤ S2x2x2x544x128.size a)
theorem k0_off6_inb : ∀ (v159 : BitVec 32) (k0_hw6 : k0_chk6 v159), ∀ a, (k0_off6 v159) a + S1x1x1x512x128.size a ≤ S2x2x2x544x128.size a := fun v159 k0_hw6 => k0_hw6

def k0_off7 (v175 : BitVec 32) : Fin 5 → Nat :=
  let c0_117 : Index := 0#32
  let c0_118 : Index := 0#32
  let c1_119 : Index := 1#32
  let v176 : Index := Scalar.indexCast v175
  let c0_120 : Index := 0#32
  ![0, 0, 1, v176.toNat, 0]

def k0_chk7 (v175 : BitVec 32) : Prop :=
  (∀ a, (k0_off7 v175) a + S1x1x1x512x128.size a ≤ S2x2x2x544x128.size a)
theorem k0_off7_inb : ∀ (v175 : BitVec 32) (k0_hw7 : k0_chk7 v175), ∀ a, (k0_off7 v175) a + S1x1x1x512x128.size a ≤ S2x2x2x544x128.size a := fun v175 k0_hw7 => k0_hw7

def k0_off8 (v184 : BitVec 32) : Fin 5 → Nat :=
  let c0_122 : Index := 0#32
  let c0_123 : Index := 0#32
  let c1_124 : Index := 1#32
  let v185 : Index := Scalar.indexCast v184
  let c0_125 : Index := 0#32
  ![0, 0, 1, v185.toNat, 0]

def k0_chk8 (v184 : BitVec 32) : Prop :=
  (∀ a, (k0_off8 v184) a + S1x1x1x512x128.size a ≤ S2x2x2x544x128.size a)
theorem k0_off8_inb : ∀ (v184 : BitVec 32) (k0_hw8 : k0_chk8 v184), ∀ a, (k0_off8 v184) a + S1x1x1x512x128.size a ≤ S2x2x2x544x128.size a := fun v184 k0_hw8 => k0_hw8

def k0_off9 (v192 : BitVec 32) : Fin 5 → Nat :=
  let c0_127 : Index := 0#32
  let c0_128 : Index := 0#32
  let c1_129 : Index := 1#32
  let v193 : Index := Scalar.indexCast v192
  let c0_130 : Index := 0#32
  ![0, 0, 1, v193.toNat, 0]

def k0_chk9 (v192 : BitVec 32) : Prop :=
  (∀ a, (k0_off9 v192) a + S1x1x1x512x128.size a ≤ S2x2x2x544x128.size a)
theorem k0_off9_inb : ∀ (v192 : BitVec 32) (k0_hw9 : k0_chk9 v192), ∀ a, (k0_off9 v192) a + S1x1x1x512x128.size a ≤ S2x2x2x544x128.size a := fun v192 k0_hw9 => k0_hw9

def k0_off10 (v216 : BitVec 32) : Fin 5 → Nat :=
  let c0_139 : Index := 0#32
  let c1_140 : Index := 1#32
  let c1_141 : Index := 1#32
  let v217 : Index := Scalar.indexCast v216
  let c0_142 : Index := 0#32
  ![0, 1, 1, v217.toNat, 0]

def k0_chk10 (v216 : BitVec 32) : Prop :=
  (∀ a, (k0_off10 v216) a + S1x1x1x512x128.size a ≤ S2x2x2x544x128.size a)
theorem k0_off10_inb : ∀ (v216 : BitVec 32) (k0_hw10 : k0_chk10 v216), ∀ a, (k0_off10 v216) a + S1x1x1x512x128.size a ≤ S2x2x2x544x128.size a := fun v216 k0_hw10 => k0_hw10

def k0_off11 (v225 : BitVec 32) : Fin 5 → Nat :=
  let c0_144 : Index := 0#32
  let c1_145 : Index := 1#32
  let c1_146 : Index := 1#32
  let v226 : Index := Scalar.indexCast v225
  let c0_147 : Index := 0#32
  ![0, 1, 1, v226.toNat, 0]

def k0_chk11 (v225 : BitVec 32) : Prop :=
  (∀ a, (k0_off11 v225) a + S1x1x1x512x128.size a ≤ S2x2x2x544x128.size a)
theorem k0_off11_inb : ∀ (v225 : BitVec 32) (k0_hw11 : k0_chk11 v225), ∀ a, (k0_off11 v225) a + S1x1x1x512x128.size a ≤ S2x2x2x544x128.size a := fun v225 k0_hw11 => k0_hw11

def k0_off12 (v233 : BitVec 32) : Fin 5 → Nat :=
  let c0_149 : Index := 0#32
  let c1_150 : Index := 1#32
  let c1_151 : Index := 1#32
  let v234 : Index := Scalar.indexCast v233
  let c0_152 : Index := 0#32
  ![0, 1, 1, v234.toNat, 0]

def k0_chk12 (v233 : BitVec 32) : Prop :=
  (∀ a, (k0_off12 v233) a + S1x1x1x512x128.size a ≤ S2x2x2x544x128.size a)
theorem k0_off12_inb : ∀ (v233 : BitVec 32) (k0_hw12 : k0_chk12 v233), ∀ a, (k0_off12 v233) a + S1x1x1x512x128.size a ≤ S2x2x2x544x128.size a := fun v233 k0_hw12 => k0_hw12

def k0_off13 (v271 : BitVec 32) : Fin 5 → Nat :=
  let c1_184 : Index := 1#32
  let c0_185 : Index := 0#32
  let c0_186 : Index := 0#32
  let v272 : Index := Scalar.indexCast v271
  let c0_187 : Index := 0#32
  ![1, 0, 0, v272.toNat, 0]

def k0_chk13 (v271 : BitVec 32) : Prop :=
  (∀ a, (k0_off13 v271) a + S1x1x1x512x128.size a ≤ S2x2x2x544x128.size a)
theorem k0_off13_inb : ∀ (v271 : BitVec 32) (k0_hw13 : k0_chk13 v271), ∀ a, (k0_off13 v271) a + S1x1x1x512x128.size a ≤ S2x2x2x544x128.size a := fun v271 k0_hw13 => k0_hw13

def k0_off14 (v280 : BitVec 32) : Fin 5 → Nat :=
  let c1_189 : Index := 1#32
  let c0_190 : Index := 0#32
  let c0_191 : Index := 0#32
  let v281 : Index := Scalar.indexCast v280
  let c0_192 : Index := 0#32
  ![1, 0, 0, v281.toNat, 0]

def k0_chk14 (v280 : BitVec 32) : Prop :=
  (∀ a, (k0_off14 v280) a + S1x1x1x512x128.size a ≤ S2x2x2x544x128.size a)
theorem k0_off14_inb : ∀ (v280 : BitVec 32) (k0_hw14 : k0_chk14 v280), ∀ a, (k0_off14 v280) a + S1x1x1x512x128.size a ≤ S2x2x2x544x128.size a := fun v280 k0_hw14 => k0_hw14

def k0_off15 (v288 : BitVec 32) : Fin 5 → Nat :=
  let c1_194 : Index := 1#32
  let c0_195 : Index := 0#32
  let c0_196 : Index := 0#32
  let v289 : Index := Scalar.indexCast v288
  let c0_197 : Index := 0#32
  ![1, 0, 0, v289.toNat, 0]

def k0_chk15 (v288 : BitVec 32) : Prop :=
  (∀ a, (k0_off15 v288) a + S1x1x1x512x128.size a ≤ S2x2x2x544x128.size a)
theorem k0_off15_inb : ∀ (v288 : BitVec 32) (k0_hw15 : k0_chk15 v288), ∀ a, (k0_off15 v288) a + S1x1x1x512x128.size a ≤ S2x2x2x544x128.size a := fun v288 k0_hw15 => k0_hw15

def k0_off16 (v312 : BitVec 32) : Fin 5 → Nat :=
  let c1_207 : Index := 1#32
  let c1_208 : Index := 1#32
  let c0_209 : Index := 0#32
  let v313 : Index := Scalar.indexCast v312
  let c0_210 : Index := 0#32
  ![1, 1, 0, v313.toNat, 0]

def k0_chk16 (v312 : BitVec 32) : Prop :=
  (∀ a, (k0_off16 v312) a + S1x1x1x512x128.size a ≤ S2x2x2x544x128.size a)
theorem k0_off16_inb : ∀ (v312 : BitVec 32) (k0_hw16 : k0_chk16 v312), ∀ a, (k0_off16 v312) a + S1x1x1x512x128.size a ≤ S2x2x2x544x128.size a := fun v312 k0_hw16 => k0_hw16

def k0_off17 (v321 : BitVec 32) : Fin 5 → Nat :=
  let c1_212 : Index := 1#32
  let c1_213 : Index := 1#32
  let c0_214 : Index := 0#32
  let v322 : Index := Scalar.indexCast v321
  let c0_215 : Index := 0#32
  ![1, 1, 0, v322.toNat, 0]

def k0_chk17 (v321 : BitVec 32) : Prop :=
  (∀ a, (k0_off17 v321) a + S1x1x1x512x128.size a ≤ S2x2x2x544x128.size a)
theorem k0_off17_inb : ∀ (v321 : BitVec 32) (k0_hw17 : k0_chk17 v321), ∀ a, (k0_off17 v321) a + S1x1x1x512x128.size a ≤ S2x2x2x544x128.size a := fun v321 k0_hw17 => k0_hw17

def k0_off18 (v329 : BitVec 32) : Fin 5 → Nat :=
  let c1_217 : Index := 1#32
  let c1_218 : Index := 1#32
  let c0_219 : Index := 0#32
  let v330 : Index := Scalar.indexCast v329
  let c0_220 : Index := 0#32
  ![1, 1, 0, v330.toNat, 0]

def k0_chk18 (v329 : BitVec 32) : Prop :=
  (∀ a, (k0_off18 v329) a + S1x1x1x512x128.size a ≤ S2x2x2x544x128.size a)
theorem k0_off18_inb : ∀ (v329 : BitVec 32) (k0_hw18 : k0_chk18 v329), ∀ a, (k0_off18 v329) a + S1x1x1x512x128.size a ≤ S2x2x2x544x128.size a := fun v329 k0_hw18 => k0_hw18

def k0_off19 (v345 : BitVec 32) : Fin 5 → Nat :=
  let c1_227 : Index := 1#32
  let c0_228 : Index := 0#32
  let c1_229 : Index := 1#32
  let v346 : Index := Scalar.indexCast v345
  let c0_230 : Index := 0#32
  ![1, 0, 1, v346.toNat, 0]

def k0_chk19 (v345 : BitVec 32) : Prop :=
  (∀ a, (k0_off19 v345) a + S1x1x1x512x128.size a ≤ S2x2x2x544x128.size a)
theorem k0_off19_inb : ∀ (v345 : BitVec 32) (k0_hw19 : k0_chk19 v345), ∀ a, (k0_off19 v345) a + S1x1x1x512x128.size a ≤ S2x2x2x544x128.size a := fun v345 k0_hw19 => k0_hw19

def k0_off20 (v354 : BitVec 32) : Fin 5 → Nat :=
  let c1_232 : Index := 1#32
  let c0_233 : Index := 0#32
  let c1_234 : Index := 1#32
  let v355 : Index := Scalar.indexCast v354
  let c0_235 : Index := 0#32
  ![1, 0, 1, v355.toNat, 0]

def k0_chk20 (v354 : BitVec 32) : Prop :=
  (∀ a, (k0_off20 v354) a + S1x1x1x512x128.size a ≤ S2x2x2x544x128.size a)
theorem k0_off20_inb : ∀ (v354 : BitVec 32) (k0_hw20 : k0_chk20 v354), ∀ a, (k0_off20 v354) a + S1x1x1x512x128.size a ≤ S2x2x2x544x128.size a := fun v354 k0_hw20 => k0_hw20

def k0_off21 (v362 : BitVec 32) : Fin 5 → Nat :=
  let c1_237 : Index := 1#32
  let c0_238 : Index := 0#32
  let c1_239 : Index := 1#32
  let v363 : Index := Scalar.indexCast v362
  let c0_240 : Index := 0#32
  ![1, 0, 1, v363.toNat, 0]

def k0_chk21 (v362 : BitVec 32) : Prop :=
  (∀ a, (k0_off21 v362) a + S1x1x1x512x128.size a ≤ S2x2x2x544x128.size a)
theorem k0_off21_inb : ∀ (v362 : BitVec 32) (k0_hw21 : k0_chk21 v362), ∀ a, (k0_off21 v362) a + S1x1x1x512x128.size a ≤ S2x2x2x544x128.size a := fun v362 k0_hw21 => k0_hw21

def k0_off22 (v386 : BitVec 32) : Fin 5 → Nat :=
  let c1_249 : Index := 1#32
  let c1_250 : Index := 1#32
  let c1_251 : Index := 1#32
  let v387 : Index := Scalar.indexCast v386
  let c0_252 : Index := 0#32
  ![1, 1, 1, v387.toNat, 0]

def k0_chk22 (v386 : BitVec 32) : Prop :=
  (∀ a, (k0_off22 v386) a + S1x1x1x512x128.size a ≤ S2x2x2x544x128.size a)
theorem k0_off22_inb : ∀ (v386 : BitVec 32) (k0_hw22 : k0_chk22 v386), ∀ a, (k0_off22 v386) a + S1x1x1x512x128.size a ≤ S2x2x2x544x128.size a := fun v386 k0_hw22 => k0_hw22

def k0_off23 (v395 : BitVec 32) : Fin 5 → Nat :=
  let c1_254 : Index := 1#32
  let c1_255 : Index := 1#32
  let c1_256 : Index := 1#32
  let v396 : Index := Scalar.indexCast v395
  let c0_257 : Index := 0#32
  ![1, 1, 1, v396.toNat, 0]

def k0_chk23 (v395 : BitVec 32) : Prop :=
  (∀ a, (k0_off23 v395) a + S1x1x1x512x128.size a ≤ S2x2x2x544x128.size a)
theorem k0_off23_inb : ∀ (v395 : BitVec 32) (k0_hw23 : k0_chk23 v395), ∀ a, (k0_off23 v395) a + S1x1x1x512x128.size a ≤ S2x2x2x544x128.size a := fun v395 k0_hw23 => k0_hw23

def k0_off24 (v403 : BitVec 32) : Fin 5 → Nat :=
  let c1_259 : Index := 1#32
  let c1_260 : Index := 1#32
  let c1_261 : Index := 1#32
  let v404 : Index := Scalar.indexCast v403
  let c0_262 : Index := 0#32
  ![1, 1, 1, v404.toNat, 0]

def k0_chk24 (v403 : BitVec 32) : Prop :=
  (∀ a, (k0_off24 v403) a + S1x1x1x512x128.size a ≤ S2x2x2x544x128.size a)
theorem k0_off24_inb : ∀ (v403 : BitVec 32) (k0_hw24 : k0_chk24 v403), ∀ a, (k0_off24 v403) a + S1x1x1x512x128.size a ≤ S2x2x2x544x128.size a := fun v403 k0_hw24 => k0_hw24

def k0_off25 (v441 : BitVec 32) : Fin 5 → Nat :=
  let c0_294 : Index := 0#32
  let c0_295 : Index := 0#32
  let c0_296 : Index := 0#32
  let v442 : Index := Scalar.indexCast v441
  let c0_297 : Index := 0#32
  ![0, 0, 0, v442.toNat, 0]

def k0_chk25 (v441 : BitVec 32) : Prop :=
  (∀ a, (k0_off25 v441) a + S1x1x1x512x128.size a ≤ S2x2x2x544x128.size a)
theorem k0_off25_inb : ∀ (v441 : BitVec 32) (k0_hw25 : k0_chk25 v441), ∀ a, (k0_off25 v441) a + S1x1x1x512x128.size a ≤ S2x2x2x544x128.size a := fun v441 k0_hw25 => k0_hw25

def k0_off26 (v450 : BitVec 32) : Fin 5 → Nat :=
  let c0_299 : Index := 0#32
  let c0_300 : Index := 0#32
  let c0_301 : Index := 0#32
  let v451 : Index := Scalar.indexCast v450
  let c0_302 : Index := 0#32
  ![0, 0, 0, v451.toNat, 0]

def k0_chk26 (v450 : BitVec 32) : Prop :=
  (∀ a, (k0_off26 v450) a + S1x1x1x512x128.size a ≤ S2x2x2x544x128.size a)
theorem k0_off26_inb : ∀ (v450 : BitVec 32) (k0_hw26 : k0_chk26 v450), ∀ a, (k0_off26 v450) a + S1x1x1x512x128.size a ≤ S2x2x2x544x128.size a := fun v450 k0_hw26 => k0_hw26

def k0_off27 (v458 : BitVec 32) : Fin 5 → Nat :=
  let c0_304 : Index := 0#32
  let c0_305 : Index := 0#32
  let c0_306 : Index := 0#32
  let v459 : Index := Scalar.indexCast v458
  let c0_307 : Index := 0#32
  ![0, 0, 0, v459.toNat, 0]

def k0_chk27 (v458 : BitVec 32) : Prop :=
  (∀ a, (k0_off27 v458) a + S1x1x1x512x128.size a ≤ S2x2x2x544x128.size a)
theorem k0_off27_inb : ∀ (v458 : BitVec 32) (k0_hw27 : k0_chk27 v458), ∀ a, (k0_off27 v458) a + S1x1x1x512x128.size a ≤ S2x2x2x544x128.size a := fun v458 k0_hw27 => k0_hw27

def k0_off28 (v482 : BitVec 32) : Fin 5 → Nat :=
  let c0_317 : Index := 0#32
  let c1_318 : Index := 1#32
  let c0_319 : Index := 0#32
  let v483 : Index := Scalar.indexCast v482
  let c0_320 : Index := 0#32
  ![0, 1, 0, v483.toNat, 0]

def k0_chk28 (v482 : BitVec 32) : Prop :=
  (∀ a, (k0_off28 v482) a + S1x1x1x512x128.size a ≤ S2x2x2x544x128.size a)
theorem k0_off28_inb : ∀ (v482 : BitVec 32) (k0_hw28 : k0_chk28 v482), ∀ a, (k0_off28 v482) a + S1x1x1x512x128.size a ≤ S2x2x2x544x128.size a := fun v482 k0_hw28 => k0_hw28

def k0_off29 (v491 : BitVec 32) : Fin 5 → Nat :=
  let c0_322 : Index := 0#32
  let c1_323 : Index := 1#32
  let c0_324 : Index := 0#32
  let v492 : Index := Scalar.indexCast v491
  let c0_325 : Index := 0#32
  ![0, 1, 0, v492.toNat, 0]

def k0_chk29 (v491 : BitVec 32) : Prop :=
  (∀ a, (k0_off29 v491) a + S1x1x1x512x128.size a ≤ S2x2x2x544x128.size a)
theorem k0_off29_inb : ∀ (v491 : BitVec 32) (k0_hw29 : k0_chk29 v491), ∀ a, (k0_off29 v491) a + S1x1x1x512x128.size a ≤ S2x2x2x544x128.size a := fun v491 k0_hw29 => k0_hw29

def k0_off30 (v499 : BitVec 32) : Fin 5 → Nat :=
  let c0_327 : Index := 0#32
  let c1_328 : Index := 1#32
  let c0_329 : Index := 0#32
  let v500 : Index := Scalar.indexCast v499
  let c0_330 : Index := 0#32
  ![0, 1, 0, v500.toNat, 0]

def k0_chk30 (v499 : BitVec 32) : Prop :=
  (∀ a, (k0_off30 v499) a + S1x1x1x512x128.size a ≤ S2x2x2x544x128.size a)
theorem k0_off30_inb : ∀ (v499 : BitVec 32) (k0_hw30 : k0_chk30 v499), ∀ a, (k0_off30 v499) a + S1x1x1x512x128.size a ≤ S2x2x2x544x128.size a := fun v499 k0_hw30 => k0_hw30

def k0_off31 (v515 : BitVec 32) : Fin 5 → Nat :=
  let c0_337 : Index := 0#32
  let c0_338 : Index := 0#32
  let c1_339 : Index := 1#32
  let v516 : Index := Scalar.indexCast v515
  let c0_340 : Index := 0#32
  ![0, 0, 1, v516.toNat, 0]

def k0_chk31 (v515 : BitVec 32) : Prop :=
  (∀ a, (k0_off31 v515) a + S1x1x1x512x128.size a ≤ S2x2x2x544x128.size a)
theorem k0_off31_inb : ∀ (v515 : BitVec 32) (k0_hw31 : k0_chk31 v515), ∀ a, (k0_off31 v515) a + S1x1x1x512x128.size a ≤ S2x2x2x544x128.size a := fun v515 k0_hw31 => k0_hw31

def k0_off32 (v524 : BitVec 32) : Fin 5 → Nat :=
  let c0_342 : Index := 0#32
  let c0_343 : Index := 0#32
  let c1_344 : Index := 1#32
  let v525 : Index := Scalar.indexCast v524
  let c0_345 : Index := 0#32
  ![0, 0, 1, v525.toNat, 0]

def k0_chk32 (v524 : BitVec 32) : Prop :=
  (∀ a, (k0_off32 v524) a + S1x1x1x512x128.size a ≤ S2x2x2x544x128.size a)
theorem k0_off32_inb : ∀ (v524 : BitVec 32) (k0_hw32 : k0_chk32 v524), ∀ a, (k0_off32 v524) a + S1x1x1x512x128.size a ≤ S2x2x2x544x128.size a := fun v524 k0_hw32 => k0_hw32

def k0_off33 (v532 : BitVec 32) : Fin 5 → Nat :=
  let c0_347 : Index := 0#32
  let c0_348 : Index := 0#32
  let c1_349 : Index := 1#32
  let v533 : Index := Scalar.indexCast v532
  let c0_350 : Index := 0#32
  ![0, 0, 1, v533.toNat, 0]

def k0_chk33 (v532 : BitVec 32) : Prop :=
  (∀ a, (k0_off33 v532) a + S1x1x1x512x128.size a ≤ S2x2x2x544x128.size a)
theorem k0_off33_inb : ∀ (v532 : BitVec 32) (k0_hw33 : k0_chk33 v532), ∀ a, (k0_off33 v532) a + S1x1x1x512x128.size a ≤ S2x2x2x544x128.size a := fun v532 k0_hw33 => k0_hw33

def k0_off34 (v556 : BitVec 32) : Fin 5 → Nat :=
  let c0_359 : Index := 0#32
  let c1_360 : Index := 1#32
  let c1_361 : Index := 1#32
  let v557 : Index := Scalar.indexCast v556
  let c0_362 : Index := 0#32
  ![0, 1, 1, v557.toNat, 0]

def k0_chk34 (v556 : BitVec 32) : Prop :=
  (∀ a, (k0_off34 v556) a + S1x1x1x512x128.size a ≤ S2x2x2x544x128.size a)
theorem k0_off34_inb : ∀ (v556 : BitVec 32) (k0_hw34 : k0_chk34 v556), ∀ a, (k0_off34 v556) a + S1x1x1x512x128.size a ≤ S2x2x2x544x128.size a := fun v556 k0_hw34 => k0_hw34

def k0_off35 (v565 : BitVec 32) : Fin 5 → Nat :=
  let c0_364 : Index := 0#32
  let c1_365 : Index := 1#32
  let c1_366 : Index := 1#32
  let v566 : Index := Scalar.indexCast v565
  let c0_367 : Index := 0#32
  ![0, 1, 1, v566.toNat, 0]

def k0_chk35 (v565 : BitVec 32) : Prop :=
  (∀ a, (k0_off35 v565) a + S1x1x1x512x128.size a ≤ S2x2x2x544x128.size a)
theorem k0_off35_inb : ∀ (v565 : BitVec 32) (k0_hw35 : k0_chk35 v565), ∀ a, (k0_off35 v565) a + S1x1x1x512x128.size a ≤ S2x2x2x544x128.size a := fun v565 k0_hw35 => k0_hw35

def k0_off36 (v573 : BitVec 32) : Fin 5 → Nat :=
  let c0_369 : Index := 0#32
  let c1_370 : Index := 1#32
  let c1_371 : Index := 1#32
  let v574 : Index := Scalar.indexCast v573
  let c0_372 : Index := 0#32
  ![0, 1, 1, v574.toNat, 0]

def k0_chk36 (v573 : BitVec 32) : Prop :=
  (∀ a, (k0_off36 v573) a + S1x1x1x512x128.size a ≤ S2x2x2x544x128.size a)
theorem k0_off36_inb : ∀ (v573 : BitVec 32) (k0_hw36 : k0_chk36 v573), ∀ a, (k0_off36 v573) a + S1x1x1x512x128.size a ≤ S2x2x2x544x128.size a := fun v573 k0_hw36 => k0_hw36

def k0_off37 (v611 : BitVec 32) : Fin 5 → Nat :=
  let c1_404 : Index := 1#32
  let c0_405 : Index := 0#32
  let c0_406 : Index := 0#32
  let v612 : Index := Scalar.indexCast v611
  let c0_407 : Index := 0#32
  ![1, 0, 0, v612.toNat, 0]

def k0_chk37 (v611 : BitVec 32) : Prop :=
  (∀ a, (k0_off37 v611) a + S1x1x1x512x128.size a ≤ S2x2x2x544x128.size a)
theorem k0_off37_inb : ∀ (v611 : BitVec 32) (k0_hw37 : k0_chk37 v611), ∀ a, (k0_off37 v611) a + S1x1x1x512x128.size a ≤ S2x2x2x544x128.size a := fun v611 k0_hw37 => k0_hw37

def k0_off38 (v620 : BitVec 32) : Fin 5 → Nat :=
  let c1_409 : Index := 1#32
  let c0_410 : Index := 0#32
  let c0_411 : Index := 0#32
  let v621 : Index := Scalar.indexCast v620
  let c0_412 : Index := 0#32
  ![1, 0, 0, v621.toNat, 0]

def k0_chk38 (v620 : BitVec 32) : Prop :=
  (∀ a, (k0_off38 v620) a + S1x1x1x512x128.size a ≤ S2x2x2x544x128.size a)
theorem k0_off38_inb : ∀ (v620 : BitVec 32) (k0_hw38 : k0_chk38 v620), ∀ a, (k0_off38 v620) a + S1x1x1x512x128.size a ≤ S2x2x2x544x128.size a := fun v620 k0_hw38 => k0_hw38

def k0_off39 (v628 : BitVec 32) : Fin 5 → Nat :=
  let c1_414 : Index := 1#32
  let c0_415 : Index := 0#32
  let c0_416 : Index := 0#32
  let v629 : Index := Scalar.indexCast v628
  let c0_417 : Index := 0#32
  ![1, 0, 0, v629.toNat, 0]

def k0_chk39 (v628 : BitVec 32) : Prop :=
  (∀ a, (k0_off39 v628) a + S1x1x1x512x128.size a ≤ S2x2x2x544x128.size a)
theorem k0_off39_inb : ∀ (v628 : BitVec 32) (k0_hw39 : k0_chk39 v628), ∀ a, (k0_off39 v628) a + S1x1x1x512x128.size a ≤ S2x2x2x544x128.size a := fun v628 k0_hw39 => k0_hw39

def k0_off40 (v652 : BitVec 32) : Fin 5 → Nat :=
  let c1_427 : Index := 1#32
  let c1_428 : Index := 1#32
  let c0_429 : Index := 0#32
  let v653 : Index := Scalar.indexCast v652
  let c0_430 : Index := 0#32
  ![1, 1, 0, v653.toNat, 0]

def k0_chk40 (v652 : BitVec 32) : Prop :=
  (∀ a, (k0_off40 v652) a + S1x1x1x512x128.size a ≤ S2x2x2x544x128.size a)
theorem k0_off40_inb : ∀ (v652 : BitVec 32) (k0_hw40 : k0_chk40 v652), ∀ a, (k0_off40 v652) a + S1x1x1x512x128.size a ≤ S2x2x2x544x128.size a := fun v652 k0_hw40 => k0_hw40

def k0_off41 (v661 : BitVec 32) : Fin 5 → Nat :=
  let c1_432 : Index := 1#32
  let c1_433 : Index := 1#32
  let c0_434 : Index := 0#32
  let v662 : Index := Scalar.indexCast v661
  let c0_435 : Index := 0#32
  ![1, 1, 0, v662.toNat, 0]

def k0_chk41 (v661 : BitVec 32) : Prop :=
  (∀ a, (k0_off41 v661) a + S1x1x1x512x128.size a ≤ S2x2x2x544x128.size a)
theorem k0_off41_inb : ∀ (v661 : BitVec 32) (k0_hw41 : k0_chk41 v661), ∀ a, (k0_off41 v661) a + S1x1x1x512x128.size a ≤ S2x2x2x544x128.size a := fun v661 k0_hw41 => k0_hw41

def k0_off42 (v669 : BitVec 32) : Fin 5 → Nat :=
  let c1_437 : Index := 1#32
  let c1_438 : Index := 1#32
  let c0_439 : Index := 0#32
  let v670 : Index := Scalar.indexCast v669
  let c0_440 : Index := 0#32
  ![1, 1, 0, v670.toNat, 0]

def k0_chk42 (v669 : BitVec 32) : Prop :=
  (∀ a, (k0_off42 v669) a + S1x1x1x512x128.size a ≤ S2x2x2x544x128.size a)
theorem k0_off42_inb : ∀ (v669 : BitVec 32) (k0_hw42 : k0_chk42 v669), ∀ a, (k0_off42 v669) a + S1x1x1x512x128.size a ≤ S2x2x2x544x128.size a := fun v669 k0_hw42 => k0_hw42

def k0_off43 (v685 : BitVec 32) : Fin 5 → Nat :=
  let c1_447 : Index := 1#32
  let c0_448 : Index := 0#32
  let c1_449 : Index := 1#32
  let v686 : Index := Scalar.indexCast v685
  let c0_450 : Index := 0#32
  ![1, 0, 1, v686.toNat, 0]

def k0_chk43 (v685 : BitVec 32) : Prop :=
  (∀ a, (k0_off43 v685) a + S1x1x1x512x128.size a ≤ S2x2x2x544x128.size a)
theorem k0_off43_inb : ∀ (v685 : BitVec 32) (k0_hw43 : k0_chk43 v685), ∀ a, (k0_off43 v685) a + S1x1x1x512x128.size a ≤ S2x2x2x544x128.size a := fun v685 k0_hw43 => k0_hw43

def k0_off44 (v694 : BitVec 32) : Fin 5 → Nat :=
  let c1_452 : Index := 1#32
  let c0_453 : Index := 0#32
  let c1_454 : Index := 1#32
  let v695 : Index := Scalar.indexCast v694
  let c0_455 : Index := 0#32
  ![1, 0, 1, v695.toNat, 0]

def k0_chk44 (v694 : BitVec 32) : Prop :=
  (∀ a, (k0_off44 v694) a + S1x1x1x512x128.size a ≤ S2x2x2x544x128.size a)
theorem k0_off44_inb : ∀ (v694 : BitVec 32) (k0_hw44 : k0_chk44 v694), ∀ a, (k0_off44 v694) a + S1x1x1x512x128.size a ≤ S2x2x2x544x128.size a := fun v694 k0_hw44 => k0_hw44

def k0_off45 (v702 : BitVec 32) : Fin 5 → Nat :=
  let c1_457 : Index := 1#32
  let c0_458 : Index := 0#32
  let c1_459 : Index := 1#32
  let v703 : Index := Scalar.indexCast v702
  let c0_460 : Index := 0#32
  ![1, 0, 1, v703.toNat, 0]

def k0_chk45 (v702 : BitVec 32) : Prop :=
  (∀ a, (k0_off45 v702) a + S1x1x1x512x128.size a ≤ S2x2x2x544x128.size a)
theorem k0_off45_inb : ∀ (v702 : BitVec 32) (k0_hw45 : k0_chk45 v702), ∀ a, (k0_off45 v702) a + S1x1x1x512x128.size a ≤ S2x2x2x544x128.size a := fun v702 k0_hw45 => k0_hw45

def k0_off46 (v726 : BitVec 32) : Fin 5 → Nat :=
  let c1_469 : Index := 1#32
  let c1_470 : Index := 1#32
  let c1_471 : Index := 1#32
  let v727 : Index := Scalar.indexCast v726
  let c0_472 : Index := 0#32
  ![1, 1, 1, v727.toNat, 0]

def k0_chk46 (v726 : BitVec 32) : Prop :=
  (∀ a, (k0_off46 v726) a + S1x1x1x512x128.size a ≤ S2x2x2x544x128.size a)
theorem k0_off46_inb : ∀ (v726 : BitVec 32) (k0_hw46 : k0_chk46 v726), ∀ a, (k0_off46 v726) a + S1x1x1x512x128.size a ≤ S2x2x2x544x128.size a := fun v726 k0_hw46 => k0_hw46

def k0_off47 (v735 : BitVec 32) : Fin 5 → Nat :=
  let c1_474 : Index := 1#32
  let c1_475 : Index := 1#32
  let c1_476 : Index := 1#32
  let v736 : Index := Scalar.indexCast v735
  let c0_477 : Index := 0#32
  ![1, 1, 1, v736.toNat, 0]

def k0_chk47 (v735 : BitVec 32) : Prop :=
  (∀ a, (k0_off47 v735) a + S1x1x1x512x128.size a ≤ S2x2x2x544x128.size a)
theorem k0_off47_inb : ∀ (v735 : BitVec 32) (k0_hw47 : k0_chk47 v735), ∀ a, (k0_off47 v735) a + S1x1x1x512x128.size a ≤ S2x2x2x544x128.size a := fun v735 k0_hw47 => k0_hw47

def k0_off48 (v743 : BitVec 32) : Fin 5 → Nat :=
  let c1_479 : Index := 1#32
  let c1_480 : Index := 1#32
  let c1_481 : Index := 1#32
  let v744 : Index := Scalar.indexCast v743
  let c0_482 : Index := 0#32
  ![1, 1, 1, v744.toNat, 0]

def k0_chk48 (v743 : BitVec 32) : Prop :=
  (∀ a, (k0_off48 v743) a + S1x1x1x512x128.size a ≤ S2x2x2x544x128.size a)
theorem k0_off48_inb : ∀ (v743 : BitVec 32) (k0_hw48 : k0_chk48 v743), ∀ a, (k0_off48 v743) a + S1x1x1x512x128.size a ≤ S2x2x2x544x128.size a := fun v743 k0_hw48 => k0_hw48

def k0_off49 (v785 : BitVec 32) : Fin 5 → Nat :=
  let c0_519 : Index := 0#32
  let c0_520 : Index := 0#32
  let c0_521 : Index := 0#32
  let v786 : Index := Scalar.indexCast v785
  let c0_522 : Index := 0#32
  ![0, 0, 0, v786.toNat, 0]

def k0_chk49 (v785 : BitVec 32) : Prop :=
  (∀ a, (k0_off49 v785) a + S1x1x1x512x128.size a ≤ S2x2x2x544x128.size a)
theorem k0_off49_inb : ∀ (v785 : BitVec 32) (k0_hw49 : k0_chk49 v785), ∀ a, (k0_off49 v785) a + S1x1x1x512x128.size a ≤ S2x2x2x544x128.size a := fun v785 k0_hw49 => k0_hw49

def k0_off50 (v794 : BitVec 32) : Fin 5 → Nat :=
  let c0_524 : Index := 0#32
  let c0_525 : Index := 0#32
  let c0_526 : Index := 0#32
  let v795 : Index := Scalar.indexCast v794
  let c0_527 : Index := 0#32
  ![0, 0, 0, v795.toNat, 0]

def k0_chk50 (v794 : BitVec 32) : Prop :=
  (∀ a, (k0_off50 v794) a + S1x1x1x512x128.size a ≤ S2x2x2x544x128.size a)
theorem k0_off50_inb : ∀ (v794 : BitVec 32) (k0_hw50 : k0_chk50 v794), ∀ a, (k0_off50 v794) a + S1x1x1x512x128.size a ≤ S2x2x2x544x128.size a := fun v794 k0_hw50 => k0_hw50

def k0_off51 (v802 : BitVec 32) : Fin 5 → Nat :=
  let c0_529 : Index := 0#32
  let c0_530 : Index := 0#32
  let c0_531 : Index := 0#32
  let v803 : Index := Scalar.indexCast v802
  let c0_532 : Index := 0#32
  ![0, 0, 0, v803.toNat, 0]

def k0_chk51 (v802 : BitVec 32) : Prop :=
  (∀ a, (k0_off51 v802) a + S1x1x1x512x128.size a ≤ S2x2x2x544x128.size a)
theorem k0_off51_inb : ∀ (v802 : BitVec 32) (k0_hw51 : k0_chk51 v802), ∀ a, (k0_off51 v802) a + S1x1x1x512x128.size a ≤ S2x2x2x544x128.size a := fun v802 k0_hw51 => k0_hw51

def k0_off52 (v826 : BitVec 32) : Fin 5 → Nat :=
  let c0_542 : Index := 0#32
  let c1_543 : Index := 1#32
  let c0_544 : Index := 0#32
  let v827 : Index := Scalar.indexCast v826
  let c0_545 : Index := 0#32
  ![0, 1, 0, v827.toNat, 0]

def k0_chk52 (v826 : BitVec 32) : Prop :=
  (∀ a, (k0_off52 v826) a + S1x1x1x512x128.size a ≤ S2x2x2x544x128.size a)
theorem k0_off52_inb : ∀ (v826 : BitVec 32) (k0_hw52 : k0_chk52 v826), ∀ a, (k0_off52 v826) a + S1x1x1x512x128.size a ≤ S2x2x2x544x128.size a := fun v826 k0_hw52 => k0_hw52

def k0_off53 (v835 : BitVec 32) : Fin 5 → Nat :=
  let c0_547 : Index := 0#32
  let c1_548 : Index := 1#32
  let c0_549 : Index := 0#32
  let v836 : Index := Scalar.indexCast v835
  let c0_550 : Index := 0#32
  ![0, 1, 0, v836.toNat, 0]

def k0_chk53 (v835 : BitVec 32) : Prop :=
  (∀ a, (k0_off53 v835) a + S1x1x1x512x128.size a ≤ S2x2x2x544x128.size a)
theorem k0_off53_inb : ∀ (v835 : BitVec 32) (k0_hw53 : k0_chk53 v835), ∀ a, (k0_off53 v835) a + S1x1x1x512x128.size a ≤ S2x2x2x544x128.size a := fun v835 k0_hw53 => k0_hw53

def k0_off54 (v843 : BitVec 32) : Fin 5 → Nat :=
  let c0_552 : Index := 0#32
  let c1_553 : Index := 1#32
  let c0_554 : Index := 0#32
  let v844 : Index := Scalar.indexCast v843
  let c0_555 : Index := 0#32
  ![0, 1, 0, v844.toNat, 0]

def k0_chk54 (v843 : BitVec 32) : Prop :=
  (∀ a, (k0_off54 v843) a + S1x1x1x512x128.size a ≤ S2x2x2x544x128.size a)
theorem k0_off54_inb : ∀ (v843 : BitVec 32) (k0_hw54 : k0_chk54 v843), ∀ a, (k0_off54 v843) a + S1x1x1x512x128.size a ≤ S2x2x2x544x128.size a := fun v843 k0_hw54 => k0_hw54

def k0_off55 (v859 : BitVec 32) : Fin 5 → Nat :=
  let c0_562 : Index := 0#32
  let c0_563 : Index := 0#32
  let c1_564 : Index := 1#32
  let v860 : Index := Scalar.indexCast v859
  let c0_565 : Index := 0#32
  ![0, 0, 1, v860.toNat, 0]

def k0_chk55 (v859 : BitVec 32) : Prop :=
  (∀ a, (k0_off55 v859) a + S1x1x1x512x128.size a ≤ S2x2x2x544x128.size a)
theorem k0_off55_inb : ∀ (v859 : BitVec 32) (k0_hw55 : k0_chk55 v859), ∀ a, (k0_off55 v859) a + S1x1x1x512x128.size a ≤ S2x2x2x544x128.size a := fun v859 k0_hw55 => k0_hw55

def k0_off56 (v868 : BitVec 32) : Fin 5 → Nat :=
  let c0_567 : Index := 0#32
  let c0_568 : Index := 0#32
  let c1_569 : Index := 1#32
  let v869 : Index := Scalar.indexCast v868
  let c0_570 : Index := 0#32
  ![0, 0, 1, v869.toNat, 0]

def k0_chk56 (v868 : BitVec 32) : Prop :=
  (∀ a, (k0_off56 v868) a + S1x1x1x512x128.size a ≤ S2x2x2x544x128.size a)
theorem k0_off56_inb : ∀ (v868 : BitVec 32) (k0_hw56 : k0_chk56 v868), ∀ a, (k0_off56 v868) a + S1x1x1x512x128.size a ≤ S2x2x2x544x128.size a := fun v868 k0_hw56 => k0_hw56

def k0_off57 (v876 : BitVec 32) : Fin 5 → Nat :=
  let c0_572 : Index := 0#32
  let c0_573 : Index := 0#32
  let c1_574 : Index := 1#32
  let v877 : Index := Scalar.indexCast v876
  let c0_575 : Index := 0#32
  ![0, 0, 1, v877.toNat, 0]

def k0_chk57 (v876 : BitVec 32) : Prop :=
  (∀ a, (k0_off57 v876) a + S1x1x1x512x128.size a ≤ S2x2x2x544x128.size a)
theorem k0_off57_inb : ∀ (v876 : BitVec 32) (k0_hw57 : k0_chk57 v876), ∀ a, (k0_off57 v876) a + S1x1x1x512x128.size a ≤ S2x2x2x544x128.size a := fun v876 k0_hw57 => k0_hw57

def k0_off58 (v900 : BitVec 32) : Fin 5 → Nat :=
  let c0_584 : Index := 0#32
  let c1_585 : Index := 1#32
  let c1_586 : Index := 1#32
  let v901 : Index := Scalar.indexCast v900
  let c0_587 : Index := 0#32
  ![0, 1, 1, v901.toNat, 0]

def k0_chk58 (v900 : BitVec 32) : Prop :=
  (∀ a, (k0_off58 v900) a + S1x1x1x512x128.size a ≤ S2x2x2x544x128.size a)
theorem k0_off58_inb : ∀ (v900 : BitVec 32) (k0_hw58 : k0_chk58 v900), ∀ a, (k0_off58 v900) a + S1x1x1x512x128.size a ≤ S2x2x2x544x128.size a := fun v900 k0_hw58 => k0_hw58

def k0_off59 (v909 : BitVec 32) : Fin 5 → Nat :=
  let c0_589 : Index := 0#32
  let c1_590 : Index := 1#32
  let c1_591 : Index := 1#32
  let v910 : Index := Scalar.indexCast v909
  let c0_592 : Index := 0#32
  ![0, 1, 1, v910.toNat, 0]

def k0_chk59 (v909 : BitVec 32) : Prop :=
  (∀ a, (k0_off59 v909) a + S1x1x1x512x128.size a ≤ S2x2x2x544x128.size a)
theorem k0_off59_inb : ∀ (v909 : BitVec 32) (k0_hw59 : k0_chk59 v909), ∀ a, (k0_off59 v909) a + S1x1x1x512x128.size a ≤ S2x2x2x544x128.size a := fun v909 k0_hw59 => k0_hw59

def k0_off60 (v917 : BitVec 32) : Fin 5 → Nat :=
  let c0_594 : Index := 0#32
  let c1_595 : Index := 1#32
  let c1_596 : Index := 1#32
  let v918 : Index := Scalar.indexCast v917
  let c0_597 : Index := 0#32
  ![0, 1, 1, v918.toNat, 0]

def k0_chk60 (v917 : BitVec 32) : Prop :=
  (∀ a, (k0_off60 v917) a + S1x1x1x512x128.size a ≤ S2x2x2x544x128.size a)
theorem k0_off60_inb : ∀ (v917 : BitVec 32) (k0_hw60 : k0_chk60 v917), ∀ a, (k0_off60 v917) a + S1x1x1x512x128.size a ≤ S2x2x2x544x128.size a := fun v917 k0_hw60 => k0_hw60

def k0_off61 (v955 : BitVec 32) : Fin 5 → Nat :=
  let c1_629 : Index := 1#32
  let c0_630 : Index := 0#32
  let c0_631 : Index := 0#32
  let v956 : Index := Scalar.indexCast v955
  let c0_632 : Index := 0#32
  ![1, 0, 0, v956.toNat, 0]

def k0_chk61 (v955 : BitVec 32) : Prop :=
  (∀ a, (k0_off61 v955) a + S1x1x1x512x128.size a ≤ S2x2x2x544x128.size a)
theorem k0_off61_inb : ∀ (v955 : BitVec 32) (k0_hw61 : k0_chk61 v955), ∀ a, (k0_off61 v955) a + S1x1x1x512x128.size a ≤ S2x2x2x544x128.size a := fun v955 k0_hw61 => k0_hw61

def k0_off62 (v964 : BitVec 32) : Fin 5 → Nat :=
  let c1_634 : Index := 1#32
  let c0_635 : Index := 0#32
  let c0_636 : Index := 0#32
  let v965 : Index := Scalar.indexCast v964
  let c0_637 : Index := 0#32
  ![1, 0, 0, v965.toNat, 0]

def k0_chk62 (v964 : BitVec 32) : Prop :=
  (∀ a, (k0_off62 v964) a + S1x1x1x512x128.size a ≤ S2x2x2x544x128.size a)
theorem k0_off62_inb : ∀ (v964 : BitVec 32) (k0_hw62 : k0_chk62 v964), ∀ a, (k0_off62 v964) a + S1x1x1x512x128.size a ≤ S2x2x2x544x128.size a := fun v964 k0_hw62 => k0_hw62

def k0_off63 (v972 : BitVec 32) : Fin 5 → Nat :=
  let c1_639 : Index := 1#32
  let c0_640 : Index := 0#32
  let c0_641 : Index := 0#32
  let v973 : Index := Scalar.indexCast v972
  let c0_642 : Index := 0#32
  ![1, 0, 0, v973.toNat, 0]

def k0_chk63 (v972 : BitVec 32) : Prop :=
  (∀ a, (k0_off63 v972) a + S1x1x1x512x128.size a ≤ S2x2x2x544x128.size a)
theorem k0_off63_inb : ∀ (v972 : BitVec 32) (k0_hw63 : k0_chk63 v972), ∀ a, (k0_off63 v972) a + S1x1x1x512x128.size a ≤ S2x2x2x544x128.size a := fun v972 k0_hw63 => k0_hw63

def k0_off64 (v996 : BitVec 32) : Fin 5 → Nat :=
  let c1_652 : Index := 1#32
  let c1_653 : Index := 1#32
  let c0_654 : Index := 0#32
  let v997 : Index := Scalar.indexCast v996
  let c0_655 : Index := 0#32
  ![1, 1, 0, v997.toNat, 0]

def k0_chk64 (v996 : BitVec 32) : Prop :=
  (∀ a, (k0_off64 v996) a + S1x1x1x512x128.size a ≤ S2x2x2x544x128.size a)
theorem k0_off64_inb : ∀ (v996 : BitVec 32) (k0_hw64 : k0_chk64 v996), ∀ a, (k0_off64 v996) a + S1x1x1x512x128.size a ≤ S2x2x2x544x128.size a := fun v996 k0_hw64 => k0_hw64

def k0_off65 (v1005 : BitVec 32) : Fin 5 → Nat :=
  let c1_657 : Index := 1#32
  let c1_658 : Index := 1#32
  let c0_659 : Index := 0#32
  let v1006 : Index := Scalar.indexCast v1005
  let c0_660 : Index := 0#32
  ![1, 1, 0, v1006.toNat, 0]

def k0_chk65 (v1005 : BitVec 32) : Prop :=
  (∀ a, (k0_off65 v1005) a + S1x1x1x512x128.size a ≤ S2x2x2x544x128.size a)
theorem k0_off65_inb : ∀ (v1005 : BitVec 32) (k0_hw65 : k0_chk65 v1005), ∀ a, (k0_off65 v1005) a + S1x1x1x512x128.size a ≤ S2x2x2x544x128.size a := fun v1005 k0_hw65 => k0_hw65

def k0_off66 (v1013 : BitVec 32) : Fin 5 → Nat :=
  let c1_662 : Index := 1#32
  let c1_663 : Index := 1#32
  let c0_664 : Index := 0#32
  let v1014 : Index := Scalar.indexCast v1013
  let c0_665 : Index := 0#32
  ![1, 1, 0, v1014.toNat, 0]

def k0_chk66 (v1013 : BitVec 32) : Prop :=
  (∀ a, (k0_off66 v1013) a + S1x1x1x512x128.size a ≤ S2x2x2x544x128.size a)
theorem k0_off66_inb : ∀ (v1013 : BitVec 32) (k0_hw66 : k0_chk66 v1013), ∀ a, (k0_off66 v1013) a + S1x1x1x512x128.size a ≤ S2x2x2x544x128.size a := fun v1013 k0_hw66 => k0_hw66

def k0_off67 (v1029 : BitVec 32) : Fin 5 → Nat :=
  let c1_672 : Index := 1#32
  let c0_673 : Index := 0#32
  let c1_674 : Index := 1#32
  let v1030 : Index := Scalar.indexCast v1029
  let c0_675 : Index := 0#32
  ![1, 0, 1, v1030.toNat, 0]

def k0_chk67 (v1029 : BitVec 32) : Prop :=
  (∀ a, (k0_off67 v1029) a + S1x1x1x512x128.size a ≤ S2x2x2x544x128.size a)
theorem k0_off67_inb : ∀ (v1029 : BitVec 32) (k0_hw67 : k0_chk67 v1029), ∀ a, (k0_off67 v1029) a + S1x1x1x512x128.size a ≤ S2x2x2x544x128.size a := fun v1029 k0_hw67 => k0_hw67

def k0_off68 (v1038 : BitVec 32) : Fin 5 → Nat :=
  let c1_677 : Index := 1#32
  let c0_678 : Index := 0#32
  let c1_679 : Index := 1#32
  let v1039 : Index := Scalar.indexCast v1038
  let c0_680 : Index := 0#32
  ![1, 0, 1, v1039.toNat, 0]

def k0_chk68 (v1038 : BitVec 32) : Prop :=
  (∀ a, (k0_off68 v1038) a + S1x1x1x512x128.size a ≤ S2x2x2x544x128.size a)
theorem k0_off68_inb : ∀ (v1038 : BitVec 32) (k0_hw68 : k0_chk68 v1038), ∀ a, (k0_off68 v1038) a + S1x1x1x512x128.size a ≤ S2x2x2x544x128.size a := fun v1038 k0_hw68 => k0_hw68

def k0_off69 (v1046 : BitVec 32) : Fin 5 → Nat :=
  let c1_682 : Index := 1#32
  let c0_683 : Index := 0#32
  let c1_684 : Index := 1#32
  let v1047 : Index := Scalar.indexCast v1046
  let c0_685 : Index := 0#32
  ![1, 0, 1, v1047.toNat, 0]

def k0_chk69 (v1046 : BitVec 32) : Prop :=
  (∀ a, (k0_off69 v1046) a + S1x1x1x512x128.size a ≤ S2x2x2x544x128.size a)
theorem k0_off69_inb : ∀ (v1046 : BitVec 32) (k0_hw69 : k0_chk69 v1046), ∀ a, (k0_off69 v1046) a + S1x1x1x512x128.size a ≤ S2x2x2x544x128.size a := fun v1046 k0_hw69 => k0_hw69

def k0_off70 (v1070 : BitVec 32) : Fin 5 → Nat :=
  let c1_694 : Index := 1#32
  let c1_695 : Index := 1#32
  let c1_696 : Index := 1#32
  let v1071 : Index := Scalar.indexCast v1070
  let c0_697 : Index := 0#32
  ![1, 1, 1, v1071.toNat, 0]

def k0_chk70 (v1070 : BitVec 32) : Prop :=
  (∀ a, (k0_off70 v1070) a + S1x1x1x512x128.size a ≤ S2x2x2x544x128.size a)
theorem k0_off70_inb : ∀ (v1070 : BitVec 32) (k0_hw70 : k0_chk70 v1070), ∀ a, (k0_off70 v1070) a + S1x1x1x512x128.size a ≤ S2x2x2x544x128.size a := fun v1070 k0_hw70 => k0_hw70

def k0_off71 (v1079 : BitVec 32) : Fin 5 → Nat :=
  let c1_699 : Index := 1#32
  let c1_700 : Index := 1#32
  let c1_701 : Index := 1#32
  let v1080 : Index := Scalar.indexCast v1079
  let c0_702 : Index := 0#32
  ![1, 1, 1, v1080.toNat, 0]

def k0_chk71 (v1079 : BitVec 32) : Prop :=
  (∀ a, (k0_off71 v1079) a + S1x1x1x512x128.size a ≤ S2x2x2x544x128.size a)
theorem k0_off71_inb : ∀ (v1079 : BitVec 32) (k0_hw71 : k0_chk71 v1079), ∀ a, (k0_off71 v1079) a + S1x1x1x512x128.size a ≤ S2x2x2x544x128.size a := fun v1079 k0_hw71 => k0_hw71

def k0_off72 (v1087 : BitVec 32) : Fin 5 → Nat :=
  let c1_704 : Index := 1#32
  let c1_705 : Index := 1#32
  let c1_706 : Index := 1#32
  let v1088 : Index := Scalar.indexCast v1087
  let c0_707 : Index := 0#32
  ![1, 1, 1, v1088.toNat, 0]

def k0_chk72 (v1087 : BitVec 32) : Prop :=
  (∀ a, (k0_off72 v1087) a + S1x1x1x512x128.size a ≤ S2x2x2x544x128.size a)
theorem k0_off72_inb : ∀ (v1087 : BitVec 32) (k0_hw72 : k0_chk72 v1087), ∀ a, (k0_off72 v1087) a + S1x1x1x512x128.size a ≤ S2x2x2x544x128.size a := fun v1087 k0_hw72 => k0_hw72

def k0_off73 (v1125 : BitVec 32) : Fin 5 → Nat :=
  let c0_739 : Index := 0#32
  let c0_740 : Index := 0#32
  let c0_741 : Index := 0#32
  let v1126 : Index := Scalar.indexCast v1125
  let c0_742 : Index := 0#32
  ![0, 0, 0, v1126.toNat, 0]

def k0_chk73 (v1125 : BitVec 32) : Prop :=
  (∀ a, (k0_off73 v1125) a + S1x1x1x512x128.size a ≤ S2x2x2x544x128.size a)
theorem k0_off73_inb : ∀ (v1125 : BitVec 32) (k0_hw73 : k0_chk73 v1125), ∀ a, (k0_off73 v1125) a + S1x1x1x512x128.size a ≤ S2x2x2x544x128.size a := fun v1125 k0_hw73 => k0_hw73

def k0_off74 (v1134 : BitVec 32) : Fin 5 → Nat :=
  let c0_744 : Index := 0#32
  let c0_745 : Index := 0#32
  let c0_746 : Index := 0#32
  let v1135 : Index := Scalar.indexCast v1134
  let c0_747 : Index := 0#32
  ![0, 0, 0, v1135.toNat, 0]

def k0_chk74 (v1134 : BitVec 32) : Prop :=
  (∀ a, (k0_off74 v1134) a + S1x1x1x512x128.size a ≤ S2x2x2x544x128.size a)
theorem k0_off74_inb : ∀ (v1134 : BitVec 32) (k0_hw74 : k0_chk74 v1134), ∀ a, (k0_off74 v1134) a + S1x1x1x512x128.size a ≤ S2x2x2x544x128.size a := fun v1134 k0_hw74 => k0_hw74

def k0_off75 (v1142 : BitVec 32) : Fin 5 → Nat :=
  let c0_749 : Index := 0#32
  let c0_750 : Index := 0#32
  let c0_751 : Index := 0#32
  let v1143 : Index := Scalar.indexCast v1142
  let c0_752 : Index := 0#32
  ![0, 0, 0, v1143.toNat, 0]

def k0_chk75 (v1142 : BitVec 32) : Prop :=
  (∀ a, (k0_off75 v1142) a + S1x1x1x512x128.size a ≤ S2x2x2x544x128.size a)
theorem k0_off75_inb : ∀ (v1142 : BitVec 32) (k0_hw75 : k0_chk75 v1142), ∀ a, (k0_off75 v1142) a + S1x1x1x512x128.size a ≤ S2x2x2x544x128.size a := fun v1142 k0_hw75 => k0_hw75

def k0_off76 (v1166 : BitVec 32) : Fin 5 → Nat :=
  let c0_762 : Index := 0#32
  let c1_763 : Index := 1#32
  let c0_764 : Index := 0#32
  let v1167 : Index := Scalar.indexCast v1166
  let c0_765 : Index := 0#32
  ![0, 1, 0, v1167.toNat, 0]

def k0_chk76 (v1166 : BitVec 32) : Prop :=
  (∀ a, (k0_off76 v1166) a + S1x1x1x512x128.size a ≤ S2x2x2x544x128.size a)
theorem k0_off76_inb : ∀ (v1166 : BitVec 32) (k0_hw76 : k0_chk76 v1166), ∀ a, (k0_off76 v1166) a + S1x1x1x512x128.size a ≤ S2x2x2x544x128.size a := fun v1166 k0_hw76 => k0_hw76

def k0_off77 (v1175 : BitVec 32) : Fin 5 → Nat :=
  let c0_767 : Index := 0#32
  let c1_768 : Index := 1#32
  let c0_769 : Index := 0#32
  let v1176 : Index := Scalar.indexCast v1175
  let c0_770 : Index := 0#32
  ![0, 1, 0, v1176.toNat, 0]

def k0_chk77 (v1175 : BitVec 32) : Prop :=
  (∀ a, (k0_off77 v1175) a + S1x1x1x512x128.size a ≤ S2x2x2x544x128.size a)
theorem k0_off77_inb : ∀ (v1175 : BitVec 32) (k0_hw77 : k0_chk77 v1175), ∀ a, (k0_off77 v1175) a + S1x1x1x512x128.size a ≤ S2x2x2x544x128.size a := fun v1175 k0_hw77 => k0_hw77

def k0_off78 (v1183 : BitVec 32) : Fin 5 → Nat :=
  let c0_772 : Index := 0#32
  let c1_773 : Index := 1#32
  let c0_774 : Index := 0#32
  let v1184 : Index := Scalar.indexCast v1183
  let c0_775 : Index := 0#32
  ![0, 1, 0, v1184.toNat, 0]

def k0_chk78 (v1183 : BitVec 32) : Prop :=
  (∀ a, (k0_off78 v1183) a + S1x1x1x512x128.size a ≤ S2x2x2x544x128.size a)
theorem k0_off78_inb : ∀ (v1183 : BitVec 32) (k0_hw78 : k0_chk78 v1183), ∀ a, (k0_off78 v1183) a + S1x1x1x512x128.size a ≤ S2x2x2x544x128.size a := fun v1183 k0_hw78 => k0_hw78

def k0_off79 (v1199 : BitVec 32) : Fin 5 → Nat :=
  let c0_782 : Index := 0#32
  let c0_783 : Index := 0#32
  let c1_784 : Index := 1#32
  let v1200 : Index := Scalar.indexCast v1199
  let c0_785 : Index := 0#32
  ![0, 0, 1, v1200.toNat, 0]

def k0_chk79 (v1199 : BitVec 32) : Prop :=
  (∀ a, (k0_off79 v1199) a + S1x1x1x512x128.size a ≤ S2x2x2x544x128.size a)
theorem k0_off79_inb : ∀ (v1199 : BitVec 32) (k0_hw79 : k0_chk79 v1199), ∀ a, (k0_off79 v1199) a + S1x1x1x512x128.size a ≤ S2x2x2x544x128.size a := fun v1199 k0_hw79 => k0_hw79

def k0_off80 (v1208 : BitVec 32) : Fin 5 → Nat :=
  let c0_787 : Index := 0#32
  let c0_788 : Index := 0#32
  let c1_789 : Index := 1#32
  let v1209 : Index := Scalar.indexCast v1208
  let c0_790 : Index := 0#32
  ![0, 0, 1, v1209.toNat, 0]

def k0_chk80 (v1208 : BitVec 32) : Prop :=
  (∀ a, (k0_off80 v1208) a + S1x1x1x512x128.size a ≤ S2x2x2x544x128.size a)
theorem k0_off80_inb : ∀ (v1208 : BitVec 32) (k0_hw80 : k0_chk80 v1208), ∀ a, (k0_off80 v1208) a + S1x1x1x512x128.size a ≤ S2x2x2x544x128.size a := fun v1208 k0_hw80 => k0_hw80

def k0_off81 (v1216 : BitVec 32) : Fin 5 → Nat :=
  let c0_792 : Index := 0#32
  let c0_793 : Index := 0#32
  let c1_794 : Index := 1#32
  let v1217 : Index := Scalar.indexCast v1216
  let c0_795 : Index := 0#32
  ![0, 0, 1, v1217.toNat, 0]

def k0_chk81 (v1216 : BitVec 32) : Prop :=
  (∀ a, (k0_off81 v1216) a + S1x1x1x512x128.size a ≤ S2x2x2x544x128.size a)
theorem k0_off81_inb : ∀ (v1216 : BitVec 32) (k0_hw81 : k0_chk81 v1216), ∀ a, (k0_off81 v1216) a + S1x1x1x512x128.size a ≤ S2x2x2x544x128.size a := fun v1216 k0_hw81 => k0_hw81

def k0_off82 (v1240 : BitVec 32) : Fin 5 → Nat :=
  let c0_804 : Index := 0#32
  let c1_805 : Index := 1#32
  let c1_806 : Index := 1#32
  let v1241 : Index := Scalar.indexCast v1240
  let c0_807 : Index := 0#32
  ![0, 1, 1, v1241.toNat, 0]

def k0_chk82 (v1240 : BitVec 32) : Prop :=
  (∀ a, (k0_off82 v1240) a + S1x1x1x512x128.size a ≤ S2x2x2x544x128.size a)
theorem k0_off82_inb : ∀ (v1240 : BitVec 32) (k0_hw82 : k0_chk82 v1240), ∀ a, (k0_off82 v1240) a + S1x1x1x512x128.size a ≤ S2x2x2x544x128.size a := fun v1240 k0_hw82 => k0_hw82

def k0_off83 (v1249 : BitVec 32) : Fin 5 → Nat :=
  let c0_809 : Index := 0#32
  let c1_810 : Index := 1#32
  let c1_811 : Index := 1#32
  let v1250 : Index := Scalar.indexCast v1249
  let c0_812 : Index := 0#32
  ![0, 1, 1, v1250.toNat, 0]

def k0_chk83 (v1249 : BitVec 32) : Prop :=
  (∀ a, (k0_off83 v1249) a + S1x1x1x512x128.size a ≤ S2x2x2x544x128.size a)
theorem k0_off83_inb : ∀ (v1249 : BitVec 32) (k0_hw83 : k0_chk83 v1249), ∀ a, (k0_off83 v1249) a + S1x1x1x512x128.size a ≤ S2x2x2x544x128.size a := fun v1249 k0_hw83 => k0_hw83

def k0_off84 (v1257 : BitVec 32) : Fin 5 → Nat :=
  let c0_814 : Index := 0#32
  let c1_815 : Index := 1#32
  let c1_816 : Index := 1#32
  let v1258 : Index := Scalar.indexCast v1257
  let c0_817 : Index := 0#32
  ![0, 1, 1, v1258.toNat, 0]

def k0_chk84 (v1257 : BitVec 32) : Prop :=
  (∀ a, (k0_off84 v1257) a + S1x1x1x512x128.size a ≤ S2x2x2x544x128.size a)
theorem k0_off84_inb : ∀ (v1257 : BitVec 32) (k0_hw84 : k0_chk84 v1257), ∀ a, (k0_off84 v1257) a + S1x1x1x512x128.size a ≤ S2x2x2x544x128.size a := fun v1257 k0_hw84 => k0_hw84

def k0_off85 (v1295 : BitVec 32) : Fin 5 → Nat :=
  let c1_849 : Index := 1#32
  let c0_850 : Index := 0#32
  let c0_851 : Index := 0#32
  let v1296 : Index := Scalar.indexCast v1295
  let c0_852 : Index := 0#32
  ![1, 0, 0, v1296.toNat, 0]

def k0_chk85 (v1295 : BitVec 32) : Prop :=
  (∀ a, (k0_off85 v1295) a + S1x1x1x512x128.size a ≤ S2x2x2x544x128.size a)
theorem k0_off85_inb : ∀ (v1295 : BitVec 32) (k0_hw85 : k0_chk85 v1295), ∀ a, (k0_off85 v1295) a + S1x1x1x512x128.size a ≤ S2x2x2x544x128.size a := fun v1295 k0_hw85 => k0_hw85

def k0_off86 (v1304 : BitVec 32) : Fin 5 → Nat :=
  let c1_854 : Index := 1#32
  let c0_855 : Index := 0#32
  let c0_856 : Index := 0#32
  let v1305 : Index := Scalar.indexCast v1304
  let c0_857 : Index := 0#32
  ![1, 0, 0, v1305.toNat, 0]

def k0_chk86 (v1304 : BitVec 32) : Prop :=
  (∀ a, (k0_off86 v1304) a + S1x1x1x512x128.size a ≤ S2x2x2x544x128.size a)
theorem k0_off86_inb : ∀ (v1304 : BitVec 32) (k0_hw86 : k0_chk86 v1304), ∀ a, (k0_off86 v1304) a + S1x1x1x512x128.size a ≤ S2x2x2x544x128.size a := fun v1304 k0_hw86 => k0_hw86

def k0_off87 (v1312 : BitVec 32) : Fin 5 → Nat :=
  let c1_859 : Index := 1#32
  let c0_860 : Index := 0#32
  let c0_861 : Index := 0#32
  let v1313 : Index := Scalar.indexCast v1312
  let c0_862 : Index := 0#32
  ![1, 0, 0, v1313.toNat, 0]

def k0_chk87 (v1312 : BitVec 32) : Prop :=
  (∀ a, (k0_off87 v1312) a + S1x1x1x512x128.size a ≤ S2x2x2x544x128.size a)
theorem k0_off87_inb : ∀ (v1312 : BitVec 32) (k0_hw87 : k0_chk87 v1312), ∀ a, (k0_off87 v1312) a + S1x1x1x512x128.size a ≤ S2x2x2x544x128.size a := fun v1312 k0_hw87 => k0_hw87

def k0_off88 (v1336 : BitVec 32) : Fin 5 → Nat :=
  let c1_872 : Index := 1#32
  let c1_873 : Index := 1#32
  let c0_874 : Index := 0#32
  let v1337 : Index := Scalar.indexCast v1336
  let c0_875 : Index := 0#32
  ![1, 1, 0, v1337.toNat, 0]

def k0_chk88 (v1336 : BitVec 32) : Prop :=
  (∀ a, (k0_off88 v1336) a + S1x1x1x512x128.size a ≤ S2x2x2x544x128.size a)
theorem k0_off88_inb : ∀ (v1336 : BitVec 32) (k0_hw88 : k0_chk88 v1336), ∀ a, (k0_off88 v1336) a + S1x1x1x512x128.size a ≤ S2x2x2x544x128.size a := fun v1336 k0_hw88 => k0_hw88

def k0_off89 (v1345 : BitVec 32) : Fin 5 → Nat :=
  let c1_877 : Index := 1#32
  let c1_878 : Index := 1#32
  let c0_879 : Index := 0#32
  let v1346 : Index := Scalar.indexCast v1345
  let c0_880 : Index := 0#32
  ![1, 1, 0, v1346.toNat, 0]

def k0_chk89 (v1345 : BitVec 32) : Prop :=
  (∀ a, (k0_off89 v1345) a + S1x1x1x512x128.size a ≤ S2x2x2x544x128.size a)
theorem k0_off89_inb : ∀ (v1345 : BitVec 32) (k0_hw89 : k0_chk89 v1345), ∀ a, (k0_off89 v1345) a + S1x1x1x512x128.size a ≤ S2x2x2x544x128.size a := fun v1345 k0_hw89 => k0_hw89

def k0_off90 (v1353 : BitVec 32) : Fin 5 → Nat :=
  let c1_882 : Index := 1#32
  let c1_883 : Index := 1#32
  let c0_884 : Index := 0#32
  let v1354 : Index := Scalar.indexCast v1353
  let c0_885 : Index := 0#32
  ![1, 1, 0, v1354.toNat, 0]

def k0_chk90 (v1353 : BitVec 32) : Prop :=
  (∀ a, (k0_off90 v1353) a + S1x1x1x512x128.size a ≤ S2x2x2x544x128.size a)
theorem k0_off90_inb : ∀ (v1353 : BitVec 32) (k0_hw90 : k0_chk90 v1353), ∀ a, (k0_off90 v1353) a + S1x1x1x512x128.size a ≤ S2x2x2x544x128.size a := fun v1353 k0_hw90 => k0_hw90

def k0_off91 (v1369 : BitVec 32) : Fin 5 → Nat :=
  let c1_892 : Index := 1#32
  let c0_893 : Index := 0#32
  let c1_894 : Index := 1#32
  let v1370 : Index := Scalar.indexCast v1369
  let c0_895 : Index := 0#32
  ![1, 0, 1, v1370.toNat, 0]

def k0_chk91 (v1369 : BitVec 32) : Prop :=
  (∀ a, (k0_off91 v1369) a + S1x1x1x512x128.size a ≤ S2x2x2x544x128.size a)
theorem k0_off91_inb : ∀ (v1369 : BitVec 32) (k0_hw91 : k0_chk91 v1369), ∀ a, (k0_off91 v1369) a + S1x1x1x512x128.size a ≤ S2x2x2x544x128.size a := fun v1369 k0_hw91 => k0_hw91

def k0_off92 (v1378 : BitVec 32) : Fin 5 → Nat :=
  let c1_897 : Index := 1#32
  let c0_898 : Index := 0#32
  let c1_899 : Index := 1#32
  let v1379 : Index := Scalar.indexCast v1378
  let c0_900 : Index := 0#32
  ![1, 0, 1, v1379.toNat, 0]

def k0_chk92 (v1378 : BitVec 32) : Prop :=
  (∀ a, (k0_off92 v1378) a + S1x1x1x512x128.size a ≤ S2x2x2x544x128.size a)
theorem k0_off92_inb : ∀ (v1378 : BitVec 32) (k0_hw92 : k0_chk92 v1378), ∀ a, (k0_off92 v1378) a + S1x1x1x512x128.size a ≤ S2x2x2x544x128.size a := fun v1378 k0_hw92 => k0_hw92

def k0_off93 (v1386 : BitVec 32) : Fin 5 → Nat :=
  let c1_902 : Index := 1#32
  let c0_903 : Index := 0#32
  let c1_904 : Index := 1#32
  let v1387 : Index := Scalar.indexCast v1386
  let c0_905 : Index := 0#32
  ![1, 0, 1, v1387.toNat, 0]

def k0_chk93 (v1386 : BitVec 32) : Prop :=
  (∀ a, (k0_off93 v1386) a + S1x1x1x512x128.size a ≤ S2x2x2x544x128.size a)
theorem k0_off93_inb : ∀ (v1386 : BitVec 32) (k0_hw93 : k0_chk93 v1386), ∀ a, (k0_off93 v1386) a + S1x1x1x512x128.size a ≤ S2x2x2x544x128.size a := fun v1386 k0_hw93 => k0_hw93

def k0_off94 (v1410 : BitVec 32) : Fin 5 → Nat :=
  let c1_914 : Index := 1#32
  let c1_915 : Index := 1#32
  let c1_916 : Index := 1#32
  let v1411 : Index := Scalar.indexCast v1410
  let c0_917 : Index := 0#32
  ![1, 1, 1, v1411.toNat, 0]

def k0_chk94 (v1410 : BitVec 32) : Prop :=
  (∀ a, (k0_off94 v1410) a + S1x1x1x512x128.size a ≤ S2x2x2x544x128.size a)
theorem k0_off94_inb : ∀ (v1410 : BitVec 32) (k0_hw94 : k0_chk94 v1410), ∀ a, (k0_off94 v1410) a + S1x1x1x512x128.size a ≤ S2x2x2x544x128.size a := fun v1410 k0_hw94 => k0_hw94

def k0_off95 (v1419 : BitVec 32) : Fin 5 → Nat :=
  let c1_919 : Index := 1#32
  let c1_920 : Index := 1#32
  let c1_921 : Index := 1#32
  let v1420 : Index := Scalar.indexCast v1419
  let c0_922 : Index := 0#32
  ![1, 1, 1, v1420.toNat, 0]

def k0_chk95 (v1419 : BitVec 32) : Prop :=
  (∀ a, (k0_off95 v1419) a + S1x1x1x512x128.size a ≤ S2x2x2x544x128.size a)
theorem k0_off95_inb : ∀ (v1419 : BitVec 32) (k0_hw95 : k0_chk95 v1419), ∀ a, (k0_off95 v1419) a + S1x1x1x512x128.size a ≤ S2x2x2x544x128.size a := fun v1419 k0_hw95 => k0_hw95

def k0_off96 (v1427 : BitVec 32) : Fin 5 → Nat :=
  let c1_924 : Index := 1#32
  let c1_925 : Index := 1#32
  let c1_926 : Index := 1#32
  let v1428 : Index := Scalar.indexCast v1427
  let c0_927 : Index := 0#32
  ![1, 1, 1, v1428.toNat, 0]

def k0_chk96 (v1427 : BitVec 32) : Prop :=
  (∀ a, (k0_off96 v1427) a + S1x1x1x512x128.size a ≤ S2x2x2x544x128.size a)
theorem k0_off96_inb : ∀ (v1427 : BitVec 32) (k0_hw96 : k0_chk96 v1427), ∀ a, (k0_off96 v1427) a + S1x1x1x512x128.size a ≤ S2x2x2x544x128.size a := fun v1427 k0_hw96 => k0_hw96

def k0_off97 (v1470 : BitVec 32) : Fin 5 → Nat :=
  let c0_964 : Index := 0#32
  let c0_965 : Index := 0#32
  let c0_966 : Index := 0#32
  let v1471 : Index := Scalar.indexCast v1470
  let c0_967 : Index := 0#32
  ![0, 0, 0, v1471.toNat, 0]

def k0_chk97 (v1470 : BitVec 32) : Prop :=
  (∀ a, (k0_off97 v1470) a + S1x1x1x512x128.size a ≤ S2x2x2x544x128.size a)
theorem k0_off97_inb : ∀ (v1470 : BitVec 32) (k0_hw97 : k0_chk97 v1470), ∀ a, (k0_off97 v1470) a + S1x1x1x512x128.size a ≤ S2x2x2x544x128.size a := fun v1470 k0_hw97 => k0_hw97

def k0_off98 (v1479 : BitVec 32) : Fin 5 → Nat :=
  let c0_969 : Index := 0#32
  let c0_970 : Index := 0#32
  let c0_971 : Index := 0#32
  let v1480 : Index := Scalar.indexCast v1479
  let c0_972 : Index := 0#32
  ![0, 0, 0, v1480.toNat, 0]

def k0_chk98 (v1479 : BitVec 32) : Prop :=
  (∀ a, (k0_off98 v1479) a + S1x1x1x512x128.size a ≤ S2x2x2x544x128.size a)
theorem k0_off98_inb : ∀ (v1479 : BitVec 32) (k0_hw98 : k0_chk98 v1479), ∀ a, (k0_off98 v1479) a + S1x1x1x512x128.size a ≤ S2x2x2x544x128.size a := fun v1479 k0_hw98 => k0_hw98

def k0_off99 (v1487 : BitVec 32) : Fin 5 → Nat :=
  let c0_974 : Index := 0#32
  let c0_975 : Index := 0#32
  let c0_976 : Index := 0#32
  let v1488 : Index := Scalar.indexCast v1487
  let c0_977 : Index := 0#32
  ![0, 0, 0, v1488.toNat, 0]

def k0_chk99 (v1487 : BitVec 32) : Prop :=
  (∀ a, (k0_off99 v1487) a + S1x1x1x512x128.size a ≤ S2x2x2x544x128.size a)
theorem k0_off99_inb : ∀ (v1487 : BitVec 32) (k0_hw99 : k0_chk99 v1487), ∀ a, (k0_off99 v1487) a + S1x1x1x512x128.size a ≤ S2x2x2x544x128.size a := fun v1487 k0_hw99 => k0_hw99

def k0_off100 (v1511 : BitVec 32) : Fin 5 → Nat :=
  let c0_987 : Index := 0#32
  let c1_988 : Index := 1#32
  let c0_989 : Index := 0#32
  let v1512 : Index := Scalar.indexCast v1511
  let c0_990 : Index := 0#32
  ![0, 1, 0, v1512.toNat, 0]

def k0_chk100 (v1511 : BitVec 32) : Prop :=
  (∀ a, (k0_off100 v1511) a + S1x1x1x512x128.size a ≤ S2x2x2x544x128.size a)
theorem k0_off100_inb : ∀ (v1511 : BitVec 32) (k0_hw100 : k0_chk100 v1511), ∀ a, (k0_off100 v1511) a + S1x1x1x512x128.size a ≤ S2x2x2x544x128.size a := fun v1511 k0_hw100 => k0_hw100

def k0_off101 (v1520 : BitVec 32) : Fin 5 → Nat :=
  let c0_992 : Index := 0#32
  let c1_993 : Index := 1#32
  let c0_994 : Index := 0#32
  let v1521 : Index := Scalar.indexCast v1520
  let c0_995 : Index := 0#32
  ![0, 1, 0, v1521.toNat, 0]

def k0_chk101 (v1520 : BitVec 32) : Prop :=
  (∀ a, (k0_off101 v1520) a + S1x1x1x512x128.size a ≤ S2x2x2x544x128.size a)
theorem k0_off101_inb : ∀ (v1520 : BitVec 32) (k0_hw101 : k0_chk101 v1520), ∀ a, (k0_off101 v1520) a + S1x1x1x512x128.size a ≤ S2x2x2x544x128.size a := fun v1520 k0_hw101 => k0_hw101

def k0_off102 (v1528 : BitVec 32) : Fin 5 → Nat :=
  let c0_997 : Index := 0#32
  let c1_998 : Index := 1#32
  let c0_999 : Index := 0#32
  let v1529 : Index := Scalar.indexCast v1528
  let c0_1000 : Index := 0#32
  ![0, 1, 0, v1529.toNat, 0]

def k0_chk102 (v1528 : BitVec 32) : Prop :=
  (∀ a, (k0_off102 v1528) a + S1x1x1x512x128.size a ≤ S2x2x2x544x128.size a)
theorem k0_off102_inb : ∀ (v1528 : BitVec 32) (k0_hw102 : k0_chk102 v1528), ∀ a, (k0_off102 v1528) a + S1x1x1x512x128.size a ≤ S2x2x2x544x128.size a := fun v1528 k0_hw102 => k0_hw102

def k0_off103 (v1544 : BitVec 32) : Fin 5 → Nat :=
  let c0_1007 : Index := 0#32
  let c0_1008 : Index := 0#32
  let c1_1009 : Index := 1#32
  let v1545 : Index := Scalar.indexCast v1544
  let c0_1010 : Index := 0#32
  ![0, 0, 1, v1545.toNat, 0]

def k0_chk103 (v1544 : BitVec 32) : Prop :=
  (∀ a, (k0_off103 v1544) a + S1x1x1x512x128.size a ≤ S2x2x2x544x128.size a)
theorem k0_off103_inb : ∀ (v1544 : BitVec 32) (k0_hw103 : k0_chk103 v1544), ∀ a, (k0_off103 v1544) a + S1x1x1x512x128.size a ≤ S2x2x2x544x128.size a := fun v1544 k0_hw103 => k0_hw103

def k0_off104 (v1553 : BitVec 32) : Fin 5 → Nat :=
  let c0_1012 : Index := 0#32
  let c0_1013 : Index := 0#32
  let c1_1014 : Index := 1#32
  let v1554 : Index := Scalar.indexCast v1553
  let c0_1015 : Index := 0#32
  ![0, 0, 1, v1554.toNat, 0]

def k0_chk104 (v1553 : BitVec 32) : Prop :=
  (∀ a, (k0_off104 v1553) a + S1x1x1x512x128.size a ≤ S2x2x2x544x128.size a)
theorem k0_off104_inb : ∀ (v1553 : BitVec 32) (k0_hw104 : k0_chk104 v1553), ∀ a, (k0_off104 v1553) a + S1x1x1x512x128.size a ≤ S2x2x2x544x128.size a := fun v1553 k0_hw104 => k0_hw104

def k0_off105 (v1561 : BitVec 32) : Fin 5 → Nat :=
  let c0_1017 : Index := 0#32
  let c0_1018 : Index := 0#32
  let c1_1019 : Index := 1#32
  let v1562 : Index := Scalar.indexCast v1561
  let c0_1020 : Index := 0#32
  ![0, 0, 1, v1562.toNat, 0]

def k0_chk105 (v1561 : BitVec 32) : Prop :=
  (∀ a, (k0_off105 v1561) a + S1x1x1x512x128.size a ≤ S2x2x2x544x128.size a)
theorem k0_off105_inb : ∀ (v1561 : BitVec 32) (k0_hw105 : k0_chk105 v1561), ∀ a, (k0_off105 v1561) a + S1x1x1x512x128.size a ≤ S2x2x2x544x128.size a := fun v1561 k0_hw105 => k0_hw105

def k0_off106 (v1585 : BitVec 32) : Fin 5 → Nat :=
  let c0_1029 : Index := 0#32
  let c1_1030 : Index := 1#32
  let c1_1031 : Index := 1#32
  let v1586 : Index := Scalar.indexCast v1585
  let c0_1032 : Index := 0#32
  ![0, 1, 1, v1586.toNat, 0]

def k0_chk106 (v1585 : BitVec 32) : Prop :=
  (∀ a, (k0_off106 v1585) a + S1x1x1x512x128.size a ≤ S2x2x2x544x128.size a)
theorem k0_off106_inb : ∀ (v1585 : BitVec 32) (k0_hw106 : k0_chk106 v1585), ∀ a, (k0_off106 v1585) a + S1x1x1x512x128.size a ≤ S2x2x2x544x128.size a := fun v1585 k0_hw106 => k0_hw106

def k0_off107 (v1594 : BitVec 32) : Fin 5 → Nat :=
  let c0_1034 : Index := 0#32
  let c1_1035 : Index := 1#32
  let c1_1036 : Index := 1#32
  let v1595 : Index := Scalar.indexCast v1594
  let c0_1037 : Index := 0#32
  ![0, 1, 1, v1595.toNat, 0]

def k0_chk107 (v1594 : BitVec 32) : Prop :=
  (∀ a, (k0_off107 v1594) a + S1x1x1x512x128.size a ≤ S2x2x2x544x128.size a)
theorem k0_off107_inb : ∀ (v1594 : BitVec 32) (k0_hw107 : k0_chk107 v1594), ∀ a, (k0_off107 v1594) a + S1x1x1x512x128.size a ≤ S2x2x2x544x128.size a := fun v1594 k0_hw107 => k0_hw107

def k0_off108 (v1602 : BitVec 32) : Fin 5 → Nat :=
  let c0_1039 : Index := 0#32
  let c1_1040 : Index := 1#32
  let c1_1041 : Index := 1#32
  let v1603 : Index := Scalar.indexCast v1602
  let c0_1042 : Index := 0#32
  ![0, 1, 1, v1603.toNat, 0]

def k0_chk108 (v1602 : BitVec 32) : Prop :=
  (∀ a, (k0_off108 v1602) a + S1x1x1x512x128.size a ≤ S2x2x2x544x128.size a)
theorem k0_off108_inb : ∀ (v1602 : BitVec 32) (k0_hw108 : k0_chk108 v1602), ∀ a, (k0_off108 v1602) a + S1x1x1x512x128.size a ≤ S2x2x2x544x128.size a := fun v1602 k0_hw108 => k0_hw108

def k0_off109 (v1640 : BitVec 32) : Fin 5 → Nat :=
  let c1_1074 : Index := 1#32
  let c0_1075 : Index := 0#32
  let c0_1076 : Index := 0#32
  let v1641 : Index := Scalar.indexCast v1640
  let c0_1077 : Index := 0#32
  ![1, 0, 0, v1641.toNat, 0]

def k0_chk109 (v1640 : BitVec 32) : Prop :=
  (∀ a, (k0_off109 v1640) a + S1x1x1x512x128.size a ≤ S2x2x2x544x128.size a)
theorem k0_off109_inb : ∀ (v1640 : BitVec 32) (k0_hw109 : k0_chk109 v1640), ∀ a, (k0_off109 v1640) a + S1x1x1x512x128.size a ≤ S2x2x2x544x128.size a := fun v1640 k0_hw109 => k0_hw109

def k0_off110 (v1649 : BitVec 32) : Fin 5 → Nat :=
  let c1_1079 : Index := 1#32
  let c0_1080 : Index := 0#32
  let c0_1081 : Index := 0#32
  let v1650 : Index := Scalar.indexCast v1649
  let c0_1082 : Index := 0#32
  ![1, 0, 0, v1650.toNat, 0]

def k0_chk110 (v1649 : BitVec 32) : Prop :=
  (∀ a, (k0_off110 v1649) a + S1x1x1x512x128.size a ≤ S2x2x2x544x128.size a)
theorem k0_off110_inb : ∀ (v1649 : BitVec 32) (k0_hw110 : k0_chk110 v1649), ∀ a, (k0_off110 v1649) a + S1x1x1x512x128.size a ≤ S2x2x2x544x128.size a := fun v1649 k0_hw110 => k0_hw110

def k0_off111 (v1657 : BitVec 32) : Fin 5 → Nat :=
  let c1_1084 : Index := 1#32
  let c0_1085 : Index := 0#32
  let c0_1086 : Index := 0#32
  let v1658 : Index := Scalar.indexCast v1657
  let c0_1087 : Index := 0#32
  ![1, 0, 0, v1658.toNat, 0]

def k0_chk111 (v1657 : BitVec 32) : Prop :=
  (∀ a, (k0_off111 v1657) a + S1x1x1x512x128.size a ≤ S2x2x2x544x128.size a)
theorem k0_off111_inb : ∀ (v1657 : BitVec 32) (k0_hw111 : k0_chk111 v1657), ∀ a, (k0_off111 v1657) a + S1x1x1x512x128.size a ≤ S2x2x2x544x128.size a := fun v1657 k0_hw111 => k0_hw111

def k0_off112 (v1681 : BitVec 32) : Fin 5 → Nat :=
  let c1_1097 : Index := 1#32
  let c1_1098 : Index := 1#32
  let c0_1099 : Index := 0#32
  let v1682 : Index := Scalar.indexCast v1681
  let c0_1100 : Index := 0#32
  ![1, 1, 0, v1682.toNat, 0]

def k0_chk112 (v1681 : BitVec 32) : Prop :=
  (∀ a, (k0_off112 v1681) a + S1x1x1x512x128.size a ≤ S2x2x2x544x128.size a)
theorem k0_off112_inb : ∀ (v1681 : BitVec 32) (k0_hw112 : k0_chk112 v1681), ∀ a, (k0_off112 v1681) a + S1x1x1x512x128.size a ≤ S2x2x2x544x128.size a := fun v1681 k0_hw112 => k0_hw112

def k0_off113 (v1690 : BitVec 32) : Fin 5 → Nat :=
  let c1_1102 : Index := 1#32
  let c1_1103 : Index := 1#32
  let c0_1104 : Index := 0#32
  let v1691 : Index := Scalar.indexCast v1690
  let c0_1105 : Index := 0#32
  ![1, 1, 0, v1691.toNat, 0]

def k0_chk113 (v1690 : BitVec 32) : Prop :=
  (∀ a, (k0_off113 v1690) a + S1x1x1x512x128.size a ≤ S2x2x2x544x128.size a)
theorem k0_off113_inb : ∀ (v1690 : BitVec 32) (k0_hw113 : k0_chk113 v1690), ∀ a, (k0_off113 v1690) a + S1x1x1x512x128.size a ≤ S2x2x2x544x128.size a := fun v1690 k0_hw113 => k0_hw113

def k0_off114 (v1698 : BitVec 32) : Fin 5 → Nat :=
  let c1_1107 : Index := 1#32
  let c1_1108 : Index := 1#32
  let c0_1109 : Index := 0#32
  let v1699 : Index := Scalar.indexCast v1698
  let c0_1110 : Index := 0#32
  ![1, 1, 0, v1699.toNat, 0]

def k0_chk114 (v1698 : BitVec 32) : Prop :=
  (∀ a, (k0_off114 v1698) a + S1x1x1x512x128.size a ≤ S2x2x2x544x128.size a)
theorem k0_off114_inb : ∀ (v1698 : BitVec 32) (k0_hw114 : k0_chk114 v1698), ∀ a, (k0_off114 v1698) a + S1x1x1x512x128.size a ≤ S2x2x2x544x128.size a := fun v1698 k0_hw114 => k0_hw114

def k0_off115 (v1714 : BitVec 32) : Fin 5 → Nat :=
  let c1_1117 : Index := 1#32
  let c0_1118 : Index := 0#32
  let c1_1119 : Index := 1#32
  let v1715 : Index := Scalar.indexCast v1714
  let c0_1120 : Index := 0#32
  ![1, 0, 1, v1715.toNat, 0]

def k0_chk115 (v1714 : BitVec 32) : Prop :=
  (∀ a, (k0_off115 v1714) a + S1x1x1x512x128.size a ≤ S2x2x2x544x128.size a)
theorem k0_off115_inb : ∀ (v1714 : BitVec 32) (k0_hw115 : k0_chk115 v1714), ∀ a, (k0_off115 v1714) a + S1x1x1x512x128.size a ≤ S2x2x2x544x128.size a := fun v1714 k0_hw115 => k0_hw115

def k0_off116 (v1723 : BitVec 32) : Fin 5 → Nat :=
  let c1_1122 : Index := 1#32
  let c0_1123 : Index := 0#32
  let c1_1124 : Index := 1#32
  let v1724 : Index := Scalar.indexCast v1723
  let c0_1125 : Index := 0#32
  ![1, 0, 1, v1724.toNat, 0]

def k0_chk116 (v1723 : BitVec 32) : Prop :=
  (∀ a, (k0_off116 v1723) a + S1x1x1x512x128.size a ≤ S2x2x2x544x128.size a)
theorem k0_off116_inb : ∀ (v1723 : BitVec 32) (k0_hw116 : k0_chk116 v1723), ∀ a, (k0_off116 v1723) a + S1x1x1x512x128.size a ≤ S2x2x2x544x128.size a := fun v1723 k0_hw116 => k0_hw116

def k0_off117 (v1731 : BitVec 32) : Fin 5 → Nat :=
  let c1_1127 : Index := 1#32
  let c0_1128 : Index := 0#32
  let c1_1129 : Index := 1#32
  let v1732 : Index := Scalar.indexCast v1731
  let c0_1130 : Index := 0#32
  ![1, 0, 1, v1732.toNat, 0]

def k0_chk117 (v1731 : BitVec 32) : Prop :=
  (∀ a, (k0_off117 v1731) a + S1x1x1x512x128.size a ≤ S2x2x2x544x128.size a)
theorem k0_off117_inb : ∀ (v1731 : BitVec 32) (k0_hw117 : k0_chk117 v1731), ∀ a, (k0_off117 v1731) a + S1x1x1x512x128.size a ≤ S2x2x2x544x128.size a := fun v1731 k0_hw117 => k0_hw117

def k0_off118 (v1755 : BitVec 32) : Fin 5 → Nat :=
  let c1_1139 : Index := 1#32
  let c1_1140 : Index := 1#32
  let c1_1141 : Index := 1#32
  let v1756 : Index := Scalar.indexCast v1755
  let c0_1142 : Index := 0#32
  ![1, 1, 1, v1756.toNat, 0]

def k0_chk118 (v1755 : BitVec 32) : Prop :=
  (∀ a, (k0_off118 v1755) a + S1x1x1x512x128.size a ≤ S2x2x2x544x128.size a)
theorem k0_off118_inb : ∀ (v1755 : BitVec 32) (k0_hw118 : k0_chk118 v1755), ∀ a, (k0_off118 v1755) a + S1x1x1x512x128.size a ≤ S2x2x2x544x128.size a := fun v1755 k0_hw118 => k0_hw118

def k0_off119 (v1764 : BitVec 32) : Fin 5 → Nat :=
  let c1_1144 : Index := 1#32
  let c1_1145 : Index := 1#32
  let c1_1146 : Index := 1#32
  let v1765 : Index := Scalar.indexCast v1764
  let c0_1147 : Index := 0#32
  ![1, 1, 1, v1765.toNat, 0]

def k0_chk119 (v1764 : BitVec 32) : Prop :=
  (∀ a, (k0_off119 v1764) a + S1x1x1x512x128.size a ≤ S2x2x2x544x128.size a)
theorem k0_off119_inb : ∀ (v1764 : BitVec 32) (k0_hw119 : k0_chk119 v1764), ∀ a, (k0_off119 v1764) a + S1x1x1x512x128.size a ≤ S2x2x2x544x128.size a := fun v1764 k0_hw119 => k0_hw119

def k0_off120 (v1772 : BitVec 32) : Fin 5 → Nat :=
  let c1_1149 : Index := 1#32
  let c1_1150 : Index := 1#32
  let c1_1151 : Index := 1#32
  let v1773 : Index := Scalar.indexCast v1772
  let c0_1152 : Index := 0#32
  ![1, 1, 1, v1773.toNat, 0]

def k0_chk120 (v1772 : BitVec 32) : Prop :=
  (∀ a, (k0_off120 v1772) a + S1x1x1x512x128.size a ≤ S2x2x2x544x128.size a)
theorem k0_off120_inb : ∀ (v1772 : BitVec 32) (k0_hw120 : k0_chk120 v1772), ∀ a, (k0_off120 v1772) a + S1x1x1x512x128.size a ≤ S2x2x2x544x128.size a := fun v1772 k0_hw120 => k0_hw120

def k0_off121 (v1788 : BitVec 32) : Fin 5 → Nat :=
  let c0_1160 : Index := 0#32
  let c0_1161 : Index := 0#32
  let c0_1162 : Index := 0#32
  let v1789 : Index := Scalar.indexCast v1788
  let c0_1163 : Index := 0#32
  ![0, 0, 0, v1789.toNat, 0]

def k0_chk121 (v1788 : BitVec 32) : Prop :=
  (∀ a, (k0_off121 v1788) a + S1x1x1x512x128.size a ≤ S2x2x2x544x128.size a)
theorem k0_off121_inb : ∀ (v1788 : BitVec 32) (k0_hw121 : k0_chk121 v1788), ∀ a, (k0_off121 v1788) a + S1x1x1x512x128.size a ≤ S2x2x2x544x128.size a := fun v1788 k0_hw121 => k0_hw121

def k0_off122 (v1797 : BitVec 32) : Fin 5 → Nat :=
  let c0_1165 : Index := 0#32
  let c0_1166 : Index := 0#32
  let c0_1167 : Index := 0#32
  let v1798 : Index := Scalar.indexCast v1797
  let c0_1168 : Index := 0#32
  ![0, 0, 0, v1798.toNat, 0]

def k0_chk122 (v1797 : BitVec 32) : Prop :=
  (∀ a, (k0_off122 v1797) a + S1x1x1x512x128.size a ≤ S2x2x2x544x128.size a)
theorem k0_off122_inb : ∀ (v1797 : BitVec 32) (k0_hw122 : k0_chk122 v1797), ∀ a, (k0_off122 v1797) a + S1x1x1x512x128.size a ≤ S2x2x2x544x128.size a := fun v1797 k0_hw122 => k0_hw122

def k0_off123 (v1805 : BitVec 32) : Fin 5 → Nat :=
  let c0_1170 : Index := 0#32
  let c0_1171 : Index := 0#32
  let c0_1172 : Index := 0#32
  let v1806 : Index := Scalar.indexCast v1805
  let c0_1173 : Index := 0#32
  ![0, 0, 0, v1806.toNat, 0]

def k0_chk123 (v1805 : BitVec 32) : Prop :=
  (∀ a, (k0_off123 v1805) a + S1x1x1x512x128.size a ≤ S2x2x2x544x128.size a)
theorem k0_off123_inb : ∀ (v1805 : BitVec 32) (k0_hw123 : k0_chk123 v1805), ∀ a, (k0_off123 v1805) a + S1x1x1x512x128.size a ≤ S2x2x2x544x128.size a := fun v1805 k0_hw123 => k0_hw123

def k0_off124 (v1829 : BitVec 32) : Fin 5 → Nat :=
  let c0_1183 : Index := 0#32
  let c1_1184 : Index := 1#32
  let c0_1185 : Index := 0#32
  let v1830 : Index := Scalar.indexCast v1829
  let c0_1186 : Index := 0#32
  ![0, 1, 0, v1830.toNat, 0]

def k0_chk124 (v1829 : BitVec 32) : Prop :=
  (∀ a, (k0_off124 v1829) a + S1x1x1x512x128.size a ≤ S2x2x2x544x128.size a)
theorem k0_off124_inb : ∀ (v1829 : BitVec 32) (k0_hw124 : k0_chk124 v1829), ∀ a, (k0_off124 v1829) a + S1x1x1x512x128.size a ≤ S2x2x2x544x128.size a := fun v1829 k0_hw124 => k0_hw124

def k0_off125 (v1838 : BitVec 32) : Fin 5 → Nat :=
  let c0_1188 : Index := 0#32
  let c1_1189 : Index := 1#32
  let c0_1190 : Index := 0#32
  let v1839 : Index := Scalar.indexCast v1838
  let c0_1191 : Index := 0#32
  ![0, 1, 0, v1839.toNat, 0]

def k0_chk125 (v1838 : BitVec 32) : Prop :=
  (∀ a, (k0_off125 v1838) a + S1x1x1x512x128.size a ≤ S2x2x2x544x128.size a)
theorem k0_off125_inb : ∀ (v1838 : BitVec 32) (k0_hw125 : k0_chk125 v1838), ∀ a, (k0_off125 v1838) a + S1x1x1x512x128.size a ≤ S2x2x2x544x128.size a := fun v1838 k0_hw125 => k0_hw125

def k0_off126 (v1846 : BitVec 32) : Fin 5 → Nat :=
  let c0_1193 : Index := 0#32
  let c1_1194 : Index := 1#32
  let c0_1195 : Index := 0#32
  let v1847 : Index := Scalar.indexCast v1846
  let c0_1196 : Index := 0#32
  ![0, 1, 0, v1847.toNat, 0]

def k0_chk126 (v1846 : BitVec 32) : Prop :=
  (∀ a, (k0_off126 v1846) a + S1x1x1x512x128.size a ≤ S2x2x2x544x128.size a)
theorem k0_off126_inb : ∀ (v1846 : BitVec 32) (k0_hw126 : k0_chk126 v1846), ∀ a, (k0_off126 v1846) a + S1x1x1x512x128.size a ≤ S2x2x2x544x128.size a := fun v1846 k0_hw126 => k0_hw126

def k0_off127 (v1862 : BitVec 32) : Fin 5 → Nat :=
  let c0_1203 : Index := 0#32
  let c0_1204 : Index := 0#32
  let c1_1205 : Index := 1#32
  let v1863 : Index := Scalar.indexCast v1862
  let c0_1206 : Index := 0#32
  ![0, 0, 1, v1863.toNat, 0]

def k0_chk127 (v1862 : BitVec 32) : Prop :=
  (∀ a, (k0_off127 v1862) a + S1x1x1x512x128.size a ≤ S2x2x2x544x128.size a)
theorem k0_off127_inb : ∀ (v1862 : BitVec 32) (k0_hw127 : k0_chk127 v1862), ∀ a, (k0_off127 v1862) a + S1x1x1x512x128.size a ≤ S2x2x2x544x128.size a := fun v1862 k0_hw127 => k0_hw127

def k0_off128 (v1871 : BitVec 32) : Fin 5 → Nat :=
  let c0_1208 : Index := 0#32
  let c0_1209 : Index := 0#32
  let c1_1210 : Index := 1#32
  let v1872 : Index := Scalar.indexCast v1871
  let c0_1211 : Index := 0#32
  ![0, 0, 1, v1872.toNat, 0]

def k0_chk128 (v1871 : BitVec 32) : Prop :=
  (∀ a, (k0_off128 v1871) a + S1x1x1x512x128.size a ≤ S2x2x2x544x128.size a)
theorem k0_off128_inb : ∀ (v1871 : BitVec 32) (k0_hw128 : k0_chk128 v1871), ∀ a, (k0_off128 v1871) a + S1x1x1x512x128.size a ≤ S2x2x2x544x128.size a := fun v1871 k0_hw128 => k0_hw128

def k0_off129 (v1879 : BitVec 32) : Fin 5 → Nat :=
  let c0_1213 : Index := 0#32
  let c0_1214 : Index := 0#32
  let c1_1215 : Index := 1#32
  let v1880 : Index := Scalar.indexCast v1879
  let c0_1216 : Index := 0#32
  ![0, 0, 1, v1880.toNat, 0]

def k0_chk129 (v1879 : BitVec 32) : Prop :=
  (∀ a, (k0_off129 v1879) a + S1x1x1x512x128.size a ≤ S2x2x2x544x128.size a)
theorem k0_off129_inb : ∀ (v1879 : BitVec 32) (k0_hw129 : k0_chk129 v1879), ∀ a, (k0_off129 v1879) a + S1x1x1x512x128.size a ≤ S2x2x2x544x128.size a := fun v1879 k0_hw129 => k0_hw129

def k0_off130 (v1903 : BitVec 32) : Fin 5 → Nat :=
  let c0_1225 : Index := 0#32
  let c1_1226 : Index := 1#32
  let c1_1227 : Index := 1#32
  let v1904 : Index := Scalar.indexCast v1903
  let c0_1228 : Index := 0#32
  ![0, 1, 1, v1904.toNat, 0]

def k0_chk130 (v1903 : BitVec 32) : Prop :=
  (∀ a, (k0_off130 v1903) a + S1x1x1x512x128.size a ≤ S2x2x2x544x128.size a)
theorem k0_off130_inb : ∀ (v1903 : BitVec 32) (k0_hw130 : k0_chk130 v1903), ∀ a, (k0_off130 v1903) a + S1x1x1x512x128.size a ≤ S2x2x2x544x128.size a := fun v1903 k0_hw130 => k0_hw130

def k0_off131 (v1912 : BitVec 32) : Fin 5 → Nat :=
  let c0_1230 : Index := 0#32
  let c1_1231 : Index := 1#32
  let c1_1232 : Index := 1#32
  let v1913 : Index := Scalar.indexCast v1912
  let c0_1233 : Index := 0#32
  ![0, 1, 1, v1913.toNat, 0]

def k0_chk131 (v1912 : BitVec 32) : Prop :=
  (∀ a, (k0_off131 v1912) a + S1x1x1x512x128.size a ≤ S2x2x2x544x128.size a)
theorem k0_off131_inb : ∀ (v1912 : BitVec 32) (k0_hw131 : k0_chk131 v1912), ∀ a, (k0_off131 v1912) a + S1x1x1x512x128.size a ≤ S2x2x2x544x128.size a := fun v1912 k0_hw131 => k0_hw131

def k0_off132 (v1920 : BitVec 32) : Fin 5 → Nat :=
  let c0_1235 : Index := 0#32
  let c1_1236 : Index := 1#32
  let c1_1237 : Index := 1#32
  let v1921 : Index := Scalar.indexCast v1920
  let c0_1238 : Index := 0#32
  ![0, 1, 1, v1921.toNat, 0]

def k0_chk132 (v1920 : BitVec 32) : Prop :=
  (∀ a, (k0_off132 v1920) a + S1x1x1x512x128.size a ≤ S2x2x2x544x128.size a)
theorem k0_off132_inb : ∀ (v1920 : BitVec 32) (k0_hw132 : k0_chk132 v1920), ∀ a, (k0_off132 v1920) a + S1x1x1x512x128.size a ≤ S2x2x2x544x128.size a := fun v1920 k0_hw132 => k0_hw132

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnRefIdeal.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 88
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x5632, .f32⟩
  | .hbm, ⟨24, _⟩ => ⟨S_, .i32⟩
  | .hbm, ⟨25, _⟩ => ⟨S_, .f32⟩
  | .hbm, ⟨26, _⟩ => ⟨S2x8194x5632, .f32⟩
  | .hbm, ⟨27, _⟩ => ⟨S2x8192x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S2x8192x5632, .f32⟩
  | .hbm, ⟨32, _⟩ => ⟨S2x8192x5632, .f32⟩
  | .hbm, ⟨33, _⟩ => ⟨S2x8192x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S2x8192x5632, .f32⟩
  | .hbm, ⟨38, _⟩ => ⟨S2x8192x5632, .f32⟩
  | .hbm, ⟨39, _⟩ => ⟨S2x8192x5632, .f32⟩
  | .hbm, ⟨40, _⟩ => ⟨S2x8192x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S2x8192x5632, .f32⟩
  | .hbm, ⟨45, _⟩ => ⟨S2x8192x5632, .f32⟩
  | .hbm, ⟨46, _⟩ => ⟨S2x8192x5632, .f32⟩
  | .hbm, ⟨47, _⟩ => ⟨S1x1x5632, .f32⟩
  | .hbm, ⟨48, _⟩ => ⟨S2x8192x5632, .f32⟩
  | .hbm, ⟨49, _⟩ => ⟨S2x8192x5632, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S_, .f32⟩
  | .hbm, ⟨55, _⟩ => ⟨S2x8192x2816, .f32⟩
  | .hbm, ⟨56, _⟩ => ⟨S2x8192x2816, .f32⟩
  | .hbm, ⟨57, _⟩ => ⟨S2x8192x2816, .f32⟩
  | .hbm, ⟨58, _⟩ => ⟨S_, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S_, .f32⟩
  | .hbm, ⟨63, _⟩ => ⟨S2x8192x2816, .f32⟩
  | .hbm, ⟨64, _⟩ => ⟨S2x8192x2816, .f32⟩
  | .hbm, ⟨65, _⟩ => ⟨S_, .f32⟩
  | .hbm, ⟨66, _⟩ => ⟨S2x8192x2816, .f32⟩
  | .hbm, ⟨67, _⟩ => ⟨S2x8192x2816, .f32⟩
  | .hbm, ⟨68, _⟩ => ⟨S2x8192x2816, .f32⟩
  | .hbm, ⟨69, _⟩ => ⟨S2x8192x2816, .f32⟩
  | .hbm, ⟨70, _⟩ => ⟨S2x8192x1024, .f32⟩
  | .hbm, ⟨71, _⟩ => ⟨S2x8192x1024, .f32⟩
  | .hbm, ⟨72, _⟩ => ⟨S_, .f32⟩
  | .hbm, ⟨73, _⟩ => ⟨S2x8192, .f32⟩
  | .hbm, ⟨74, _⟩ => ⟨S2x8192x1, .f32⟩
  | .hbm, ⟨75, _⟩ => ⟨S_, .f32⟩
  | .hbm, ⟨76, _⟩ => ⟨S2x8192x1, .f32⟩
  | .hbm, ⟨77, _⟩ => ⟨S2x8192x1, .f32⟩
  | .hbm, ⟨78, _⟩ => ⟨S_, .f32⟩
  | .hbm, ⟨79, _⟩ => ⟨S2x8192x1, .f32⟩
  | .hbm, ⟨80, _⟩ => ⟨S2x8192x1, .f32⟩
  | .hbm, ⟨81, _⟩ => ⟨S2x8192x1, .f32⟩
  | .hbm, ⟨82, _⟩ => ⟨S2x8192x1024, .f32⟩
  | .hbm, ⟨83, _⟩ => ⟨S2x8192x1024, .f32⟩
  | .hbm, ⟨84, _⟩ => ⟨S1x1x1024, .f32⟩
  | .hbm, ⟨85, _⟩ => ⟨S2x8192x1024, .f32⟩
  | .hbm, ⟨86, _⟩ => ⟨S2x8192x1024, .f32⟩
  | .hbm, ⟨87, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Out.lean ====
abbrev S2x8192x512 : Shape := ⟨3, ![2, 8192, 512]⟩
abbrev S2x512x8192 : Shape := ⟨3, ![2, 512, 8192]⟩
abbrev S2x8192x1024 : Shape := ⟨3, ![2, 8192, 1024]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S1x512x512 : Shape := ⟨3, ![1, 512, 512]⟩
abbrev S1x512x1024 : Shape := ⟨3, ![1, 512, 1024]⟩
abbrev S512x512 : Shape := ⟨2, ![512, 512]⟩
abbrev S512x1 : Shape := ⟨2, ![512, 1]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S2x8192x512, .f32⟩
  | .hbm, ⟨1, _⟩ => ⟨S2x512x8192, .f32⟩
  | .hbm, ⟨2, _⟩ => ⟨S2x8192x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1x512, .f32⟩
  | .hbm, ⟨8, _⟩ => ⟨S1x512, .f32⟩
  | .hbm, ⟨9, _⟩ => ⟨S1024x1024, .bf16⟩
  | .hbm, ⟨10, _⟩ => ⟨S1x1024, .f32⟩
  | .hbm, ⟨11, _⟩ => ⟨S2x8192x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutRefIdeal.lean ====
abbrev S2x8192x512 : Shape := ⟨3, ![2, 8192, 512]⟩
abbrev S2x512x8192 : Shape := ⟨3, ![2, 512, 8192]⟩
abbrev S2x8192x1024 : Shape := ⟨3, ![2, 8192, 1024]⟩
abbrev S512 : Shape := ⟨1, ![512]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x512x8192, .f32⟩
  | .hbm, ⟨2, _⟩ => ⟨S2x8192x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S2x8192x512, .f32⟩
  | .hbm, ⟨8, _⟩ => ⟨S2x8192x512, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x512, .f32⟩
  | .hbm, ⟨20, _⟩ => ⟨S2x8192x512, .f32⟩
  | .hbm, ⟨21, _⟩ => ⟨S1x1x512, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S_, .f32⟩
  | .hbm, ⟨26, _⟩ => ⟨S2x8192, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1, .f32⟩
  | .hbm, ⟨35, _⟩ => ⟨S2x8192x512, .f32⟩
  | .hbm, ⟨36, _⟩ => ⟨S2x8192x512, .f32⟩
  | .hbm, ⟨37, _⟩ => ⟨S1x1x512, .f32⟩
  | .hbm, ⟨38, _⟩ => ⟨S2x8192x512, .f32⟩
  | .hbm, ⟨39, _⟩ => ⟨S2x8192x512, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S_, .f32⟩
  | .hbm, ⟨44, _⟩ => ⟨S2x8192, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S2x8192x1, .f32⟩
  | .hbm, ⟨53, _⟩ => ⟨S2x8192x1024, .f32⟩
  | .hbm, ⟨54, _⟩ => ⟨S2x8192x1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Inp.lean ====
abbrev S2x8192x1024 : Shape := ⟨3, ![2, 8192, 1024]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1024x128 : Shape := ⟨2, ![1024, 128]⟩
abbrev S1024x32 : Shape := ⟨2, ![1024, 32]⟩
abbrev S1024x2176 : Shape := ⟨2, ![1024, 2176]⟩
abbrev S1024x16 : Shape := ⟨2, ![1024, 16]⟩
abbrev S1024x64 : Shape := ⟨2, ![1024, 64]⟩
abbrev S_ : Shape := ⟨0, ![]⟩
abbrev S1024x2304 : Shape := ⟨2, ![1024, 2304]⟩
abbrev S384x8x96 : Shape := ⟨3, ![384, 8, 96]⟩
abbrev S384x8x32 : Shape := ⟨3, ![384, 8, 32]⟩
abbrev S384x8x16 : Shape := ⟨3, ![384, 8, 16]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S1x8192x2x16 : Shape := ⟨4, ![1, 8192, 2, 16]⟩
abbrev S8192x32 : Shape := ⟨2, ![8192, 32]⟩
abbrev S8192x128 : Shape := ⟨2, ![8192, 128]⟩
abbrev S1x1024 : Shape := ⟨2, ![1, 1024]⟩
abbrev S1x384 : Shape := ⟨2, ![1, 384]⟩
abbrev S1x256 : Shape := ⟨2, ![1, 256]⟩
abbrev S2x8192x1536 : Shape := ⟨3, ![2, 8192, 1536]⟩
abbrev S2x8x8192x128 : Shape := ⟨4, ![2, 8, 8192, 128]⟩
abbrev S2x16x512x512 : Shape := ⟨4, ![2, 16, 512, 512]⟩
abbrev S2x16x8x128 : Shape := ⟨4, ![2, 16, 8, 128]⟩
abbrev S1x512x1024 : Shape := ⟨3, ![1, 512, 1024]⟩
abbrev S512x128 : Shape := ⟨2, ![512, 128]⟩
abbrev S1x512x1536 : Shape := ⟨3, ![1, 512, 1536]⟩
abbrev S1x8x512x128 : Shape := ⟨4, ![1, 8, 512, 128]⟩
abbrev S1x1x512x512 : Shape := ⟨4, ![1, 1, 512, 512]⟩
abbrev S1x1x8x128 : Shape := ⟨4, ![1, 1, 8, 128]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1024x768 : Shape := ⟨2, ![1024, 768]⟩
abbrev S512x768 : Shape := ⟨2, ![512, 768]⟩
abbrev S512x384 : Shape := ⟨2, ![512, 384]⟩
abbrev S1x1x512x128 : Shape := ⟨4, ![1, 1, 512, 128]⟩
abbrev S128 : Shape := ⟨1, ![128]⟩
abbrev S1x128 : Shape := ⟨2, ![1, 128]⟩
abbrev S6x128 : Shape := ⟨2, ![6, 128]⟩
abbrev S8x128 : Shape := ⟨2, ![8, 128]⟩
abbrev S512x512 : Shape := ⟨2, ![512, 512]⟩

abbrev nBuf : Space → Nat
  | .hbm => 82
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2208, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S1024x128, .bf16⟩
  | .hbm, ⟨8, _⟩ => ⟨S1024x32, .f32⟩
  | .hbm, ⟨9, _⟩ => ⟨S1024x2176, .f32⟩
  | .hbm, ⟨10, _⟩ => ⟨S1024x16, .f32⟩
  | .hbm, ⟨11, _⟩ => ⟨S1024x16, .f32⟩
  | .hbm, ⟨12, _⟩ => ⟨S1024x16, .f32⟩
  | .hbm, ⟨13, _⟩ => ⟨S1024x32, .f32⟩
  | .hbm, ⟨14, _⟩ => ⟨S1024x64, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x2304, .f32⟩
  | .hbm, ⟨19, _⟩ => ⟨S1024x2304, .bf16⟩
  | .hbm, ⟨20, _⟩ => ⟨S384x8x96, .f32⟩
  | .hbm, ⟨21, _⟩ => ⟨S384x8x32, .f32⟩
  | .hbm, ⟨22, _⟩ => ⟨S384x8x16, .f32⟩
  | .hbm, ⟨23, _⟩ => ⟨S384x8x16, .f32⟩
  | .hbm, ⟨24, _⟩ => ⟨S384x8x16, .f32⟩
  | .hbm, ⟨25, _⟩ => ⟨S384x8x32, .f32⟩
  | .hbm, ⟨26, _⟩ => ⟨S384x8x128, .f32⟩
  | .hbm, ⟨27, _⟩ => ⟨S384x1024, .f32⟩
  | .hbm, ⟨28, _⟩ => ⟨S384x1024, .bf16⟩
  | .hbm, ⟨29, _⟩ => ⟨S256x8x128, .f32⟩
  | .hbm, ⟨30, _⟩ => ⟨S256x8x64, .f32⟩
  | .hbm, ⟨31, _⟩ => ⟨S_, .i32⟩
  | .hbm, ⟨32, _⟩ => ⟨S_, .f32⟩
  | .hbm, ⟨33, _⟩ => ⟨S256x8x128, .f32⟩
  | .hbm, ⟨34, _⟩ => ⟨S256x1024, .f32⟩
  | .hbm, ⟨35, _⟩ => ⟨S256x1024, .bf16⟩
  | .hbm, ⟨36, _⟩ => ⟨S256x8x64, .f32⟩
  | .hbm, ⟨37, _⟩ => ⟨S256x512, .f32⟩
  | .hbm, ⟨38, _⟩ => ⟨S512x256, .f32⟩
  | .hbm, ⟨39, _⟩ => ⟨S512x256, .bf16⟩
  | .hbm, ⟨40, _⟩ => ⟨S8192, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S16, .f32⟩
  | .hbm, ⟨55, _⟩ => ⟨S8192x1, .f32⟩
  | .hbm, ⟨56, _⟩ => ⟨S1x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S1x8192x1x16, .f32⟩
  | .hbm, ⟨62, _⟩ => ⟨S1x8192x2x16, .f32⟩
  | .hbm, ⟨63, _⟩ => ⟨S8192x32, .f32⟩
  | .hbm, ⟨64, _⟩ => ⟨S_, .i32⟩
  | .hbm, ⟨65, _⟩ => ⟨S_, .f32⟩
  | .hbm, ⟨66, _⟩ => ⟨S8192x128, .f32⟩
  | .hbm, ⟨67, _⟩ => ⟨S8192x16, .f32⟩
  | .hbm, ⟨68, _⟩ => ⟨S1x8192x1x16, .f32⟩
  | .hbm, ⟨69, _⟩ => ⟨S1x8192x2x16, .f32⟩
  | .hbm, ⟨70, _⟩ => ⟨S8192x32, .f32⟩
  | .hbm, ⟨71, _⟩ => ⟨S_, .i32⟩
  | .hbm, ⟨72, _⟩ => ⟨S_, .f32⟩
  | .hbm, ⟨73, _⟩ => ⟨S8192x128, .f32⟩
  | .hbm, ⟨74, _⟩ => ⟨S1x1024, .f32⟩
  | .hbm, ⟨75, _⟩ => ⟨S1x384, .f32⟩
  | .hbm, ⟨76, _⟩ => ⟨S1x256, .f32⟩
  | .hbm, ⟨77, _⟩ => ⟨S2x8192x1536, .f32⟩
  | .hbm, ⟨78, _⟩ => ⟨S2x8x8192x128, .bf16⟩
  | .hbm, ⟨79, _⟩ => ⟨S2x8x8192x128, .bf16⟩
  | .hbm, ⟨80, _⟩ => ⟨S2x16x512x512, .bf16⟩
  | .hbm, ⟨81, _⟩ => ⟨S2x16x8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2304, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x384, .f32⟩
  | .local _ .vmem, ⟨9, _⟩ => ⟨S384x1024, .bf16⟩
  | .local _ .vmem, ⟨10, _⟩ => ⟨S1x256, .f32⟩
  | .local _ .vmem, ⟨11, _⟩ => ⟨S256x1024, .bf16⟩
  | .local _ .vmem, ⟨12, _⟩ => ⟨S512x256, .bf16⟩
  | .local _ .vmem, ⟨13, _⟩ => ⟨S1024x128, .bf16⟩
  | .local _ .vmem, ⟨14, _⟩ => ⟨S1x512x1536, .f32⟩
  | .local _ .vmem, ⟨15, _⟩ => ⟨S1x512x1536, .f32⟩
  | .local _ .vmem, ⟨16, _⟩ => ⟨S1x8x512x128, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x1x512x512, .bf16⟩
  | .local _ .vmem, ⟨21, _⟩ => ⟨S1x1x512x512, .bf16⟩
  | .local _ .vmem, ⟨22, _⟩ => ⟨S1x1x8x128, .f32⟩
  | .local _ .vmem, ⟨23, _⟩ => ⟨S1x1x8x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_0 : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_5 : Ref sig .tc := ⟨.hbm, 64, rfl⟩
abbrev main_call2_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_6 : Ref sig .tc := ⟨.hbm, 71, rfl⟩
abbrev main_call3_v0 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57_0 : Ref sig .tc := ⟨.hbm, 77, rfl⟩
abbrev main_v57_1 : Ref sig .tc := ⟨.hbm, 78, rfl⟩
abbrev main_v57_2 : Ref sig .tc := ⟨.hbm, 79, rfl⟩
abbrev main_v57_3 : Ref sig .tc := ⟨.hbm, 80, rfl⟩
abbrev main_v57_4 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== InpRefIdeal.lean ====
abbrev S2x8192x1024 : Shape := ⟨3, ![2, 8192, 1024]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2208 : Shape := ⟨3, ![2, 8192, 2208]⟩
abbrev S2x8192x1536 : Shape := ⟨3, ![2, 8192, 1536]⟩
abbrev S2x8192x384 : Shape := ⟨3, ![2, 8192, 384]⟩
abbrev S2x8192x256 : Shape := ⟨3, ![2, 8192, 256]⟩
abbrev S2x8192x32 : Shape := ⟨3, ![2, 8192, 32]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S1x1x384 : Shape := ⟨3, ![1, 1, 384]⟩
abbrev S2x8192x768 : Shape := ⟨3, ![2, 8192, 768]⟩
abbrev S2x8192x8x96 : Shape := ⟨4, ![2, 8192, 8, 96]⟩
abbrev S2x8192x8x32 : Shape := ⟨4, ![2, 8192, 8, 32]⟩
abbrev S8192x1x16 : Shape := ⟨3, ![8192, 1, 16]⟩
abbrev S2x8192x8x16 : Shape := ⟨4, ![2, 8192, 8, 16]⟩
abbrev S1x8192x1x16 : Shape := ⟨4, ![1, 8192, 1, 16]⟩
abbrev S1x1x256 : Shape := ⟨3, ![1, 1, 256]⟩
abbrev S2x8192x8x128 : Shape := ⟨4, ![2, 8192, 8, 128]⟩
abbrev S2x8192x16 : Shape := ⟨3, ![2, 8192, 16]⟩
abbrev S1x8192x16 : Shape := ⟨3, ![1, 8192, 16]⟩
abbrev S2x8192x8x64 : Shape := ⟨4, ![2, 8192, 8, 64]⟩
abbrev S2x8192x512 : Shape := ⟨3, ![2, 8192, 512]⟩
abbrev S2x8192x1x32 : Shape := ⟨4, ![2, 8192, 1, 32]⟩
abbrev S2x8192x8x1 : Shape := ⟨4, ![2, 8192, 8, 1]⟩
abbrev S2x8192x8x31 : Shape := ⟨4, ![2, 8192, 8, 31]⟩
abbrev S2x16x512x512 : Shape := ⟨4, ![2, 16, 512, 512]⟩
abbrev S2x8x8192x128 : Shape := ⟨4, ![2, 8, 8192, 128]⟩

abbrev nBuf : Space → Nat
  | .hbm => 148
  | .vmem => 0
  | .smem => 0
  | _ => 0

abbrev hbmTy0_0 (i : Nat) : BufTy := match i % 128 with
  | 0 => ⟨S2x8192x1024, .f32⟩
  | 1 => ⟨S1024, .f32⟩
  | 2 => ⟨S1024x2208, .f32⟩
  | 3 => ⟨S384, .f32⟩
  | 4 => ⟨S384x768, .f32⟩
  | 5 => ⟨S256, .f32⟩
  | 6 => ⟨S256x1024, .f32⟩
  | 7 => ⟨S2x8192x1024, .f32⟩
  | 8 => ⟨S_, .f32⟩
  | 9 => ⟨S2x8192, .f32⟩
  | 10 => ⟨S2x8192x1, .f32⟩
  | 11 => ⟨S_, .f32⟩
  | 12 => ⟨S2x8192x1, .f32⟩
  | 13 => ⟨S2x8192x1, .f32⟩
  | 14 => ⟨S_, .f32⟩
  | 15 => ⟨S2x8192x1, .f32⟩
  | 16 => ⟨S2x8192x1, .f32⟩
  | 17 => ⟨S2x8192x1, .f32⟩
  | 18 => ⟨S2x8192x1024, .f32⟩
  | 19 => ⟨S2x8192x1024, .f32⟩
  | 20 => ⟨S1x1x1024, .f32⟩
  | 21 => ⟨S2x8192x1024, .f32⟩
  | 22 => ⟨S2x8192x1024, .f32⟩
  | 23 => ⟨S2x8192x2208, .f32⟩
  | 24 => ⟨S2x8192x1536, .f32⟩
  | 25 => ⟨S2x8192x384, .f32⟩
  | 26 => ⟨S2x8192x256, .f32⟩
  | 27 => ⟨S2x8192x32, .f32⟩
  | 28 => ⟨S8192, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S16, .f32⟩
  | 43 => ⟨S8192x1, .f32⟩
  | 44 => ⟨S1x16, .f32⟩
  | 45 => ⟨S8192x16, .f32⟩
  | 46 => ⟨S8192x16, .f32⟩
  | 47 => ⟨S8192x16, .f32⟩
  | 48 => ⟨S8192x16, .f32⟩
  | 49 => ⟨S8192x16, .f32⟩
  | 50 => ⟨S2x8192x384, .f32⟩
  | 51 => ⟨S_, .f32⟩
  | 52 => ⟨S2x8192, .f32⟩
  | 53 => ⟨S2x8192x1, .f32⟩
  | 54 => ⟨S_, .f32⟩
  | 55 => ⟨S2x8192x1, .f32⟩
  | 56 => ⟨S2x8192x1, .f32⟩
  | 57 => ⟨S_, .f32⟩
  | 58 => ⟨S2x8192x1, .f32⟩
  | 59 => ⟨S2x8192x1, .f32⟩
  | 60 => ⟨S2x8192x1, .f32⟩
  | 61 => ⟨S2x8192x384, .f32⟩
  | 62 => ⟨S2x8192x384, .f32⟩
  | 63 => ⟨S1x1x384, .f32⟩
  | 64 => ⟨S2x8192x384, .f32⟩
  | 65 => ⟨S2x8192x384, .f32⟩
  | 66 => ⟨S2x8192x768, .f32⟩
  | 67 => ⟨S2x8192x8x96, .f32⟩
  | 68 => ⟨S2x8192x8x32, .f32⟩
  | 69 => ⟨S8192x1x16, .f32⟩
  | 70 => ⟨S8192x1x16, .f32⟩
  | 71 => ⟨S2x8192x8x16, .f32⟩
  | 72 => ⟨S2x8192x8x16, .f32⟩
  | 73 => ⟨S1x8192x1x16, .f32⟩
  | 74 => ⟨S2x8192x8x16, .f32⟩
  | 75 => ⟨S2x8192x8x16, .f32⟩
  | 76 => ⟨S1x8192x1x16, .f32⟩
  | 77 => ⟨S2x8192x8x16, .f32⟩
  | 78 => ⟨S2x8192x8x16, .f32⟩
  | 79 => ⟨S2x8192x8x16, .f32⟩
  | 80 => ⟨S1x8192x1x16, .f32⟩
  | 81 => ⟨S2x8192x8x16, .f32⟩
  | 82 => ⟨S2x8192x8x16, .f32⟩
  | 83 => ⟨S1x8192x1x16, .f32⟩
  | 84 => ⟨S2x8192x8x16, .f32⟩
  | 85 => ⟨S2x8192x8x16, .f32⟩
  | 86 => ⟨S2x8192x8x16, .f32⟩
  | 87 => ⟨S2x8192x8x32, .f32⟩
  | 88 => ⟨S2x8192x256, .f32⟩
  | 89 => ⟨S_, .f32⟩
  | 90 => ⟨S2x8192, .f32⟩
  | 91 => ⟨S2x8192x1, .f32⟩
  | 92 => ⟨S_, .f32⟩
  | 93 => ⟨S2x8192x1, .f32⟩
  | 94 => ⟨S2x8192x1, .f32⟩
  | 95 => ⟨S_, .f32⟩
  | 96 => ⟨S2x8192x1, .f32⟩
  | 97 => ⟨S2x8192x1, .f32⟩
  | 98 => ⟨S2x8192x1, .f32⟩
  | 99 => ⟨S2x8192x256, .f32⟩
  | 100 => ⟨S2x8192x256, .f32⟩
  | 101 => ⟨S1x1x256, .f32⟩
  | 102 => ⟨S2x8192x256, .f32⟩
  | 103 => ⟨S2x8192x256, .f32⟩
  | 104 => ⟨S2x8192x1024, .f32⟩
  | 105 => ⟨S2x8192x8x128, .f32⟩
  | 106 => ⟨S2x8192x16, .f32⟩
  | 107 => ⟨S2x8192x16, .f32⟩
  | 108 => ⟨S1x8192x16, .f32⟩
  | 109 => ⟨S2x8192x16, .f32⟩
  | 110 => ⟨S2x8192x16, .f32⟩
  | 111 => ⟨S1x8192x16, .f32⟩
  | 112 => ⟨S2x8192x16, .f32⟩
  | 113 => ⟨S2x8192x16, .f32⟩
  | 114 => ⟨S2x8192x16, .f32⟩
  | 115 => ⟨S1x8192x16, .f32⟩
  | 116 => ⟨S2x8192x16, .f32⟩
  | 117 => ⟨S2x8192x16, .f32⟩
  | 118 => ⟨S1x8192x16, .f32⟩
  | 119 => ⟨S2x8192x16, .f32⟩
  | 120 => ⟨S2x8192x16, .f32⟩
  | 121 => ⟨S2x8192x16, .f32⟩
  | 122 => ⟨S2x8192x32, .f32⟩
  | 123 => ⟨S2x8192x8x64, .f32⟩
  | 124 => ⟨S2x8192x512, .f32⟩
  | 125 => ⟨S2x8192x8x64, .f32⟩
  | 126 => ⟨S2x8192x8x96, .f32⟩
  | 127 => ⟨S_, .f32⟩
  | _ => ⟨S2x8192x1024, .f32⟩

abbrev hbmTy0_1 (i : Nat) : BufTy := match i % 128 with
  | 0 => ⟨S2x8192x8x96, .f32⟩
  | 1 => ⟨S2x8192x8x96, .f32⟩
  | 2 => ⟨S_, .i32⟩
  | 3 => ⟨S_, .f32⟩
  | 4 => ⟨S2x8192x8x128, .f32⟩
  | 5 => ⟨S2x8192x8x64, .f32⟩
  | 6 => ⟨S2x8192x1x32, .f32⟩
  | 7 => ⟨S2x8192x8x32, .f32⟩
  | 8 => ⟨S_, .f32⟩
  | 9 => ⟨S2x8192x8x1, .f32⟩
  | 10 => ⟨S_, .f32⟩
  | 11 => ⟨S2x8192x8x31, .f32⟩
  | 12 => ⟨S2x8192x8x128, .f32⟩
  | 13 => ⟨S2x16x512x512, .f32⟩
  | 14 => ⟨S2x16x512x512, .f32⟩
  | 15 => ⟨S2x8x8192x128, .f32⟩
  | 16 => ⟨S2x8x8192x128, .bf16⟩
  | 17 => ⟨S2x8x8192x128, .f32⟩
  | 18 => ⟨S2x8x8192x128, .bf16⟩
  | 19 => ⟨S2x16x512x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_v75 : Ref sig .tc := ⟨.hbm, 94, rfl⟩
abbrev main_cst_11 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_12 : Ref sig .tc := ⟨.hbm, 127, rfl⟩
abbrev main_v107 : Ref sig .tc := ⟨.hbm, 128, rfl⟩
abbrev main_v108 : Ref sig .tc := ⟨.hbm, 129, rfl⟩
abbrev main_c : Ref sig .tc := ⟨.hbm, 130, rfl⟩
abbrev main_call0_v0 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_13 : Ref sig .tc := ⟨.hbm, 136, rfl⟩
abbrev main_v113 : Ref sig .tc := ⟨.hbm, 137, rfl⟩
abbrev main_cst_14 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩

abbrev nD : Nat := 1
abbrev τ : Topo := Topo.v7x

variable {F : FTy → Type} [FloatOps F]
-- ==== Proof.BoundIdealRun.lean ====
/- The bounded attention call's body, read as values: what one trip of its key loop yields and stores, what the loop has
   built up before each trip, and the run of the whole body that ends with that value in the output's buffer. The run
   is stated here because the loop's carried state depends, as the generated recursion writes it, on what the first
   score buffer holds on entry, although every trip overwrites that buffer before reading it. -/
module

public import proofs.«01_k».proof.Proof.Gen.BoundIdeal.Frame.Runs
public import Idealize.ShloMosaic.Lib.VecWindow
public import Idealize.ShloMosaic.Lib.Pipeline.ValueKit

@[expose] public section

set_option maxRecDepth 16384

noncomputable section

namespace Cert.BoundIdeal.Att

open Cert.BoundIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The key rows `k0_off2 k` names, and those `k0_off4 k` names: the even and the odd key tile of trip `k`. -/
def keyA (K : Vec F S1x1x8192x128 .bf16) (k : Fin k0_t1_loop.trips) : Vec F S1x1x512x128 .bf16 :=
  View.ld K (Rect.unit (s := S1x1x8192x128) (k0_off2 k) S1x1x512x128.size (k0_off2_inb k))
def keyB (K : Vec F S1x1x8192x128 .bf16) (k : Fin k0_t1_loop.trips) : Vec F S1x1x512x128 .bf16 :=
  View.ld K (Rect.unit (s := S1x1x8192x128) (k0_off4 k) S1x1x512x128.size (k0_off4_inb k))

/-- The value tile trip `k` pairs with the odd scores of the trip before, and the one it pairs with its own even scores. -/
def valB (V : Vec F S1x16x64x512 .bf16) (k : Fin k0_t1_loop.trips) : Vec F S1x1x64x512 .bf16 :=
  View.ld V (Rect.unit (s := S1x16x64x512) (k0_off3 k) S1x1x64x512.size (k0_off3_inb k))
def valA (V : Vec F S1x16x64x512 .bf16) (k : Fin k0_t1_loop.trips) : Vec F S1x1x64x512 .bf16 :=
  View.ld V (Rect.unit (s := S1x16x64x512) (k0_off5 k) S1x1x64x512.size (k0_off5_inb k))

/-- The weights of trip `k`'s two key tiles. -/
def wA (K : Vec F S1x1x8192x128 .bf16) (qa : Vec F S8192x128 .bf16) (k : Fin k0_t1_loop.trips) : Vec F S512x8192 .bf16 :=
  k0_pay2 (keyA K k) qa
def wB (K : Vec F S1x1x8192x128 .bf16) (qa : Vec F S8192x128 .bf16) (k : Fin k0_t1_loop.trips) : Vec F S512x8192 .bf16 :=
  k0_pay9 (k0_pay4 (keyB K k)) qa

/-- The accumulator after trip `k`, from the accumulator and the pending odd weights before it. -/
def accNext (K : Vec F S1x1x8192x128 .bf16) (V : Vec F S1x16x64x512 .bf16) (qa : Vec F S8192x128 .bf16)
    (k : Fin k0_t1_loop.trips) (acc : FVec F S80x8192 .f32) (pb : Vec F S512x8192 .bf16) : FVec F S80x8192 .f32 :=
  k0_pay10 (k0_pay3 k0_pay6 acc (valB V k) pb) (valA V k) (wA K qa k)

/-- The accumulator and the pending weights before trip `n`. -/
def loopSt (K : Vec F S1x1x8192x128 .bf16) (V : Vec F S1x16x64x512 .bf16) (qa : Vec F S8192x128 .bf16) :
    ℕ → FVec F S80x8192 .f32 × Vec F S512x8192 .bf16
  | 0 => (k0_pay8, k0_pay7)
  | n + 1 => if h : n < k0_t1_loop.trips then
      (accNext K V qa ⟨n, h⟩ (loopSt K V qa n).1 (loopSt K V qa n).2, wB K qa ⟨n, h⟩) else loopSt K V qa n

/-- The query rows with the shift put in lane 96. -/
def qAug (i : grid0.Coords) (x0 : Vec F S16 .f32) (x1 : Vec F S1x1x8192x128 .bf16) : Vec F S8192x128 .bf16 :=
  k0_pay5 x1 (View.ld x0 (Rect.unit (s := S16) (k0_off1 i) S1.size (k0_off1_inb i)) (Shape.Idx.first (s := S1) (by decide)))

/-- What the body leaves in the output's buffer. -/
def outV (i : grid0.Coords) (x0 : Vec F S16 .f32) (x1 : Vec F S1x1x8192x128 .bf16) (x2 : Vec F S1x1x8192x128 .bf16) (x3 : Vec F S1x16x64x512 .bf16) : Vec F S1x64x8192 .f32 :=
  k0_pay1 (loopSt x2 x3 (qAug i x0 x1) k0_t1_loop.trips).1
    (k0_pay11 (View.ld x3 (Rect.unit (s := S1x16x64x512) ![0, 15, 0, 0] S1x1x64x512.size inb_S1x16x64x512_S1x1x64x512_0_15_0_0))
      (loopSt x2 x3 (qAug i x0 x1) k0_t1_loop.trips).2)

section trip

variable (𝒱 : Variants) (bd : Option 𝒱.V) (c : Dev nD) (i : grid0.Coords) (arg3 : Memref sig .tc .smem S16 .f32) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x16x64x512 .bf16) (harg6 : arg6.IsWhole) (arg7 : Memref sig .tc .vmem S1x64x8192 .f32) (harg7 : arg7.IsWhole) (arg8 : Memref sig .tc .vmem S8192x128 .bf16) (harg8 : arg8.IsWhole) (arg9 : Memref sig .tc .vmem S512x8192 .bf16) (harg9 : arg9.IsWhole) (arg10 : Memref sig .tc .vmem S512x8192 .bf16) (harg10 : arg10.IsWhole) (X5 : BufTy.Contents (Elt F) arg5.view.ty) (X6 : BufTy.Contents (Elt F) arg6.view.ty) (X8 : BufTy.Contents (Elt F) arg8.view.ty)

theorem trip_yield (k : Fin k0_t1_loop.trips) (acc : FVec F S80x8192 .f32) (f9 : BufTy.Contents (Elt F) arg9.view.ty) (f10 : BufTy.Contents (Elt F) arg10.view.ty) :
    tripR_k0_t1 𝒱 c bd i arg3 harg3 arg4 harg4 arg5 harg5 arg6 harg6 arg7 harg7 arg8 harg8 arg9 harg9 arg10 harg10 X5 X6 X8 k acc f9 f10
      = accNext (arg5.view.read (Elt F) X5) (arg6.view.read (Elt F) X6) (arg8.view.read (Elt F) X8) k acc (arg10.view.read (Elt F) f10) := by
  unfold tripR_k0_t1 trip_k0_t1
  dsimp only
  sl_unfold_words
  unfold accNext wA keyA valA valB
  congr 1
  · congr 1
    exact View.readAt_full _ _ _
  · refine (View.readCov_full _ _ _ _ _).trans ?_
    congr 1
    exact View.readAt_full _ _ _

theorem trip_pend (k : Fin k0_t1_loop.trips) (acc : FVec F S80x8192 .f32) (f9 : BufTy.Contents (Elt F) arg9.view.ty) (f10 : BufTy.Contents (Elt F) arg10.view.ty)
    (G : BufTy.Contents (Elt F) arg10.view.ty) (L : List (View.Piece (Elt F) S512x8192 .bf16)) :
    arg10.view.read (Elt F) (arg10.view.writes (Elt F) G ((tripL_k0_t1 𝒱 c bd i arg3 harg3 arg4 harg4 arg5 harg5 arg6 harg6 arg7 harg7 arg8 harg8 arg9 harg9 arg10 harg10 X5 X6 X8 k acc f9 f10).2 ++ L))
      = wB (arg5.view.read (Elt F) X5) (arg8.view.read (Elt F) X8) k := by
  unfold tripL_k0_t1 trip_k0_t1
  dsimp only
  sl_unfold_words
  unfold wB keyB
  rw [List.singleton_append]
  refine (View.read_writes_full _ _ _ _ _).trans ?_
  congr 1
  exact View.readAt_full _ _ _

theorem st_eq (G9 : BufTy.Contents (Elt F) arg9.view.ty) (G10 : BufTy.Contents (Elt F) arg10.view.ty)
    (h10 : arg10.view.read (Elt F) G10 = k0_pay7) : ∀ n : ℕ, n ≤ k0_t1_loop.trips →
    (st_k0_t1 (F := F) 𝒱 c bd i arg3 harg3 arg4 harg4 arg5 harg5 arg6 harg6 arg7 harg7 arg8 harg8 arg9 harg9 arg10 harg10 X5 X6 X8 G9 G10 k0_pay8 n).1
        = (loopSt (arg5.view.read (Elt F) X5) (arg6.view.read (Elt F) X6) (arg8.view.read (Elt F) X8) n).1
      ∧ arg10.view.read (Elt F) (arg10.view.writes (Elt F) G10 (st_k0_t1 (F := F) 𝒱 c bd i arg3 harg3 arg4 harg4 arg5 harg5 arg6 harg6 arg7 harg7 arg8 harg8 arg9 harg9 arg10 harg10 X5 X6 X8 G9 G10 k0_pay8 n).2.2)
        = (loopSt (arg5.view.read (Elt F) X5) (arg6.view.read (Elt F) X6) (arg8.view.read (Elt F) X8) n).2
  | 0, _ => ⟨rfl, h10⟩
  | n + 1, hn => by
    have ih := st_eq G9 G10 h10 n (by omega)
    have e := st_k0_t1_succ (F := F) 𝒱 c bd i arg3 harg3 arg4 harg4 arg5 harg5 arg6 harg6 arg7 harg7 arg8 harg8 arg9 harg9 arg10 harg10 X5 X6 X8 G9 G10 k0_pay8 ⟨n, hn⟩
    have hl : loopSt (arg5.view.read (Elt F) X5) (arg6.view.read (Elt F) X6) (arg8.view.read (Elt F) X8) (n + 1) = _ := dif_pos hn
    dsimp only at e
    rw [e, hl]
    dsimp only
    refine ⟨?_, ?_⟩
    · rw [trip_yield, ih.1, ih.2]
    · exact trip_pend ..

end trip

set_option maxHeartbeats 1000000 in
/-- The body's run: on whole staging memrefs holding the four inputs it ends with the output's buffer written whole at `outV`. -/
theorem bodyRun (c : Dev nD) (i : grid0.Coords) (arg3 : Memref sig .tc .smem S16 .f32) (harg3 : arg3.IsWhole) (arg4 : Memref sig .tc .vmem S1x1x8192x128 .bf16) (harg4 : arg4.IsWhole) (arg5 : Memref sig .tc .vmem S1x1x8192x128 .bf16) (harg5 : arg5.IsWhole) (arg6 : Memref sig .tc .vmem S1x16x64x512 .bf16) (harg6 : arg6.IsWhole) (arg7 : Memref sig .tc .vmem S1x64x8192 .f32) (harg7 : arg7.IsWhole) (arg8 : Memref sig .tc .vmem S8192x128 .bf16) (harg8 : arg8.IsWhole) (arg9 : Memref sig .tc .vmem S512x8192 .bf16) (harg9 : arg9.IsWhole) (arg10 : Memref sig .tc .vmem S512x8192 .bf16) (harg10 : arg10.IsWhole)
    (x0 : Vec F S16 .f32) (x1 : Vec F S1x1x8192x128 .bf16) (x2 : Vec F S1x1x8192x128 .bf16) (x3 : Vec F S1x16x64x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outV i x0 x1 x2 x3) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_mla_attn_bound i arg3 harg3 arg4 harg4 arg5 harg5 arg6 harg6 arg7 harg7 arg8 harg8 arg9 harg9 arg10 harg10) K := by
    simp only [cc0_mla_attn_bound_eq_skeleton]; unfold cc0_mla_attn_bound_skel
    simp only [k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      have h7 : ∀ w, arg7.view.read (Elt F) (arg7.view.writes (Elt F) f4 [⟨Rect.unit (s := S1x64x8192) ![0, 0, 0] ![1, 64, 8192] inb_S1x64x8192_S1x64x8192_0_0_0, w⟩]) = w := fun w =>
        View.read_writes_full (s := S1x64x8192) (off := ![0, 0, 0]) arg7.view f4 inb_S1x64x8192_S1x64x8192_0_0_0 w []
      refine (h7 _).trans ?_
      sl_unfold_words
      unfold outV qAug
      have h8 : ∀ w, arg8.view.read (Elt F) (arg8.view.writes (Elt F) arg8.view.junk [⟨Rect.unit (s := S8192x128) ![0, 0] S8192x128.size inb_S8192x128_S8192x128_0_0, w⟩]) = w := fun w =>
        View.read_writes_full (s := S8192x128) (off := ![0, 0]) arg8.view arg8.view.junk inb_S8192x128_S8192x128_0_0 w []
      have h10 : ∀ w, arg10.view.read (Elt F) (arg10.view.writes (Elt F) arg10.view.junk [⟨Rect.unit (s := S512x8192) ![0, 0] S512x8192.size inb_S512x8192_S512x8192_0_0, w⟩]) = w := fun w =>
        View.read_writes_full (s := S512x8192) (off := ![0, 0]) arg10.view arg10.view.junk inb_S512x8192_S512x8192_0_0 w []
      subst hf0 hf1 hf2 hf3
      have hq : ∀ a : Elt F .f32, k0_pay5 (View.readAt (Elt F) arg4.view (Rect.unit (s := S1x1x8192x128) ![0, 0, 0, 0] S1x1x8192x128.size inb_S1x1x8192x128_S1x1x8192x128_0_0_0_0).toLoadRect f1) a
          = k0_pay5 (arg4.view.read (Elt F) f1) a := fun a => congrArg (fun y => k0_pay5 y a)
        (View.readAt_full (s := S1x1x8192x128) (off := ![0, 0, 0, 0]) arg4.view f1 inb_S1x1x8192x128_S1x1x8192x128_0_0_0_0)
      rw [hq]
      refine congr (congrArg k0_pay1 (((st_eq Variants.none none c i arg3 harg3 arg4 harg4 arg5 harg5 arg6 harg6 arg7 harg7 arg8 harg8 arg9 harg9 arg10 harg10 f2 f3 _ fs1 _ (h10 _) _ le_rfl).1).trans ?_)) (congr (congrArg k0_pay11 rfl) ?_)
      · rw [h8]; rfl
      · unfold View.readCov
        refine (View.readAt_full (s := S512x8192) (off := ![0, 0]) arg10.view _ inb_S512x8192_S512x8192_0_0).trans ?_
        rw [View.writes_append]
        refine ((st_eq Variants.none none c i arg3 harg3 arg4 harg4 arg5 harg5 arg6 harg6 arg7 harg7 arg8 harg8 arg9 harg9 arg10 harg10 f2 f3 _ fs1 _ (h10 _) _ le_rfl).2).trans ?_
        rw [h8]; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.BoundIdeal.Att

end
-- ==== Proof.BoundIdealFrame.lean ====
/- The bounded attention call's frame over the body's run of BoundIdealRun: the pipeline's proof data with the output's buffer
   named at every grid point, the body obligation, the launch, the frame, and the result array the launch leaves. -/
module

public import proofs.«01_k».proof.Proof.BoundIdealRun
public import Idealize.ShloMosaic.Lib.Claim

@[expose] public section

set_option maxRecDepth 16384

noncomputable section

namespace Cert.BoundIdeal.Att

open Cert.BoundIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's buffer holds after grid point `t`. -/
def outAt (c : Dev nD) (t : Fin cfg0.N) : Vec F S1x64x8192 .f32 :=
  outV (grid0.coords t) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩⟩
  iapply (bodyRun c (grid0.coords t) _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and every counter at zero, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- The launch, with the result array named and the arguments unchanged. -/
theorem run_result : θ_run defs (onTc (τ := τ) (main (F := F))) ⟨m, fun _ => 0, ρ⟩ fun r => ∀ c : Dev nD,
      r.2.mem ((c.tc : Thread nD τ).loc main_v1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 4, h.2 c⟩)
    (θ_run_and (run_main m ρ) (unchanged m ρ))

end Cert.BoundIdeal.Att

end
-- ==== Proof.Soft.lean ====
module

public import Idealize.ShloMosaic.PureOps.Ideal
public import Idealize.ShloMosaic.Lib.IdealHost

@[expose] public section

noncomputable section

namespace Cert.Soft

open Idealize.ShloMosaic

/-- The f32 literal `2.0` is the real two. -/
theorem two_f32 : Ideal.ofBits .f32 0x40000000#32 = ((2 : ℝ) : EReal) := by
  simp [Ideal.ofBits, Ideal.ieee, -EReal.coe_mul]; norm_num

/-- The f32 literal minus infinity is the least extended real. -/
theorem ninf_f32 : Ideal.ofBits .f32 0xFF800000#32 = (⊥ : EReal) := by
  simp [Ideal.ofBits, Ideal.ieee]

/-- A finite sum of reals read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals, folded from minus infinity, is a real. -/
theorem fold_max_real {ι : Type*} [DecidableEq ι] (x : ι → ℝ) (s : Finset ι) (hs : s.Nonempty) :
    ∃ M : ℝ, s.fold max (⊥ : EReal) (fun i => (x i : EReal)) = (M : EReal) := by
  induction hs using Finset.Nonempty.cons_induction with
  | singleton a => exact ⟨x a, by simp⟩
  | cons a s ha hs ih =>
    obtain ⟨M, hM⟩ := ih
    exact ⟨max (x a) M, by rw [Finset.fold_cons, hM]; exact (EReal.coe_strictMono.monotone.map_max).symm⟩

/-- The quotient of two reals by a positive one. -/
theorem div_real (a b : ℝ) (hb : 0 < b) : Ideal.div (a : EReal) (b : EReal) = ((a / b : ℝ) : EReal) := by
  have h0 : ((b : ℝ) : EReal) ≠ 0 := by exact_mod_cast hb.ne'
  unfold Ideal.div
  rw [if_neg h0, div_eq_mul_inv, EReal.coe_mul, EReal.coe_inv]

/-- Attention weights do not depend on what is taken off the scores: the sum of the values times two to the shifted scores, divided by the
    sum of those powers, is the sum of the values each times its own normalised power of the scores less any other real. -/
theorem shift_free {n : ℕ} (hn : 0 < n) (x v : Fin n → ℝ) (s M : ℝ) :
    Ideal.div (∑ k, (v k : EReal) * Ideal.exp2 (((x k - s : ℝ)) : EReal)) (∑ k, 1 * Ideal.exp2 (((x k - s : ℝ)) : EReal))
      = ∑ k, Ideal.div (Ideal.pow ((2 : ℝ) : EReal) (((x k - M : ℝ)) : EReal)) (∑ j, Ideal.pow ((2 : ℝ) : EReal) (((x j - M : ℝ)) : EReal)) * (v k : EReal) := by
  haveI : NeZero n := ⟨hn.ne'⟩
  have hp : ∀ y : ℝ, 0 < (2 : ℝ) ^ y := fun y => Real.rpow_pos_of_pos two_pos y
  have hne : (Finset.univ : Finset (Fin n)).Nonempty := Finset.univ_nonempty
  have e1 : ∀ y : ℝ, Ideal.exp2 ((y : ℝ) : EReal) = (((2 : ℝ) ^ y : ℝ) : EReal) := fun y => rfl
  have e2 : ∀ y : ℝ, Ideal.pow ((2 : ℝ) : EReal) ((y : ℝ) : EReal) = (((2 : ℝ) ^ y : ℝ) : EReal) := fun y => rfl
  simp only [e1, e2, one_mul, ← EReal.coe_mul, ← coe_sum]
  have d1 : 0 < ∑ k, (2 : ℝ) ^ (x k - s) := Finset.sum_pos (fun k _ => hp _) hne
  have d2 : 0 < ∑ k, (2 : ℝ) ^ (x k - M) := Finset.sum_pos (fun k _ => hp _) hne
  rw [div_real _ _ d1]
  simp only [div_real _ _ d2, ← EReal.coe_mul, ← coe_sum]
  congr 1
  have sc : ∀ k, (2 : ℝ) ^ (x k - s) = (2 : ℝ) ^ (M - s) * (2 : ℝ) ^ (x k - M) := fun k => by
    rw [← Real.rpow_add two_pos]; congr 1; ring
  simp only [sc]
  rw [← Finset.mul_sum, Finset.sum_div]
  refine Finset.sum_congr rfl fun k _ => ?_
  have h1 := (hp (M - s)).ne'
  field_simp

end Cert.Soft

end
-- ==== Proof.BoundValue.lean ====
module

public import proofs.«01_k».proof.Proof.BoundIdealRun
public import Idealize.ShloMosaic.Lib.Pointwise
public import proofs.«01_k».proof.Proof.Soft

@[expose] public section

set_option maxRecDepth 16384

noncomputable section

namespace Cert.BoundIdeal.Att

open Cert.BoundIdeal Cert.BoundIdeal.Gen
open Idealize.ShloMosaic Idealize.ShloMosaic.TcCoe Idealize.SL.Sem

/-- The keys of one head, the values of one head and the prepared queries of one head. -/
abbrev KeyBlk := FVec Ideal S1x1x8192x128 .bf16
abbrev ValBlk := FVec Ideal S1x16x64x512 .bf16
abbrev QryBlk := FVec Ideal S8192x128 .bf16

theorem trips_eq : k0_t1_loop.trips = 8 := by decide +kernel

theorem off3_eq : ∀ k : Fin k0_t1_loop.trips, k0_off3 k = ![0, 2 * (k : ℕ) - 1, 0, 0] := by decide +kernel
theorem off5_eq : ∀ k : Fin k0_t1_loop.trips, k0_off5 k = ![0, 2 * (k : ℕ), 0, 0] := by decide +kernel

/-- Two to the product of one key and one prepared query. -/
def pw (K : KeyBlk) (qa : QryBlk) (j i : Fin 8192) : EReal :=
  Ideal.exp2 (∑ l : Fin 128, K (ix4 0 0 j l) * qa (ix2 i l))

/-- The rows a tile of values is multiplied as: its 64 rows, then sixteen rows of ones. -/
def row (V : ValBlk) (r : Fin 80) (u : Fin 16) (t : Fin 512) : EReal :=
  if h : (r : ℕ) < 64 then V (ix4 0 u ⟨r, h⟩ t) else 1

/-- What tile `u` of 512 keys adds at row `r` and query `i`. -/
def tileSum (K : KeyBlk) (V : ValBlk) (qa : QryBlk) (r : Fin 80) (i : Fin 8192) (u : Fin 16) : EReal :=
  ∑ t : Fin 512, row V r u t * pw K qa ⟨u * 512 + t, by omega⟩ i

theorem wA_at (K : KeyBlk) (qa : QryBlk) (k : Fin k0_t1_loop.trips) (t : Fin 512) (i : Fin 8192) (h : 2 * (k : ℕ) < 16) :
    wA (F := Ideal) K qa k (ix2 t i) = pw K qa ⟨(2 * k) * 512 + t, by omega⟩ i := by
  have e : (⟨(2 * k) * 512 + t, by omega⟩ : Fin 8192) = ⟨1024 * k + t, by omega⟩ := Fin.ext (by dsimp only; omega)
  rw [e]
  pointwise [wA, pw, k0_pay2, keyA, k0_off2_eq]
  rfl

theorem wB_at (K : KeyBlk) (qa : QryBlk) (k : Fin k0_t1_loop.trips) (t : Fin 512) (i : Fin 8192) (h : 2 * (k : ℕ) + 1 < 16) :
    wB (F := Ideal) K qa k (ix2 t i) = pw K qa ⟨(2 * k + 1) * 512 + t, by omega⟩ i := by
  have e : (⟨(2 * k + 1) * 512 + t, by omega⟩ : Fin 8192) = ⟨1024 * k + 512 + t, by omega⟩ := Fin.ext (by dsimp only; omega)
  rw [e]
  pointwise [wB, pw, k0_pay9, k0_pay4, keyB, k0_off4_eq]
  rfl

theorem valA_at (V : ValBlk) (k : Fin k0_t1_loop.trips) (d : Fin 64) (t : Fin 512) (h : 2 * (k : ℕ) < 16) :
    valA (F := Ideal) V k (ix4 0 0 d t) = V (ix4 0 ⟨2 * k, h⟩ d t) := by
  pointwise [valA, off5_eq]

theorem valB_at (V : ValBlk) (k : Fin k0_t1_loop.trips) (d : Fin 64) (t : Fin 512) (h : 2 * (k : ℕ) - 1 < 16) :
    valB (F := Ideal) V k (ix4 0 0 d t) = V (ix4 0 ⟨2 * k - 1, h⟩ d t) := by
  pointwise [valB, off3_eq]

theorem pay3_at (acc : FVec Ideal S80x8192 .f32) (V : FVec Ideal S1x1x64x512 .bf16) (pb : FVec Ideal S512x8192 .bf16) (r : Fin 80) (i : Fin 8192) :
    k0_pay3 (F := Ideal) k0_pay6 acc V pb (ix2 r i)
      = acc (ix2 r i) + ∑ t : Fin 512, (if h : (r : ℕ) < 64 then V (ix4 0 0 ⟨r, h⟩ t) else 1) * pb (ix2 t i) := by
  pointwise [k0_pay3, k0_pay6]

theorem pay10_at (acc : FVec Ideal S80x8192 .f32) (V : FVec Ideal S1x1x64x512 .bf16) (pb : FVec Ideal S512x8192 .bf16) (r : Fin 80) (i : Fin 8192) :
    k0_pay10 (F := Ideal) acc V pb (ix2 r i)
      = acc (ix2 r i) + ∑ t : Fin 512, (if h : (r : ℕ) < 64 then V (ix4 0 0 ⟨r, h⟩ t) else 1) * pb (ix2 t i) := by
  pointwise [k0_pay10, k0_pay6]

theorem pay11_at (V : FVec Ideal S1x1x64x512 .bf16) (pb : FVec Ideal S512x8192 .bf16) (r : Fin 80) (i : Fin 8192) :
    k0_pay11 (F := Ideal) V pb (ix2 r i)
      = ∑ t : Fin 512, (if h : (r : ℕ) < 64 then V (ix4 0 0 ⟨r, h⟩ t) else 1) * pb (ix2 t i) := by
  pointwise [k0_pay11, k0_pay6]

theorem pay1_at (a b : FVec Ideal S80x8192 .f32) (d : Fin 64) (i : Fin 8192) :
    k0_pay1 (F := Ideal) a b (ix3 0 d i)
      = Ideal.div (a (ix2 ⟨d, by omega⟩ i) + b (ix2 ⟨d, by omega⟩ i)) (a (ix2 64 i) + b (ix2 64 i)) := by
  pointwise [k0_pay1]

/-- The sum over the tiles below `n`. -/
def upTo (K : KeyBlk) (V : ValBlk) (qa : QryBlk) (r : Fin 80) (i : Fin 8192) (n : ℕ) : EReal :=
  ∑ u ∈ Finset.range n, if h : u < 16 then tileSum K V qa r i ⟨u, h⟩ else 0

/-- Tile `u` as it is multiplied in, whichever vector holds its powers. -/
def part (V : ValBlk) (pb : FVec Ideal S512x8192 .bf16) (r : Fin 80) (i : Fin 8192) (u : Fin 16) : EReal :=
  ∑ t : Fin 512, row V r u t * pb (ix2 t i)

/-- The loop keeps: what is accumulated and the tile still pending are together the tiles seen so far. -/
theorem loopSt_inv (K : KeyBlk) (V : ValBlk) (qa : QryBlk) (r : Fin 80) (i : Fin 8192) :
    ∀ n : ℕ, (hn : n ≤ 8) →
      (loopSt (F := Ideal) K V qa n).1 (ix2 r i) + part V (loopSt (F := Ideal) K V qa n).2 r i ⟨2 * n - 1, by omega⟩
        = upTo K V qa r i (2 * n)
  | 0, _ => by
    have h0 : ∀ t : Fin 512, k0_pay7 (F := Ideal) (ix2 t i) = (0 : EReal) := fun t => by pointwise [k0_pay7]
    have h1 : k0_pay8 (F := Ideal) (ix2 r i) = (0 : EReal) := by pointwise [k0_pay8]
    show k0_pay8 (F := Ideal) (ix2 r i) + part V (k0_pay7 (F := Ideal)) r i _ = _
    unfold part upTo
    simp only [h0, h1, mul_zero]
    simp
  | n + 1, hn => by
    have ih := loopSt_inv K V qa r i n (by omega)
    have ht : n < k0_t1_loop.trips := by rw [trips_eq]; omega
    have e : loopSt (F := Ideal) K V qa (n + 1) = (accNext K V qa ⟨n, ht⟩ (loopSt K V qa n).1 (loopSt K V qa n).2, wB K qa ⟨n, ht⟩) := by
      show (if h : n < k0_t1_loop.trips then _ else _) = _
      rw [dif_pos ht]
    rw [e]
    have ea : ∀ a pb, accNext (F := Ideal) K V qa ⟨n, ht⟩ a pb (ix2 r i)
        = a (ix2 r i) + part V pb r i ⟨2 * n - 1, by omega⟩ + tileSum K V qa r i ⟨2 * n, by omega⟩ := by
      intro a pb
      unfold accNext
      rw [pay10_at, pay3_at]
      unfold part tileSum row
      refine congrArg₂ (· + ·) (congrArg₂ (· + ·) rfl ?_) ?_
      · refine Finset.sum_congr rfl fun t _ => ?_
        by_cases hr : (r : ℕ) < 64
        · rw [dif_pos hr, dif_pos hr, valB_at V ⟨n, ht⟩ ⟨r, hr⟩ t (by show 2 * n - 1 < 16; omega)]
        · rw [dif_neg hr, dif_neg hr]
      · refine Finset.sum_congr rfl fun t _ => ?_
        rw [wA_at K qa ⟨n, ht⟩ t i (by show 2 * n < 16; omega)]
        by_cases hr : (r : ℕ) < 64
        · rw [dif_pos hr, dif_pos hr, valA_at V ⟨n, ht⟩ ⟨r, hr⟩ t (by show 2 * n < 16; omega)]
        · rw [dif_neg hr, dif_neg hr]
    have eb : part V (wB (F := Ideal) K qa ⟨n, ht⟩) r i ⟨2 * n + 1, by omega⟩ = tileSum K V qa r i ⟨2 * n + 1, by omega⟩ := by
      unfold part tileSum
      refine Finset.sum_congr rfl fun t _ => ?_
      rw [wB_at K qa ⟨n, ht⟩ t i (by show 2 * n + 1 < 16; omega)]
    show accNext (F := Ideal) K V qa ⟨n, ht⟩ _ _ (ix2 r i) + part V (wB (F := Ideal) K qa ⟨n, ht⟩) r i ⟨2 * (n + 1) - 1, _⟩ = _
    rw [ea, ih]
    have ei : (⟨2 * (n + 1) - 1, by omega⟩ : Fin 16) = ⟨2 * n + 1, by omega⟩ := Fin.ext (by dsimp only; omega)
    rw [ei, eb]
    have e2 : 2 * (n + 1) = 2 * n + 1 + 1 := by omega
    unfold upTo
    rw [e2, Finset.sum_range_succ, Finset.sum_range_succ, dif_pos (show 2 * n < 16 by omega), dif_pos (show 2 * n + 1 < 16 by omega)]

/-- All sixteen tiles are all 8192 keys. -/
theorem upTo_all (K : KeyBlk) (V : ValBlk) (qa : QryBlk) (r : Fin 80) (i : Fin 8192) :
    upTo K V qa r i 16 = ∑ j : Fin 8192, row V r ⟨j / 512, by omega⟩ ⟨j % 512, by omega⟩ * pw K qa j i := by
  unfold upTo
  rw [Finset.sum_range]
  have hs := Fin.sum_univ_tiles 16 512 (N := 8192) rfl (fun j : Fin 8192 => row V r ⟨j / 512, by omega⟩ ⟨j % 512, by omega⟩ * pw K qa j i)
  refine Eq.trans ?_ hs.symm
  refine Finset.sum_congr rfl fun u _ => ?_
  rw [dif_pos u.isLt]
  unfold tileSum
  refine Finset.sum_congr rfl fun t _ => ?_
  have e1 : (⟨((u : ℕ) * 512 + t) / 512, by omega⟩ : Fin 16) = u := Fin.ext (by dsimp only; omega)
  have e2 : (⟨((u : ℕ) * 512 + t) % 512, by omega⟩ : Fin 512) = t := Fin.ext (by dsimp only; omega)
  show _ = row V r ⟨((u : ℕ) * 512 + t) / 512, _⟩ ⟨((u : ℕ) * 512 + t) % 512, _⟩ * _
  rw [e1, e2]

/-- What the whole loop, and the last pending tile after it, leave at one row and query. -/
theorem loopSt_all (K : KeyBlk) (V : ValBlk) (qa : QryBlk) (r : Fin 80) (i : Fin 8192) :
    (loopSt (F := Ideal) K V qa k0_t1_loop.trips).1 (ix2 r i)
      + k0_pay11 (View.ld V (Rect.unit (s := S1x16x64x512) ![0, 15, 0, 0] S1x1x64x512.size inb_S1x16x64x512_S1x1x64x512_0_15_0_0)) (loopSt (F := Ideal) K V qa k0_t1_loop.trips).2 (ix2 r i)
      = ∑ j : Fin 8192, row V r ⟨j / 512, by omega⟩ ⟨j % 512, by omega⟩ * pw K qa j i := by
  rw [← upTo_all, pay11_at]
  have h := loopSt_inv K V qa r i 8 (le_refl 8)
  rw [trips_eq]
  refine Eq.trans ?_ h
  refine congrArg₂ (· + ·) rfl ?_
  unfold part row
  refine Finset.sum_congr rfl fun t _ => ?_
  by_cases hr : (r : ℕ) < 64
  · rw [dif_pos hr, dif_pos hr]
    refine congrArg₂ (· * ·) ?_ rfl
    pointwise []
  · rw [dif_neg hr, dif_neg hr]

/-- The prepared queries: lane 96 carries minus the shift. -/
theorem pay5_at (x1 : KeyBlk) (s : Elt Ideal .f32) (i : Fin 8192) (l : Fin 128) :
    k0_pay5 (F := Ideal) x1 s (ix2 i l) = if (l : ℕ) = 96 then 0 - s else x1 (ix4 0 0 i l) := by
  have h : k0_pay5 (F := Ideal) x1 s (ix2 i l)
      = Scalar.select (IntOp.cmpi CmpIPredicate.eq (BitVec.ofNat 32 (l : ℕ)) 96#32) (0 - s) (x1 (ix4 0 0 i l)) := by
    pointwise [k0_pay5]
  rw [h]
  have e : ∀ l : Fin 128, IntOp.cmpi CmpIPredicate.eq (BitVec.ofNat 32 (l : ℕ)) 96#32 = if (l : ℕ) = 96 then 1#1 else 0#1 := by decide
  rw [e]
  by_cases hl : (l : ℕ) = 96
  · rw [if_pos hl, if_pos hl]; rfl
  · rw [if_neg hl, if_neg hl]; rfl

/-- The score of one query and one key of a head, as a real. -/
def scB (x1 x2 : KeyBlk) (i j : Fin 8192) : ℝ :=
  ∑ l : Fin 96, (x1 (ix4 0 0 i ⟨l, by omega⟩)).toReal * (x2 (ix4 0 0 j ⟨l, by omega⟩)).toReal

/-- The product over all 128 lanes is the score less the shift. -/
theorem pw_real (x1 x2 : KeyBlk) (s : Elt Ideal .f32) (h1 : ∀ x, x1 x = ((x1 x).toReal : EReal)) (h2 : ∀ x, x2 x = ((x2 x).toReal : EReal))
    (hs : s = ((EReal.toReal s : ℝ) : EReal)) (hone : ∀ j, x2 (ix4 0 0 j 96) = (1 : EReal))
    (hzero : ∀ j (l : Fin 128), 96 < (l : ℕ) → x2 (ix4 0 0 j l) = (0 : EReal)) (i j : Fin 8192) :
    pw x2 (k0_pay5 x1 s) j i = Ideal.exp2 ((scB x1 x2 i j - EReal.toReal s : ℝ) : EReal) := by
  unfold pw
  congr 1
  have hsum : (∑ l : Fin 128, x2 (ix4 0 0 j l) * k0_pay5 (F := Ideal) x1 s (ix2 i l))
      = (∑ l : Fin 96, x2 (ix4 0 0 j ⟨l, by omega⟩) * k0_pay5 (F := Ideal) x1 s (ix2 i ⟨l, by omega⟩))
        + ∑ l : Fin 32, x2 (ix4 0 0 j ⟨96 + l, by omega⟩) * k0_pay5 (F := Ideal) x1 s (ix2 i ⟨96 + l, by omega⟩) :=
    Fin.sum_univ_add (a := 96) (b := 32) (fun l : Fin 128 => x2 (ix4 0 0 j l) * k0_pay5 (F := Ideal) x1 s (ix2 i l))
  rw [hsum, Fin.sum_univ_succ (n := 31)]
  have hz : ∀ l : Fin 31, x2 (ix4 0 0 j ⟨96 + (l.succ : Fin 32), by omega⟩) * k0_pay5 (F := Ideal) x1 s (ix2 i ⟨96 + (l.succ : Fin 32), by omega⟩) = (0 : EReal) := by
    intro l
    rw [hzero j _ (by show 96 < 96 + ((l.succ : Fin 32) : ℕ); rw [Fin.val_succ]; omega)]
    exact zero_mul _
  rw [Finset.sum_eq_zero (fun l _ => hz l), add_zero]
  have hl : x2 (ix4 0 0 j ⟨96 + (0 : Fin 32), by omega⟩) * k0_pay5 (F := Ideal) x1 s (ix2 i ⟨96 + (0 : Fin 32), by omega⟩) = (0 - s : EReal) := by
    rw [pay5_at, if_pos (show (96 + ((0 : Fin 32) : ℕ)) = 96 by rfl)]
    refine (congrArg (· * (0 - s : EReal)) (hone j)).trans (one_mul _)
  rw [hl, scB, EReal.coe_sub, Cert.Soft.coe_sum, ← hs, zero_sub, ← sub_eq_add_neg]
  congr 1
  refine Finset.sum_congr rfl fun l _ => ?_
  rw [pay5_at, if_neg (show ¬ ((l : ℕ) = 96) by omega), EReal.coe_mul, ← h1, ← h2]
  exact mul_comm _ _

/-- The block a grid step leaves, at one row and query. -/
theorem outV_at (i : grid0.Coords) (x0 : FVec Ideal S16 .f32) (x1 x2 : KeyBlk) (x3 : ValBlk) (d : Fin 64) (q : Fin 8192) :
    outV (F := Ideal) i x0 x1 x2 x3 (ix3 0 d q)
      = Ideal.div (∑ j : Fin 8192, x3 (ix4 0 ⟨j / 512, by omega⟩ d ⟨j % 512, by omega⟩) * pw x2 (qAug (F := Ideal) i x0 x1) j q)
          (∑ j : Fin 8192, 1 * pw x2 (qAug (F := Ideal) i x0 x1) j q) := by
  unfold outV
  rw [pay1_at, loopSt_all, loopSt_all]
  congr 1
  refine Finset.sum_congr rfl fun j _ => ?_
  unfold row
  rw [dif_pos (show ((⟨d, by omega⟩ : Fin 80) : ℕ) < 64 from d.isLt)]

end Cert.BoundIdeal.Att

end
-- ==== Proof.BoundRef.lean ====
module

public import proofs.«01_k».proof.Proof.Gen.BoundRefIdeal.Run
public import Idealize.ShloMosaic.Lib.Pointwise
public import proofs.«01_k».proof.Proof.Soft

@[expose] public section

set_option maxRecDepth 16384

noncomputable section

namespace Cert.BoundRefIdeal.Att

open Cert.BoundRefIdeal Cert.BoundRefIdeal.Gen
open Idealize.ShloMosaic Idealize.ShloMosaic.TcCoe
open Facts

/-- The scores: every query against every key, over the 96 lanes that carry data. -/
def scores (X1 X2 : FVec Ideal S2x8x8192x128 .bf16) : FVec Ideal S2x8x8192x8192 .f32 :=
  Host.dotGeneral dot_S2x8x8192x96_S2x8x8192x96_S2x8x8192x8192_3_3_2_2_01_01 none (extf .f32 (extractStridedSlice S2x8x8192x96 ![0, 0, 0, 0] X1 slices_S2x8x8192x128_S2x8x8192x96_0_0_0_0) bitsLt_bf16_f32) (extf .f32 (extractStridedSlice S2x8x8192x96 ![0, 0, 0, 0] X2 slices_S2x8x8192x128_S2x8x8192x96_0_0_0_0) bitsLt_bf16_f32)

/-- Two to the power of the scores, each row's largest score taken off first. -/
def weights (X1 X2 : FVec Ideal S2x8x8192x128 .bf16) : FVec Ideal S2x8x8192x8192 .f32 :=
  Host.powf (broadcastInDim S2x8x8192x8192 ![] bcast_S_S2x8x8192x8192 (constant S_ .f32 0x40000000#32)) (subf (scores X1 X2) (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduce FloatOps.maximumf (scores X1 X2) (constant S_ .f32 0xFF800000#32) reducesTo_S2x8x8192x8192_S2x8x8192_d3 h_S_))))

/-- The attention weights: each row divided by its sum. -/
def probs (X1 X2 : FVec Ideal S2x8x8192x128 .bf16) : FVec Ideal S2x8x8192x8192 .f32 :=
  Host.divf (weights X1 X2) (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd (weights X1 X2) (constant S_ .f32 0x00000000#32) reducesTo_S2x8x8192x8192_S2x8x8192_d3 h_S_)))

/-- The values, one row of 64 for every key of a head. -/
def vals (X3 : FVec Ideal S2x16x512x512 .bf16) : FVec Ideal S2x8x8192x64 .f32 :=
  shapeCast _ (transpose S2x8x16x512x64 [0, 2, 1, 4, 3] (shapeCast _ (extf .f32 X3 bitsLt_bf16_f32) shapeCasts_S2x16x512x512_S2x16x8x64x512) transposes_S2x16x8x64x512_S2x8x16x512x64_0_2_1_4_3) shapeCasts_S2x8x16x512x64_S2x8x8192x64

/-- What the reference computes of its arguments. -/
def out (X1 X2 : FVec Ideal S2x8x8192x128 .bf16) (X3 : FVec Ideal S2x16x512x512 .bf16) : FVec Ideal S2x512x8192 .f32 :=
  shapeCast _ (transpose S2x8x64x8192 [0, 1, 3, 2] (Host.dotGeneral dot_S2x8x8192x8192_S2x8x8192x64_S2x8x8192x64_3_2_2_3_01_01 none (probs X1 X2) (vals X3)) transposes_S2x8x8192x64_S2x8x64x8192_0_1_3_2) shapeCasts_S2x8x64x8192_S2x512x8192

theorem scores_at (X1 X2 : FVec Ideal S2x8x8192x128 .bf16) (b : Fin 2) (h : Fin 8) (i j : Fin 8192) :
    scores X1 X2 (ix4 b h i j) = ∑ l : Fin 96, X1 (ix4 b h i ⟨l, by omega⟩) * X2 (ix4 b h j ⟨l, by omega⟩) := by
  pointwise [scores]

theorem weights_at (X1 X2 : FVec Ideal S2x8x8192x128 .bf16) (b : Fin 2) (h : Fin 8) (i j : Fin 8192) :
    weights X1 X2 (ix4 b h i j) = Ideal.pow ((2 : ℝ) : EReal)
      (scores X1 X2 (ix4 b h i j) - Finset.fold max (⊥ : EReal) (fun x => scores X1 X2 (ix4 b h i x)) Finset.univ) := by
  rw [← Cert.Soft.two_f32, ← Cert.Soft.ninf_f32]
  pointwise [weights]

theorem probs_at (X1 X2 : FVec Ideal S2x8x8192x128 .bf16) (b : Fin 2) (h : Fin 8) (i j : Fin 8192) :
    probs X1 X2 (ix4 b h i j) = Ideal.div (weights X1 X2 (ix4 b h i j)) (∑ x, weights X1 X2 (ix4 b h i x)) := by
  pointwise [probs]

theorem vals_at (X3 : FVec Ideal S2x16x512x512 .bf16) (b : Fin 2) (h : Fin 8) (i : Fin 8192) (d : Fin 64) :
    vals X3 (ix4 b h i d) = X3 (ix4 b ⟨i / 512, by omega⟩ ⟨h * 64 + d, by omega⟩ ⟨i % 512, by omega⟩) := by
  pointwise [vals]

theorem out_at (X1 X2 : FVec Ideal S2x8x8192x128 .bf16) (X3 : FVec Ideal S2x16x512x512 .bf16) (b : Fin 2) (r : Fin 512) (i : Fin 8192) :
    out X1 X2 X3 (ix3 b r i) = ∑ x : Fin 8192, probs X1 X2 (ix4 b ⟨r / 64, by omega⟩ i x)
      * X3 (ix4 b ⟨x / 512, by omega⟩ r ⟨x % 512, by omega⟩) := by
  have hr : ∀ x : Fin 8192, vals X3 (ix4 b ⟨r / 64, by omega⟩ x ⟨r % 64, by omega⟩) = X3 (ix4 b ⟨x / 512, by omega⟩ r ⟨x % 512, by omega⟩) := by
    intro x
    rw [vals_at]
    congr 2
    apply Fin.ext; show (r : ℕ) / 64 * 64 + r % 64 = r; omega
  simp only [← hr]
  pointwise [out]

/-- The score of one query and one key, as a real. -/
def sc (X1 X2 : FVec Ideal S2x8x8192x128 .bf16) (b : Fin 2) (h : Fin 8) (i j : Fin 8192) : ℝ :=
  ∑ l : Fin 96, (X1 (ix4 b h i ⟨l, by omega⟩)).toReal * (X2 (ix4 b h j ⟨l, by omega⟩)).toReal

theorem scores_real (X1 X2 : FVec Ideal S2x8x8192x128 .bf16) (h1 : ∀ x, X1 x = ((X1 x).toReal : EReal)) (h2 : ∀ x, X2 x = ((X2 x).toReal : EReal))
    (b : Fin 2) (h : Fin 8) (i j : Fin 8192) : scores X1 X2 (ix4 b h i j) = (sc X1 X2 b h i j : EReal) := by
  rw [scores_at, sc, Cert.Soft.coe_sum]
  refine Finset.sum_congr rfl fun l _ => ?_
  rw [EReal.coe_mul, ← h1, ← h2]

/-- The reference at an index, of real arguments. -/
theorem out_real (X1 X2 : FVec Ideal S2x8x8192x128 .bf16) (X3 : FVec Ideal S2x16x512x512 .bf16) (h1 : ∀ x, X1 x = ((X1 x).toReal : EReal))
    (h2 : ∀ x, X2 x = ((X2 x).toReal : EReal)) (b : Fin 2) (r : Fin 512) (i : Fin 8192) :
    ∃ M : ℝ, out X1 X2 X3 (ix3 b r i) = ∑ x : Fin 8192,
      Ideal.div (Ideal.pow ((2 : ℝ) : EReal) ((sc X1 X2 b ⟨r / 64, by omega⟩ i x - M : ℝ) : EReal))
        (∑ j : Fin 8192, Ideal.pow ((2 : ℝ) : EReal) ((sc X1 X2 b ⟨r / 64, by omega⟩ i j - M : ℝ) : EReal))
      * X3 (ix4 b ⟨x / 512, by omega⟩ r ⟨x % 512, by omega⟩) := by
  obtain ⟨M, hM⟩ := Cert.Soft.fold_max_real (fun x => sc X1 X2 b ⟨r / 64, by omega⟩ i x) Finset.univ ⟨(0 : Fin 8192), Finset.mem_univ _⟩
  refine ⟨M, ?_⟩
  rw [out_at]
  have hw : ∀ x, weights X1 X2 (ix4 b ⟨r / 64, by omega⟩ i x)
      = Ideal.pow ((2 : ℝ) : EReal) ((sc X1 X2 b ⟨r / 64, by omega⟩ i x - M : ℝ) : EReal) := by
    intro x
    rw [weights_at]
    simp only [scores_real X1 X2 h1 h2]
    rw [hM, EReal.coe_sub]
  refine Finset.sum_congr rfl fun x _ => ?_
  rw [probs_at]
  simp only [hw]

end Cert.BoundRefIdeal.Att

end
-- ==== Proof.BoundFinal.lean ====
module

public import proofs.«01_k».proof.Proof.BoundIdealFrame
public import proofs.«01_k».proof.Proof.BoundValue
public import proofs.«01_k».proof.Proof.BoundRef
public import Idealize.ShloMosaic.Lib.Pipeline.ValueKit

@[expose] public section

set_option maxRecDepth 16384

noncomputable section

namespace Cert.BoundIdeal.Att

open Cert.BoundIdeal Cert.BoundIdeal.Gen
open Idealize.ShloMosaic Idealize.ShloMosaic.TcCoe Idealize.SL.Sem

variable (m : (ℓ : Loc nD τ sig) → Buf (Elt Ideal) ℓ)

/-- The four arguments, at their shapes. -/
abbrev argS (c : Dev nD) : FVec Ideal S2x8 .f32 := m ((c : Thread nD τ).loc main_arg0)
abbrev argQ (c : Dev nD) : FVec Ideal S2x8x8192x128 .bf16 := m ((c : Thread nD τ).loc main_arg1)
abbrev argK (c : Dev nD) : FVec Ideal S2x8x8192x128 .bf16 := m ((c : Thread nD τ).loc main_arg2)
abbrev argV (c : Dev nD) : FVec Ideal S2x16x512x512 .bf16 := m ((c : Thread nD τ).loc main_arg3)

theorem idx : ∀ t : Fin cfg0.N, win0_0.index t = ![0] ∧ win0_1.index t = ![t.val / 8, t.val % 8, 0, 0]
    ∧ win0_2.index t = ![t.val / 8, t.val % 8, 0, 0] ∧ win0_3.index t = ![t.val / 8, 0, t.val % 8, 0]
    ∧ win0_4.index t = ![t.val / 8, t.val % 8, 0] ∧ t.val < 16 :=
  (by decide +kernel : ∀ t : Fin grid0.N, _)

theorem t_lt (t : Fin cfg0.N) : t.val < 16 := (idx t).2.2.2.2.2

theorem blkQ (c : Dev nD) (t : Fin cfg0.N) (j : Fin 8192) (l : Fin 128) :
    iblk m c 1 t (ix4 0 0 j l) = argQ m c (ix4 ⟨t.val / 8, by have := t_lt t; omega⟩ ⟨t.val % 8, by omega⟩ j l) := by
  have := t_lt t
  blk_ext! [iblk, V, idx t]

theorem blkK (c : Dev nD) (t : Fin cfg0.N) (j : Fin 8192) (l : Fin 128) :
    iblk m c 2 t (ix4 0 0 j l) = argK m c (ix4 ⟨t.val / 8, by have := t_lt t; omega⟩ ⟨t.val % 8, by omega⟩ j l) := by
  have := t_lt t
  blk_ext! [iblk, V, idx t]

theorem blkV (c : Dev nD) (t : Fin cfg0.N) (u : Fin 16) (d : Fin 64) (j : Fin 512) :
    iblk m c 3 t (ix4 0 u d j) = argV m c (ix4 ⟨t.val / 8, by have := t_lt t; omega⟩ u ⟨t.val % 8 * 64 + d, by omega⟩ j) := by
  have := t_lt t
  blk_ext! [iblk, V, idx t]

theorem blkS (c : Dev nD) (t : Fin cfg0.N) (k : Fin 16) :
    iblk m c 0 t (ix1 k) = argS m c (ix2 ⟨k.val / 8, by omega⟩ ⟨k.val % 8, by omega⟩) := by
  have := t_lt t
  blk_ext! [iblk, V, idx t]

theorem coords_eq : ∀ t : Fin cfg0.N, 8 * (grid0.coords t 0).val + (grid0.coords t 1).val = t.val :=
  (by decide +kernel : ∀ t : Fin grid0.N, _)

/-- The shift the body loads at a grid step is that of the step's head. -/
theorem shift_at (c : Dev nD) (t : Fin cfg0.N) :
    View.ld (iblk m c 0 t) (Rect.unit (s := S16) (k0_off1 (grid0.coords t)) S1.size (k0_off1_inb (grid0.coords t))) (Shape.Idx.first (s := S1) (by decide))
      = argS m c (ix2 ⟨t.val / 8, by have := t_lt t; omega⟩ ⟨t.val % 8, by omega⟩) := by
  have ht := t_lt t
  have e : (Rect.unit (s := S16) (k0_off1 (grid0.coords t)) S1.size (k0_off1_inb (grid0.coords t))).emb (Shape.Idx.first (s := S1) (by decide))
      = ix1 ⟨t.val, ht⟩ := by
    funext a
    apply Fin.ext
    match a with
    | ⟨0, _⟩ =>
      show k0_off1 (grid0.coords t) 0 + 1 * 0 = t.val
      rw [k0_off1_eq]
      have := coords_eq t
      show 8 * (grid0.coords t 0).val + (grid0.coords t 1).val + 1 * 0 = t.val
      omega
  have h := blkS m c t ⟨t.val, ht⟩
  refine Eq.trans ?_ h
  exact congrArg (iblk m c 0 t) e

/-- What a real argument means, for the four arguments: every element is a real number, lane 96 of the keys is one and the lanes after it zero. -/
structure Good (X0 : FVec Ideal S2x8 .f32) (X1 X2 : FVec Ideal S2x8x8192x128 .bf16) (X3 : FVec Ideal S2x16x512x512 .bf16) : Prop where
  s : ∀ x, X0 x = ((X0 x).toReal : EReal)
  q : ∀ x, X1 x = ((X1 x).toReal : EReal)
  k : ∀ x, X2 x = ((X2 x).toReal : EReal)
  v : ∀ x, X3 x = ((X3 x).toReal : EReal)
  one : ∀ b h j, X2 (ix4 b h j 96) = (1 : EReal)
  zero : ∀ b h j (l : Fin 128), 96 < (l : ℕ) → X2 (ix4 b h j l) = (0 : EReal)

variable {m}

/-- One element of one grid step's block is the reference's. -/
theorem point (c : Dev nD) (hg : Good (argS m c) (argQ m c) (argK m c) (argV m c)) (t : Fin cfg0.N) (d : Fin 64) (q : Fin 8192) :
    outAt m c t (ix3 0 d q) = Cert.BoundRefIdeal.Att.out (argQ m c) (argK m c) (argV m c)
      (ix3 ⟨t.val / 8, by have := t_lt t; omega⟩ ⟨t.val % 8 * 64 + d, by omega⟩ q) := by
  have ht := t_lt t
  obtain ⟨M, hM⟩ := Cert.BoundRefIdeal.Att.out_real (argQ m c) (argK m c) (argV m c) hg.q hg.k
    ⟨t.val / 8, by omega⟩ ⟨t.val % 8 * 64 + d, by omega⟩ q
  rw [hM]
  have eh : (⟨(t.val % 8 * 64 + (d : ℕ)) / 64, by omega⟩ : Fin 8) = ⟨t.val % 8, by omega⟩ := Fin.ext (by dsimp only; omega)
  unfold outAt
  rw [outV_at]
  have hp : ∀ j : Fin 8192, pw (iblk m c 2 t) (qAug (F := Ideal) (grid0.coords t) (iblk m c 0 t) (iblk m c 1 t)) j q
      = Ideal.exp2 ((Cert.BoundRefIdeal.Att.sc (argQ m c) (argK m c) ⟨t.val / 8, by omega⟩ ⟨t.val % 8, by omega⟩ q j
          - (argS m c (ix2 ⟨t.val / 8, by omega⟩ ⟨t.val % 8, by omega⟩)).toReal : ℝ) : EReal) := by
    intro j
    unfold qAug
    rw [shift_at]
    rw [pw_real (iblk m c 1 t) (iblk m c 2 t) _ ?_ ?_ (hg.s _) ?_ ?_]
    · congr 2
      unfold scB Cert.BoundRefIdeal.Att.sc
      simp only [blkQ, blkK]
    · intro x
      obtain ⟨a, b, i, l, rfl⟩ : ∃ a b i l, x = ix4 a b i l := ⟨_, _, _, _, eq_ix4 x⟩
      obtain rfl : a = 0 := Subsingleton.elim _ _
      obtain rfl : b = 0 := Subsingleton.elim _ _
      rw [blkQ]; exact hg.q _
    · intro x
      obtain ⟨a, b, i, l, rfl⟩ : ∃ a b i l, x = ix4 a b i l := ⟨_, _, _, _, eq_ix4 x⟩
      obtain rfl : a = 0 := Subsingleton.elim _ _
      obtain rfl : b = 0 := Subsingleton.elim _ _
      rw [blkK]; exact hg.k _
    · intro i; rw [blkK]; exact hg.one _ _ _
    · intro i l hl; rw [blkK]; exact hg.zero _ _ _ l hl
  simp only [hp, blkV]
  have hf := Cert.Soft.shift_free (n := 8192) (by omega)
    (fun j => Cert.BoundRefIdeal.Att.sc (argQ m c) (argK m c) ⟨t.val / 8, by omega⟩ ⟨t.val % 8, by omega⟩ q j)
    (fun j => (argV m c (ix4 ⟨t.val / 8, by omega⟩ ⟨j / 512, by omega⟩ ⟨t.val % 8 * 64 + d, by omega⟩ ⟨j % 512, by omega⟩)).toReal)
    (argS m c (ix2 ⟨t.val / 8, by omega⟩ ⟨t.val % 8, by omega⟩)).toReal M
  simp only [← hg.v] at hf
  rw [eh]
  exact hf

/-- The result array of the whole run is the reference's. -/
theorem final (c : Dev nD) (hg : Good (argS m c) (argQ m c) (argK m c) (argV m c)) :
    (dats m 0 c).arrAt 4 cfg0.N = Cert.BoundRefIdeal.Att.out (argQ m c) (argK m c) (argV m c) := by
  refine (dats m 0 c).arrAt_eq_of_covers 4 _ (by decide +kernel) fun t _ y => ?_
  obtain ⟨a, d, q, rfl⟩ : ∃ a d q, y = ix3 a d q := ⟨_, _, _, eq_ix3 y⟩
  obtain rfl : a = 0 := Subsingleton.elim _ _
  rw [after0_4]
  refine (point c hg t d q).trans ?_
  have ht := t_lt t
  congr 1
  blk_ext! [idx t]

end Cert.BoundIdeal.Att

end
-- ==== Proof.BoundPre.lean ====
module

public import proofs.«01_k».proof.Defs
public import proofs.«01_k».proof.Proof.BoundFinal
public import proofs.«01_k».proof.Proof.Gen.Pre_finite
public import Idealize.ShloMosaic.Lib.ReduceAll
public import Idealize.ShloMosaic.Lib.WordCmp

@[expose] public section

set_option maxRecDepth 16384

noncomputable section

namespace Cert.BoundPre

open Cert.Pre_finite Cert.Pre_finite.Gen
open Idealize.ShloMosaic
open Facts

theorem and1 : ∀ a b : BitVec 1, IntOp.andi a b = 1#1 → a = 1#1 ∧ b = 1#1 := by decide
theorem or1 : ∀ a b : BitVec 1, IntOp.ori a b = 1#1 → a = 1#1 ∨ b = 1#1 := by decide

/-- An extended real whose magnitude is below the infinity is a real. -/
theorem real_of_lt (x : EReal) (h : max x (-x) < (⊤ : EReal)) : x = ((x.toReal : ℝ) : EReal) := by
  refine (EReal.coe_toReal ?_ ?_).symm
  · rintro rfl; simp at h
  · rintro rfl; simp at h

theorem inf_f32 : Ideal.ofBits .f32 0x7F800000#32 = (⊤ : EReal) := by
  simp [Ideal.ofBits, Ideal.ieee]

variable (X0 : FVec Ideal S2x8 .f32) (X1 X2 : FVec Ideal S2x8x8192x128 .bf16) (X3 : FVec Ideal S2x16x512x512 .bf16)

instance : Subsingleton S_.Idx := ⟨fun _ _ => funext fun a => a.elim0⟩

theorem ofBool_one (p : Prop) [Decidable p] (h : BitVec.ofBool (decide p) = 1#1) : p := by
  by_cases hp : p
  · exact hp
  · rw [decide_eq_false hp] at h; exact absurd h (by decide)

/-- One element's test against the infinity says that the element is a real. -/
theorem real_of_test (x : EReal) (h : BitVec.ofBool (decide (max x (-x) < Ideal.ofBits .f32 0x7F800000#32)) = 1#1) :
    x = ((x.toReal : ℝ) : EReal) :=
  real_of_lt x (by have := ofBool_one _ h; rwa [inf_f32] at this)

theorem lanes : ∀ l : Fin 128, IntOp.cmpi CmpIPredicate.eq (BitVec.ofNat 32 (l : ℕ)) 96#32 = (if (l : ℕ) = 96 then 1#1 else 0#1)
    ∧ IntOp.cmpi CmpIPredicate.slt (BitVec.ofNat 32 (l : ℕ)) 96#32 = (if (l : ℕ) < 96 then 1#1 else 0#1) := by decide

/-- What the precondition says of the four arguments. -/
theorem good (h : Cert.Pre_finite.fn (F := Ideal) X0 X1 X2 X3 = fun _ => 1#1) : Cert.BoundIdeal.Att.Good X0 X1 X2 X3 := by
  have h := congrFun h ix0
  unfold Cert.Pre_finite.fn fn_part1 fn_part2 at h
  dsimp only at h
  obtain ⟨h, h4⟩ := and1 _ _ h
  obtain ⟨h, h3⟩ := and1 _ _ h
  obtain ⟨h, h2⟩ := and1 _ _ h
  obtain ⟨h0, h1⟩ := and1 _ _ h
  have h0 := Host.reduce_andi_all _ _ _ _ _ h0
  have h1 := Host.reduce_andi_all _ _ _ _ _ h1
  have h2 := Host.reduce_andi_all _ _ _ _ _ h2
  have h3 := Host.reduce_andi_all _ _ _ _ _ h3
  have h4 := Host.reduce_andi_all _ _ _ _ _ h4
  have g4 : ∀ (b : Fin 2) (h : Fin 8) (i : Fin 8192) (l : Fin 128), Scalar.select (IntOp.cmpi CmpIPredicate.eq (BitVec.ofNat 32 (l : ℕ)) 96#32) (BitVec.ofBool (decide ((X2 (ix4 b h i l) : EReal) = 1)))
        (IntOp.ori (IntOp.cmpi CmpIPredicate.slt (BitVec.ofNat 32 (l : ℕ)) 96#32) (BitVec.ofBool (decide ((X2 (ix4 b h i l) : EReal) = 0)))) = 1#1 := by
    intro b h i l
    have := h4 (ix4 b h i l)
    revert this
    pointwise [fn_where]
    exact id
  refine ⟨fun x => real_of_test _ (h0 x), fun x => real_of_test _ (h1 x), fun x => real_of_test _ (h2 x), fun x => real_of_test _ (h3 x), ?_, ?_⟩
  · intro b h j
    have := g4 b h j 96
    rw [(lanes 96).1, if_pos (show ((96 : Fin 128) : ℕ) = 96 by decide)] at this
    exact ofBool_one _ this
  · intro b h j l hl
    have := g4 b h j l
    rw [(lanes l).1, (lanes l).2, if_neg (by omega), if_neg (by omega)] at this
    rcases or1 _ _ this with h | h
    · exact absurd h (by decide)
    · exact ofBool_one _ h

end Cert.BoundPre

end
-- ==== Proof.FfnPieces.lean ====
module

public import proofs.«01_k».proof.Proof.Gen.FfnIdeal.Value
public import Idealize.ShloMosaic.Lib.Pipeline.ValueKit
public import Idealize.ShloMosaic.Lib.Tactic

@[expose] public section

set_option maxRecDepth 16384

noncomputable section

namespace Cert.FfnIdeal.Att

open Cert.FfnIdeal Cert.FfnIdeal.Gen
open Idealize.ShloMosaic Idealize.ShloMosaic.TcCoe Idealize.SL.Sem

/-! ## The two scratch buffers as lists of stored pieces

The kernel keeps the up-projection's columns in a buffer of eight slabs of 544 rows by 128 lanes, and the gated
activations in a buffer of 512 rows by 2816 lanes, written 128 lanes at a time. -/

/-- A read inside the newest slab of the columns' buffer is that slab's own element. -/
theorem slab_hit (a b d a' b' d' : ℕ) (inb) (w : (Rect.unit (s := S2x2x2x544x128) ![a, b, d, 0, 0] S1x1x1x544x128.size inb).shape.Idx → Elt Ideal .f32)
    (L : List (View.Piece (Elt Ideal) S2x2x2x544x128 .f32)) (y : S2x2x2x544x128.Idx) (r : Fin 544) (l : Fin 128)
    (h0 : (y 0 : ℕ) = a) (h1 : (y 1 : ℕ) = b) (h2 : (y 2 : ℕ) = d) (h3 : (y 3 : ℕ) = r) (h4 : (y 4 : ℕ) = l) :
    View.canon (⟨Rect.unit (s := S2x2x2x544x128) ![a, b, d, 0, 0] S1x1x1x544x128.size inb, w⟩ :: L) y = w (ix5 0 0 0 r l) := by
  have hy : y = (Rect.unit (s := S2x2x2x544x128) ![a, b, d, 0, 0] S1x1x1x544x128.size inb).emb (ix5 0 0 0 r l) := by
    funext q
    apply Fin.ext
    match q with
    | ⟨0, _⟩ => exact h0
    | ⟨1, _⟩ => exact h1
    | ⟨2, _⟩ => exact h2
    | ⟨3, _⟩ => show (y 3 : ℕ) = 0 + 1 * (r : ℕ); omega
    | ⟨4, _⟩ => show (y 4 : ℕ) = 0 + 1 * (l : ℕ); omega
  rw [hy]
  exact Rect.overlay_emb _ _ _ _

/-- A read outside the newest slab is a read of the older ones. -/
theorem slab_miss (a b d : ℕ) (inb) (w : (Rect.unit (s := S2x2x2x544x128) ![a, b, d, 0, 0] S1x1x1x544x128.size inb).shape.Idx → Elt Ideal .f32)
    (L : List (View.Piece (Elt Ideal) S2x2x2x544x128 .f32)) (y : S2x2x2x544x128.Idx)
    (h : (y 0 : ℕ) ≠ a ∨ (y 1 : ℕ) ≠ b ∨ (y 2 : ℕ) ≠ d) :
    View.canon (⟨Rect.unit (s := S2x2x2x544x128) ![a, b, d, 0, 0] S1x1x1x544x128.size inb, w⟩ :: L) y = View.canon L y := by
  refine Rect.overlay_of_not_mem _ _ _ ?_
  intro hm
  rw [Rect.mem_set_unit] at hm
  have e0 : a ≤ (y 0 : ℕ) ∧ (y 0 : ℕ) < a + 1 := hm 0
  have e1 : b ≤ (y 1 : ℕ) ∧ (y 1 : ℕ) < b + 1 := hm 1
  have e2 : d ≤ (y 2 : ℕ) ∧ (y 2 : ℕ) < d + 1 := hm 2
  omega

/-- The lanes from `128·lo` to `128·hi` of the activations' buffer hold `act`, after the stores `L`. -/
def Holds (act : Fin 512 → ℕ → EReal) (L : List (View.Piece (Elt Ideal) S512x2816 .bf16)) (lo hi : ℕ) : Prop :=
  ∀ (r : Fin 512) (k : Fin 2816), 128 * lo ≤ (k : ℕ) → (k : ℕ) < 128 * hi → View.canon L (ix2 r k) = act r k

theorem holds_empty (act : Fin 512 → ℕ → EReal) (L : List (View.Piece (Elt Ideal) S512x2816 .bf16)) (lo : ℕ) : Holds act L lo lo := by
  intro r k h h'
  omega

/-- One more stored piece of 128 lanes. -/
theorem holds_cons (act : Fin 512 → ℕ → EReal) (L : List (View.Piece (Elt Ideal) S512x2816 .bf16)) (lo hi o : ℕ) (inb)
    (w : (Rect.unit (s := S512x2816) ![0, o] S512x128.size inb).shape.Idx → Elt Ideal .bf16) (ho : o = 128 * hi)
    (hw : ∀ (r : Fin 512) (l : Fin 128), w (ix2 r l) = act r (o + l)) (hL : Holds act L lo hi) :
    Holds act (⟨Rect.unit (s := S512x2816) ![0, o] S512x128.size inb, w⟩ :: L) lo (hi + 1) := by
  intro r k h1 h2
  subst ho
  by_cases hk : 128 * hi ≤ (k : ℕ)
  · have hy : ix2 r k = (Rect.unit (s := S512x2816) ![0, 128 * hi] S512x128.size inb).emb (ix2 r ⟨(k : ℕ) - 128 * hi, by omega⟩) := by
      funext q
      apply Fin.ext
      match q with
      | ⟨0, _⟩ => show (r : ℕ) = 0 + 1 * (r : ℕ); omega
      | ⟨1, _⟩ => show (k : ℕ) = 128 * hi + 1 * ((k : ℕ) - 128 * hi); omega
    rw [hy]
    refine (Rect.overlay_emb _ _ _ _).trans ((hw _ _).trans ?_)
    congr 1
    show 128 * hi + ((k : ℕ) - 128 * hi) = (k : ℕ)
    omega
  · refine Eq.trans (Rect.overlay_of_not_mem _ _ _ ?_) (hL r k h1 (by omega))
    intro hm
    rw [Rect.mem_set_unit] at hm
    have e1 : 128 * hi ≤ (k : ℕ) ∧ (k : ℕ) < 128 * hi + 128 := hm 1
    omega

/-- A load of `n` lanes from `128·lo` on, of a buffer that holds `act` there. -/
theorem load_act (act : Fin 512 → ℕ → EReal) (v : View sig .tc .vmem S512x2816 .bf16) (L : List (View.Piece (Elt Ideal) S512x2816 .bf16)) (lo hi n o : ℕ) (inb)
    (ho : o = 128 * lo) (hn : o + n ≤ 128 * hi) (h : Holds act L lo hi) (r : Fin 512) (k : Fin n) :
    v.readCov L (Rect.unit (s := S512x2816) ![0, o] ![512, n] inb).toLoadRect (ix2 r k) = act r (o + k) := by
  subst ho
  have hi2 : 128 * lo + n ≤ 2816 := inb 1
  rw [View.readCov_eq_canon']
  refine Eq.trans ?_ (h r ⟨128 * lo + k, by omega⟩ (by show 128 * lo ≤ 128 * lo + (k : ℕ); omega) (by show 128 * lo + (k : ℕ) < _; omega))
  refine congrArg (View.canon L) ?_
  funext q
  apply Fin.ext
  match q with
  | ⟨0, _⟩ => show 0 + 1 * (r : ℕ) = (r : ℕ); omega
  | ⟨1, _⟩ => show 128 * lo + 1 * (k : ℕ) = 128 * lo + (k : ℕ); omega

/-! ## The whole tail: the down projection in three groups of columns, the norm and the residual -/

/-- The down projection of the activations. -/
def down (act : Fin 512 → ℕ → EReal) (X8 : FVec Ideal S2816x1024 .bf16) (r : Fin 512) (d : Fin 1024) : EReal :=
  (∑ k : Fin 1024, act r (0 + k) * X8 (ix2 ⟨0 + k, by omega⟩ d) + ∑ k : Fin 1024, act r (1024 + k) * X8 (ix2 ⟨1024 + k, by omega⟩ d))
    + ∑ k : Fin 768, act r (2048 + k) * X8 (ix2 ⟨2048 + k, by omega⟩ d)

/-- The output row: the residual plus the normed down projection. -/
def outRow (y : Fin 512 → Fin 1024 → EReal) (X2 : FVec Ideal S1x512x1024 .f32) (X9 : FVec Ideal S1x1024 .f32) (r : Fin 512) (d : Fin 1024) : EReal :=
  X2 (ix3 0 r d) + y r d * Ideal.rsqrt (Ideal.div (∑ e : Fin 1024, y r e * y r e) (Ideal.ofBits .f32 0x44800000#32) + Ideal.ofBits .f32 0x358637BD#32) * X9 (ix2 0 d)

theorem tail_at (A0 A1 : Vec Ideal S512x1024 .bf16) (A2 : Vec Ideal S512x768 .bf16) (W0 W1 : Vec Ideal S1024x1024 .bf16) (W2 : Vec Ideal S768x1024 .bf16)
    (X2 : Vec Ideal S1x512x1024 .f32) (X9 : Vec Ideal S1x1024 .f32) (r : Fin 512) (d : Fin 1024) :
    k0_pay1 (F := Ideal) (k0_pay147 (k0_pay82 A0 W0) A1 W1) A2 W2 X2 X9 (ix3 0 r d)
      = outRow (fun r d => (∑ k : Fin 1024, A0 (ix2 r k) * W0 (ix2 k d) + ∑ k : Fin 1024, A1 (ix2 r k) * W1 (ix2 k d)) + ∑ k : Fin 768, A2 (ix2 r k) * W2 (ix2 k d)) X2 X9 r d := by
  unfold outRow
  pointwise [k0_pay1, k0_pay147, k0_pay82]

/-- The output row from the activations, over any three loads that hold them and the three row groups of the weight. -/
theorem tail_of (act : Fin 512 → ℕ → EReal) (X8 : FVec Ideal S2816x1024 .bf16)
    (A0 A1 : Vec Ideal S512x1024 .bf16) (A2 : Vec Ideal S512x768 .bf16) (W0 W1 : Vec Ideal S1024x1024 .bf16) (W2 : Vec Ideal S768x1024 .bf16)
    (X2 : Vec Ideal S1x512x1024 .f32) (X9 : Vec Ideal S1x1024 .f32) (r : Fin 512) (d : Fin 1024)
    (hA0 : ∀ r k, A0 (ix2 r k) = act r (0 + k)) (hA1 : ∀ r k, A1 (ix2 r k) = act r (1024 + k)) (hA2 : ∀ r k, A2 (ix2 r k) = act r (2048 + k))
    (hW0 : ∀ (k : Fin 1024) d, W0 (ix2 k d) = X8 (ix2 ⟨0 + k, by omega⟩ d)) (hW1 : ∀ (k : Fin 1024) d, W1 (ix2 k d) = X8 (ix2 ⟨1024 + k, by omega⟩ d))
    (hW2 : ∀ (k : Fin 768) d, W2 (ix2 k d) = X8 (ix2 ⟨2048 + k, by omega⟩ d)) :
    k0_pay1 (F := Ideal) (k0_pay147 (k0_pay82 A0 W0) A1 W1) A2 W2 X2 X9 (ix3 0 r d) = outRow (down act X8) X2 X9 r d := by
  rw [tail_at]
  simp only [hA0, hA1, hA2, hW0, hW1, hW2]
  rfl

/-! ## One column of the up-projection, the convolution and the gate -/

/-- Row `r` of the normed tile against column `f` of the up-projection. -/
def up (H : FVec Ideal S544x1024 .bf16) (X5 : FVec Ideal S1024x5632 .bf16) (r : Fin 544) (f : Fin 5632) : EReal :=
  ∑ d : Fin 1024, H (ix2 r d) * X5 (ix2 d f)

/-- The convolution over three neighbouring rows, and its bias. -/
def conv (H : FVec Ideal S544x1024 .bf16) (X5 : FVec Ideal S1024x5632 .bf16) (X6 : FVec Ideal S3x5632 .f32) (X7 : FVec Ideal S1x5632 .f32)
    (r : Fin 512) (f : Fin 5632) : EReal :=
  X7 (ix2 0 f) + up H X5 ⟨15 + r, by omega⟩ f * X6 (ix2 0 f) + up H X5 ⟨16 + r, by omega⟩ f * X6 (ix2 1 f) + up H X5 ⟨17 + r, by omega⟩ f * X6 (ix2 2 f)

/-- The gate's nonlinearity. -/
def gelu (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g))))))

/-- The gated activation in lane `k`: the gate from column `k`, the value from column `2816 + k`. -/
def act (H : FVec Ideal S544x1024 .bf16) (X5 : FVec Ideal S1024x5632 .bf16) (X6 : FVec Ideal S3x5632 .f32) (X7 : FVec Ideal S1x5632 .f32)
    (r : Fin 512) (k : ℕ) : EReal :=
  if h : k < 2816 then gelu (conv H X5 X6 X7 r ⟨k, by omega⟩) * conv H X5 X6 X7 r ⟨2816 + k, by omega⟩ else 0

end Cert.FfnIdeal.Att
-- ==== Proof.FfnGates.lean ====
module

public import proofs.«01_k».proof.Proof.FfnPieces

@[expose] public section

set_option maxRecDepth 16384

noncomputable section

namespace Cert.FfnIdeal.Att

open Cert.FfnIdeal Cert.FfnIdeal.Gen
open Idealize.ShloMosaic Idealize.ShloMosaic.TcCoe Idealize.SL.Sem

/-- The convolution of one lane from its loads: the bias, then the three rows against the three weights. -/
def cv (cw : Vec Ideal S3x128 .f32) (cb : Vec Ideal S1x128 .f32) (U0 U1 U2 : Vec Ideal S1x1x1x512x128 .f32) (r : Fin 512) (l : Fin 128) : EReal :=
  cb (ix2 0 l) + U0 (ix5 0 0 0 r l) * cw (ix2 0 l) + U1 (ix5 0 0 0 r l) * cw (ix2 1 l) + U2 (ix5 0 0 0 r l) * cw (ix2 2 l)

theorem gate_0 (v98 v139 : Vec Ideal S3x128 .f32) (v99 v140 : Vec Ideal S1x128 .f32) (v103 v112 v120 v144 v153 v161 : Vec Ideal S1x1x1x512x128 .f32) (r : Fin 512) (l : Fin 128) :
    k0_pay27 (F := Ideal) (k0_pay23 (k0_pay20 v98 v99 v103 v112 v120) (k0_pay21 v98 v99 v103 v112 v120) (k0_pay22 (F := Ideal))) (k0_pay24 v139 v140 v144 v153) (k0_pay25 v161) (k0_pay26 v139) (ix2 r l) = gelu (cv v98 v99 v103 v112 v120 r l) * cv v139 v140 v144 v153 v161 r l := by
  unfold gelu cv
  pointwise [k0_pay20, k0_pay21, k0_pay22, k0_pay23, k0_pay24, k0_pay25, k0_pay26, k0_pay27]

theorem gate_1 (v172 v213 : Vec Ideal S3x128 .f32) (v173 v214 : Vec Ideal S1x128 .f32) (v177 v186 v194 v218 v227 v235 : Vec Ideal S1x1x1x512x128 .f32) (r : Fin 512) (l : Fin 128) :
    k0_pay32 (F := Ideal) (k0_pay30 (k0_pay28 v172 v173 v177 v186) (k0_pay29 v172 v194)) v213 (k0_pay31 v213 v214 v218 v227) v235 (ix2 r l) = gelu (cv v172 v173 v177 v186 v194 r l) * cv v213 v214 v218 v227 v235 r l := by
  unfold gelu cv
  pointwise [k0_pay28, k0_pay29, k0_pay30, k0_pay31, k0_pay32]

theorem gate_2 (v268 v309 : Vec Ideal S3x128 .f32) (v269 v310 : Vec Ideal S1x128 .f32) (v273 v282 v290 v314 v323 v331 : Vec Ideal S1x1x1x512x128 .f32) (r : Fin 512) (l : Fin 128) :
    k0_pay44 (F := Ideal) (k0_pay42 (k0_pay40 v268 v269 v273 v282 v290) (k0_pay41 v268 v269 v273 v282 v290)) v309 (k0_pay43 v309 v310 v314 v323) v331 (ix2 r l) = gelu (cv v268 v269 v273 v282 v290 r l) * cv v309 v310 v314 v323 v331 r l := by
  unfold gelu cv
  pointwise [k0_pay40, k0_pay41, k0_pay42, k0_pay43, k0_pay44]

theorem gate_3 (v342 v383 : Vec Ideal S3x128 .f32) (v343 v384 : Vec Ideal S1x128 .f32) (v347 v356 v364 v388 v397 v405 : Vec Ideal S1x1x1x512x128 .f32) (r : Fin 512) (l : Fin 128) :
    k0_pay50 (F := Ideal) (k0_pay48 (k0_pay45 v342 v343 v347 v356) (k0_pay46 v364) (k0_pay47 v342)) v383 (k0_pay49 v383 v384 v388 v397) v405 (ix2 r l) = gelu (cv v342 v343 v347 v356 v364 r l) * cv v383 v384 v388 v397 v405 r l := by
  unfold gelu cv
  pointwise [k0_pay45, k0_pay46, k0_pay47, k0_pay48, k0_pay49, k0_pay50]

theorem gate_4 (v438 v479 : Vec Ideal S3x128 .f32) (v439 v480 : Vec Ideal S1x128 .f32) (v443 v452 v460 v484 v493 v501 : Vec Ideal S1x1x1x512x128 .f32) (r : Fin 512) (l : Fin 128) :
    k0_pay60 (F := Ideal) (k0_pay58 (k0_pay57 v438 v439 v443 v452 v460)) v479 (k0_pay59 v479 v480 v484 v493) v501 (ix2 r l) = gelu (cv v438 v439 v443 v452 v460 r l) * cv v479 v480 v484 v493 v501 r l := by
  unfold gelu cv
  pointwise [k0_pay57, k0_pay58, k0_pay59, k0_pay60]

theorem gate_5 (v512 v553 : Vec Ideal S3x128 .f32) (v513 v554 : Vec Ideal S1x128 .f32) (v517 v526 v534 v558 v567 v575 : Vec Ideal S1x1x1x512x128 .f32) (r : Fin 512) (l : Fin 128) :
    k0_pay64 (F := Ideal) (k0_pay62 v512 (k0_pay61 v512 v513 v517 v526) v534) v553 (k0_pay63 v553 v554 v558 v567) v575 (ix2 r l) = gelu (cv v512 v513 v517 v526 v534 r l) * cv v553 v554 v558 v567 v575 r l := by
  unfold gelu cv
  pointwise [k0_pay61, k0_pay62, k0_pay63, k0_pay64]

theorem gate_6 (v608 v649 : Vec Ideal S3x128 .f32) (v609 v650 : Vec Ideal S1x128 .f32) (v613 v622 v630 v654 v663 v671 : Vec Ideal S1x1x1x512x128 .f32) (r : Fin 512) (l : Fin 128) :
    k0_pay77 (F := Ideal) (k0_pay75 (k0_pay72 v608 v609 v613 v622) (k0_pay73 v630) (k0_pay74 v608)) v649 (k0_pay76 v649 v650 v654 v663) v671 (ix2 r l) = gelu (cv v608 v609 v613 v622 v630 r l) * cv v649 v650 v654 v663 v671 r l := by
  unfold gelu cv
  pointwise [k0_pay72, k0_pay73, k0_pay74, k0_pay75, k0_pay76, k0_pay77]

theorem gate_7 (v682 v723 : Vec Ideal S3x128 .f32) (v683 v724 : Vec Ideal S1x128 .f32) (v687 v696 v704 v728 v737 v745 : Vec Ideal S1x1x1x512x128 .f32) (r : Fin 512) (l : Fin 128) :
    k0_pay81 (F := Ideal) (k0_pay79 v682 (k0_pay78 v682 v683 v687 v696) v704) v723 (k0_pay80 v723 v724 v728 v737) v745 (ix2 r l) = gelu (cv v682 v683 v687 v696 v704 r l) * cv v723 v724 v728 v737 v745 r l := by
  unfold gelu cv
  pointwise [k0_pay78, k0_pay79, k0_pay80, k0_pay81]

theorem gate_8 (v782 v823 : Vec Ideal S3x128 .f32) (v783 v824 : Vec Ideal S1x128 .f32) (v787 v796 v804 v828 v837 v845 : Vec Ideal S1x1x1x512x128 .f32) (r : Fin 512) (l : Fin 128) :
    k0_pay92 (F := Ideal) (k0_pay90 v782 (k0_pay89 v782 v783 v787 v796) v804) v823 (k0_pay91 v823 v824 v828) v837 v845 (ix2 r l) = gelu (cv v782 v783 v787 v796 v804 r l) * cv v823 v824 v828 v837 v845 r l := by
  unfold gelu cv
  pointwise [k0_pay89, k0_pay90, k0_pay91, k0_pay92]

theorem gate_9 (v856 v897 : Vec Ideal S3x128 .f32) (v857 v898 : Vec Ideal S1x128 .f32) (v861 v870 v878 v902 v911 v919 : Vec Ideal S1x1x1x512x128 .f32) (r : Fin 512) (l : Fin 128) :
    k0_pay97 (F := Ideal) (k0_pay95 v856 (k0_pay93 v856 v857 v861) (k0_pay94 v870) v878) v897 (k0_pay96 v897 v898 v902) v911 v919 (ix2 r l) = gelu (cv v856 v857 v861 v870 v878 r l) * cv v897 v898 v902 v911 v919 r l := by
  unfold gelu cv
  pointwise [k0_pay93, k0_pay94, k0_pay95, k0_pay96, k0_pay97]

theorem gate_10 (v952 v993 : Vec Ideal S3x128 .f32) (v953 v994 : Vec Ideal S1x128 .f32) (v957 v966 v974 v998 v1007 v1015 : Vec Ideal S1x1x1x512x128 .f32) (r : Fin 512) (l : Fin 128) :
    k0_pay108 (F := Ideal) (k0_pay106 v952 (k0_pay104 v952 v953 v957) (k0_pay105 v952 v966) v974) v993 (k0_pay107 v993 v994 v998) v1007 v1015 (ix2 r l) = gelu (cv v952 v953 v957 v966 v974 r l) * cv v993 v994 v998 v1007 v1015 r l := by
  unfold gelu cv
  pointwise [k0_pay104, k0_pay105, k0_pay106, k0_pay107, k0_pay108]

theorem gate_11 (v1026 v1067 : Vec Ideal S3x128 .f32) (v1027 v1068 : Vec Ideal S1x128 .f32) (v1031 v1040 v1048 v1072 v1081 v1089 : Vec Ideal S1x1x1x512x128 .f32) (r : Fin 512) (l : Fin 128) :
    k0_pay112 (F := Ideal) (k0_pay110 v1026 (k0_pay109 v1026 v1027 v1031) v1040 v1048) v1067 (k0_pay111 v1067 v1068 v1072) v1081 v1089 (ix2 r l) = gelu (cv v1026 v1027 v1031 v1040 v1048 r l) * cv v1067 v1068 v1072 v1081 v1089 r l := by
  unfold gelu cv
  pointwise [k0_pay109, k0_pay110, k0_pay111, k0_pay112]

theorem gate_12 (v1122 v1163 : Vec Ideal S3x128 .f32) (v1123 v1164 : Vec Ideal S1x128 .f32) (v1127 v1136 v1144 v1168 v1177 v1185 : Vec Ideal S1x1x1x512x128 .f32) (r : Fin 512) (l : Fin 128) :
    k0_pay124 (F := Ideal) (k0_pay122 v1122 (k0_pay119 v1122 v1123 v1127) (k0_pay120 v1136) (k0_pay121 v1122) v1144) v1163 (k0_pay123 v1163 v1164 v1168) v1177 v1185 (ix2 r l) = gelu (cv v1122 v1123 v1127 v1136 v1144 r l) * cv v1163 v1164 v1168 v1177 v1185 r l := by
  unfold gelu cv
  pointwise [k0_pay119, k0_pay120, k0_pay121, k0_pay122, k0_pay123, k0_pay124]

theorem gate_13 (v1196 v1237 : Vec Ideal S3x128 .f32) (v1197 v1238 : Vec Ideal S1x128 .f32) (v1201 v1210 v1218 v1242 v1251 v1259 : Vec Ideal S1x1x1x512x128 .f32) (r : Fin 512) (l : Fin 128) :
    k0_pay129 (F := Ideal) (k0_pay126 v1196 (k0_pay125 v1196 v1197 v1201) v1210 v1218) v1237 (k0_pay127 v1237 v1242) (k0_pay128 v1238) v1251 v1259 (ix2 r l) = gelu (cv v1196 v1197 v1201 v1210 v1218 r l) * cv v1237 v1238 v1242 v1251 v1259 r l := by
  unfold gelu cv
  pointwise [k0_pay125, k0_pay126, k0_pay127, k0_pay128, k0_pay129]

theorem gate_14 (v1292 v1333 : Vec Ideal S3x128 .f32) (v1293 v1334 : Vec Ideal S1x128 .f32) (v1297 v1306 v1314 v1338 v1347 v1355 : Vec Ideal S1x1x1x512x128 .f32) (r : Fin 512) (l : Fin 128) :
    k0_pay140 (F := Ideal) (k0_pay138 v1292 (k0_pay137 v1292 v1293 v1297) v1306 v1314) v1333 (k0_pay139 v1333 v1334 v1338) v1347 v1355 (ix2 r l) = gelu (cv v1292 v1293 v1297 v1306 v1314 r l) * cv v1333 v1334 v1338 v1347 v1355 r l := by
  unfold gelu cv
  pointwise [k0_pay137, k0_pay138, k0_pay139, k0_pay140]

theorem gate_15 (v1366 v1407 : Vec Ideal S3x128 .f32) (v1367 v1408 : Vec Ideal S1x128 .f32) (v1371 v1380 v1388 v1412 v1421 v1429 : Vec Ideal S1x1x1x512x128 .f32) (r : Fin 512) (l : Fin 128) :
    k0_pay146 (F := Ideal) (k0_pay142 v1366 (k0_pay141 v1366 v1367 v1371) v1380 v1388) v1407 (k0_pay143 v1408) (k0_pay144 v1412) (k0_pay145 v1407) v1421 v1429 (ix2 r l) = gelu (cv v1366 v1367 v1371 v1380 v1388 r l) * cv v1407 v1408 v1412 v1421 v1429 r l := by
  unfold gelu cv
  pointwise [k0_pay141, k0_pay142, k0_pay143, k0_pay144, k0_pay145, k0_pay146]

theorem gate_16 (v1467 v1508 : Vec Ideal S3x128 .f32) (v1468 v1509 : Vec Ideal S1x128 .f32) (v1472 v1481 v1489 v1513 v1522 v1530 : Vec Ideal S1x1x1x512x128 .f32) (r : Fin 512) (l : Fin 128) :
    k0_pay160 (F := Ideal) (k0_pay158 v1467 (k0_pay155 v1468) (k0_pay156 v1472) (k0_pay157 v1467) v1481 v1489) v1508 (k0_pay159 v1509) v1513 v1522 v1530 (ix2 r l) = gelu (cv v1467 v1468 v1472 v1481 v1489 r l) * cv v1508 v1509 v1513 v1522 v1530 r l := by
  unfold gelu cv
  pointwise [k0_pay155, k0_pay156, k0_pay157, k0_pay158, k0_pay159, k0_pay160]

theorem gate_17 (v1541 v1582 : Vec Ideal S3x128 .f32) (v1542 v1583 : Vec Ideal S1x128 .f32) (v1546 v1555 v1563 v1587 v1596 v1604 : Vec Ideal S1x1x1x512x128 .f32) (r : Fin 512) (l : Fin 128) :
    k0_pay164 (F := Ideal) (k0_pay162 v1541 (k0_pay161 v1542) v1546 v1555 v1563) v1582 (k0_pay163 v1583) v1587 v1596 v1604 (ix2 r l) = gelu (cv v1541 v1542 v1546 v1555 v1563 r l) * cv v1582 v1583 v1587 v1596 v1604 r l := by
  unfold gelu cv
  pointwise [k0_pay161, k0_pay162, k0_pay163, k0_pay164]

theorem gate_18 (v1637 v1678 : Vec Ideal S3x128 .f32) (v1638 v1679 : Vec Ideal S1x128 .f32) (v1642 v1651 v1659 v1683 v1692 v1700 : Vec Ideal S1x1x1x512x128 .f32) (r : Fin 512) (l : Fin 128) :
    k0_pay176 (F := Ideal) (k0_pay174 v1637 (k0_pay172 v1638) (k0_pay173 v1642) v1651 v1659) v1678 (k0_pay175 v1679) v1683 v1692 v1700 (ix2 r l) = gelu (cv v1637 v1638 v1642 v1651 v1659 r l) * cv v1678 v1679 v1683 v1692 v1700 r l := by
  unfold gelu cv
  pointwise [k0_pay172, k0_pay173, k0_pay174, k0_pay175, k0_pay176]

theorem gate_19 (v1711 v1752 : Vec Ideal S3x128 .f32) (v1712 v1753 : Vec Ideal S1x128 .f32) (v1716 v1725 v1733 v1757 v1766 v1774 : Vec Ideal S1x1x1x512x128 .f32) (r : Fin 512) (l : Fin 128) :
    k0_pay179 (F := Ideal) (k0_pay178 v1711 (k0_pay177 v1712) v1716 v1725 v1733) v1752 v1753 v1757 v1766 v1774 (ix2 r l) = gelu (cv v1711 v1712 v1716 v1725 v1733 r l) * cv v1752 v1753 v1757 v1766 v1774 r l := by
  unfold gelu cv
  pointwise [k0_pay177, k0_pay178, k0_pay179]

theorem gate_20 (v1785 v1826 : Vec Ideal S3x128 .f32) (v1786 v1827 : Vec Ideal S1x128 .f32) (v1790 v1799 v1807 v1831 v1840 v1848 : Vec Ideal S1x1x1x512x128 .f32) (r : Fin 512) (l : Fin 128) :
    k0_pay182 (F := Ideal) (k0_pay181 v1785 (k0_pay180 v1786) v1790 v1799 v1807) v1826 v1827 v1831 v1840 v1848 (ix2 r l) = gelu (cv v1785 v1786 v1790 v1799 v1807 r l) * cv v1826 v1827 v1831 v1840 v1848 r l := by
  unfold gelu cv
  pointwise [k0_pay180, k0_pay181, k0_pay182]

theorem gate_21 (v1859 v1900 : Vec Ideal S3x128 .f32) (v1860 v1901 : Vec Ideal S1x128 .f32) (v1864 v1873 v1881 v1905 v1914 v1922 : Vec Ideal S1x1x1x512x128 .f32) (r : Fin 512) (l : Fin 128) :
    k0_pay187 (F := Ideal) (k0_pay186 (k0_pay183 v1859 v1860 v1864 v1873 v1881) (k0_pay184 v1859 v1860 v1864 v1873 v1881) (k0_pay185 (F := Ideal)) v1900 v1901 v1905 v1914 v1922) (ix2 r l) = gelu (cv v1859 v1860 v1864 v1873 v1881 r l) * cv v1900 v1901 v1905 v1914 v1922 r l := by
  unfold gelu cv
  pointwise [k0_pay183, k0_pay184, k0_pay185, k0_pay186, k0_pay187]

end Cert.FfnIdeal.Att
-- ==== Proof.FfnSlabs.lean ====
module

public import proofs.«01_k».proof.Proof.FfnPieces

@[expose] public section

set_option maxRecDepth 16384

noncomputable section

namespace Cert.FfnIdeal.Att

open Cert.FfnIdeal Cert.FfnIdeal.Gen
open Idealize.ShloMosaic Idealize.ShloMosaic.TcCoe Idealize.SL.Sem

/-! Each slab the kernel stores is 128 columns of the up-projection, lane by lane. -/

theorem slab_0 (v1 : FVec Ideal S1x1024 .f32) (v19 v37 : FVec Ideal S16x1024 .f32) (v38 : Vec Ideal S1x512x1024 .f32) (v54 : Vec Ideal S1024x256 .bf16) (r : Fin 544) (l : Fin 128) :
    k0_pay7 (F := Ideal) v1 v19 v37 v38 v54 (ix5 0 0 0 r l) = ∑ d : Fin 1024, (k0_pay5 (F := Ideal) v1 v19 v37 v38) (ix2 r d) * v54 (ix2 d ⟨0 + l, by omega⟩) := by
  pointwise [k0_pay6, k0_pay7]

theorem slab_1 (v1 : FVec Ideal S1x1024 .f32) (v19 v37 : FVec Ideal S16x1024 .f32) (v38 : Vec Ideal S1x512x1024 .f32) (v54 : Vec Ideal S1024x256 .bf16) (r : Fin 544) (l : Fin 128) :
    k0_pay8 (F := Ideal) v1 v19 v37 v38 v54 (ix5 0 0 0 r l) = ∑ d : Fin 1024, (k0_pay5 (F := Ideal) v1 v19 v37 v38) (ix2 r d) * v54 (ix2 d ⟨128 + l, by omega⟩) := by
  pointwise [k0_pay6, k0_pay8]

theorem slab_2 (v1 : FVec Ideal S1x1024 .f32) (v19 v37 : FVec Ideal S16x1024 .f32) (v38 : Vec Ideal S1x512x1024 .f32) (v65 : Vec Ideal S1024x256 .bf16) (r : Fin 544) (l : Fin 128) :
    k0_pay11 (F := Ideal) (k0_pay10 v1 v19 v37 v38 v65) (ix5 0 0 0 r l) = ∑ d : Fin 1024, (k0_pay5 (F := Ideal) v1 v19 v37 v38) (ix2 r d) * v65 (ix2 d ⟨0 + l, by omega⟩) := by
  pointwise [k0_pay9, k0_pay10, k0_pay11]

theorem slab_3 (v1 : FVec Ideal S1x1024 .f32) (v19 v37 : FVec Ideal S16x1024 .f32) (v38 : Vec Ideal S1x512x1024 .f32) (v65 : Vec Ideal S1024x256 .bf16) (r : Fin 544) (l : Fin 128) :
    k0_pay12 (F := Ideal) (k0_pay9 v1 v19 v37 v38 v65) (ix5 0 0 0 r l) = ∑ d : Fin 1024, (k0_pay5 (F := Ideal) v1 v19 v37 v38) (ix2 r d) * v65 (ix2 d ⟨128 + l, by omega⟩) := by
  pointwise [k0_pay9, k0_pay12]

theorem slab_4 (v53 : FVec Ideal S544x1024 .bf16) (v76 : Vec Ideal S1024x256 .bf16) (r : Fin 544) (l : Fin 128) :
    k0_pay14 (F := Ideal) v53 v76 (ix5 0 0 0 r l) = ∑ d : Fin 1024, v53 (ix2 r d) * v76 (ix2 d ⟨0 + l, by omega⟩) := by
  pointwise [k0_pay13, k0_pay14]

theorem slab_5 (v53 : FVec Ideal S544x1024 .bf16) (v76 : Vec Ideal S1024x256 .bf16) (r : Fin 544) (l : Fin 128) :
    k0_pay15 (F := Ideal) v53 v76 (ix5 0 0 0 r l) = ∑ d : Fin 1024, v53 (ix2 r d) * v76 (ix2 d ⟨128 + l, by omega⟩) := by
  pointwise [k0_pay13, k0_pay15]

theorem slab_6 (v53 : FVec Ideal S544x1024 .bf16) (v87 : Vec Ideal S1024x256 .bf16) (r : Fin 544) (l : Fin 128) :
    k0_pay17 (F := Ideal) v53 v87 (ix5 0 0 0 r l) = ∑ d : Fin 1024, v53 (ix2 r d) * v87 (ix2 d ⟨0 + l, by omega⟩) := by
  pointwise [k0_pay16, k0_pay17]

theorem slab_7 (v53 : FVec Ideal S544x1024 .bf16) (v87 : Vec Ideal S1024x256 .bf16) (r : Fin 544) (l : Fin 128) :
    k0_pay19 (F := Ideal) (k0_pay18 v53 v87) (ix5 0 0 0 r l) = ∑ d : Fin 1024, v53 (ix2 r d) * v87 (ix2 d ⟨128 + l, by omega⟩) := by
  pointwise [k0_pay16, k0_pay18, k0_pay19]

theorem slab_8 (v53 : FVec Ideal S544x1024 .bf16) (v246 : Vec Ideal S1024x256 .bf16) (r : Fin 544) (l : Fin 128) :
    k0_pay34 (F := Ideal) v53 v246 (ix5 0 0 0 r l) = ∑ d : Fin 1024, v53 (ix2 r d) * v246 (ix2 d ⟨0 + l, by omega⟩) := by
  pointwise [k0_pay33, k0_pay34]

theorem slab_9 (v53 : FVec Ideal S544x1024 .bf16) (v246 : Vec Ideal S1024x256 .bf16) (r : Fin 544) (l : Fin 128) :
    k0_pay35 (F := Ideal) v53 v246 (ix5 0 0 0 r l) = ∑ d : Fin 1024, v53 (ix2 r d) * v246 (ix2 d ⟨128 + l, by omega⟩) := by
  pointwise [k0_pay33, k0_pay35]

theorem slab_10 (v53 : FVec Ideal S544x1024 .bf16) (v257 : Vec Ideal S1024x256 .bf16) (r : Fin 544) (l : Fin 128) :
    k0_pay37 (F := Ideal) v53 v257 (ix5 0 0 0 r l) = ∑ d : Fin 1024, v53 (ix2 r d) * v257 (ix2 d ⟨0 + l, by omega⟩) := by
  pointwise [k0_pay36, k0_pay37]

theorem slab_11 (v53 : FVec Ideal S544x1024 .bf16) (v257 : Vec Ideal S1024x256 .bf16) (r : Fin 544) (l : Fin 128) :
    k0_pay39 (F := Ideal) (k0_pay38 v53 v257) (ix5 0 0 0 r l) = ∑ d : Fin 1024, v53 (ix2 r d) * v257 (ix2 d ⟨128 + l, by omega⟩) := by
  pointwise [k0_pay36, k0_pay38, k0_pay39]

theorem slab_12 (v53 : FVec Ideal S544x1024 .bf16) (v416 : Vec Ideal S1024x256 .bf16) (r : Fin 544) (l : Fin 128) :
    k0_pay52 (F := Ideal) v53 v416 (ix5 0 0 0 r l) = ∑ d : Fin 1024, v53 (ix2 r d) * v416 (ix2 d ⟨0 + l, by omega⟩) := by
  pointwise [k0_pay51, k0_pay52]

theorem slab_13 (v53 : FVec Ideal S544x1024 .bf16) (v416 : Vec Ideal S1024x256 .bf16) (r : Fin 544) (l : Fin 128) :
    k0_pay53 (F := Ideal) v53 v416 (ix5 0 0 0 r l) = ∑ d : Fin 1024, v53 (ix2 r d) * v416 (ix2 d ⟨128 + l, by omega⟩) := by
  pointwise [k0_pay51, k0_pay53]

theorem slab_14 (v53 : FVec Ideal S544x1024 .bf16) (v427 : Vec Ideal S1024x256 .bf16) (r : Fin 544) (l : Fin 128) :
    k0_pay55 (F := Ideal) v53 v427 (ix5 0 0 0 r l) = ∑ d : Fin 1024, v53 (ix2 r d) * v427 (ix2 d ⟨0 + l, by omega⟩) := by
  pointwise [k0_pay54, k0_pay55]

theorem slab_15 (v53 : FVec Ideal S544x1024 .bf16) (v427 : Vec Ideal S1024x256 .bf16) (r : Fin 544) (l : Fin 128) :
    k0_pay56 (F := Ideal) (k0_pay54 v53 v427) (ix5 0 0 0 r l) = ∑ d : Fin 1024, v53 (ix2 r d) * v427 (ix2 d ⟨128 + l, by omega⟩) := by
  pointwise [k0_pay54, k0_pay56]

theorem slab_16 (v53 : FVec Ideal S544x1024 .bf16) (v586 : Vec Ideal S1024x256 .bf16) (r : Fin 544) (l : Fin 128) :
    k0_pay66 (F := Ideal) v53 v586 (ix5 0 0 0 r l) = ∑ d : Fin 1024, v53 (ix2 r d) * v586 (ix2 d ⟨0 + l, by omega⟩) := by
  pointwise [k0_pay65, k0_pay66]

theorem slab_17 (v53 : FVec Ideal S544x1024 .bf16) (v586 : Vec Ideal S1024x256 .bf16) (r : Fin 544) (l : Fin 128) :
    k0_pay67 (F := Ideal) v53 v586 (ix5 0 0 0 r l) = ∑ d : Fin 1024, v53 (ix2 r d) * v586 (ix2 d ⟨128 + l, by omega⟩) := by
  pointwise [k0_pay65, k0_pay67]

theorem slab_18 (v53 : FVec Ideal S544x1024 .bf16) (v597 : Vec Ideal S1024x256 .bf16) (r : Fin 544) (l : Fin 128) :
    k0_pay70 (F := Ideal) (k0_pay69 v53 v597) (ix5 0 0 0 r l) = ∑ d : Fin 1024, v53 (ix2 r d) * v597 (ix2 d ⟨0 + l, by omega⟩) := by
  pointwise [k0_pay68, k0_pay69, k0_pay70]

theorem slab_19 (v53 : FVec Ideal S544x1024 .bf16) (v597 : Vec Ideal S1024x256 .bf16) (r : Fin 544) (l : Fin 128) :
    k0_pay71 (F := Ideal) (k0_pay68 v53 v597) (ix5 0 0 0 r l) = ∑ d : Fin 1024, v53 (ix2 r d) * v597 (ix2 d ⟨128 + l, by omega⟩) := by
  pointwise [k0_pay68, k0_pay71]

theorem slab_20 (v53 : FVec Ideal S544x1024 .bf16) (v760 : Vec Ideal S1024x256 .bf16) (r : Fin 544) (l : Fin 128) :
    k0_pay84 (F := Ideal) v53 v760 (ix5 0 0 0 r l) = ∑ d : Fin 1024, v53 (ix2 r d) * v760 (ix2 d ⟨0 + l, by omega⟩) := by
  pointwise [k0_pay83, k0_pay84]

theorem slab_21 (v53 : FVec Ideal S544x1024 .bf16) (v760 : Vec Ideal S1024x256 .bf16) (r : Fin 544) (l : Fin 128) :
    k0_pay85 (F := Ideal) v53 v760 (ix5 0 0 0 r l) = ∑ d : Fin 1024, v53 (ix2 r d) * v760 (ix2 d ⟨128 + l, by omega⟩) := by
  pointwise [k0_pay83, k0_pay85]

theorem slab_22 (v53 : FVec Ideal S544x1024 .bf16) (v771 : Vec Ideal S1024x256 .bf16) (r : Fin 544) (l : Fin 128) :
    k0_pay87 (F := Ideal) v53 v771 (ix5 0 0 0 r l) = ∑ d : Fin 1024, v53 (ix2 r d) * v771 (ix2 d ⟨0 + l, by omega⟩) := by
  pointwise [k0_pay86, k0_pay87]

theorem slab_23 (v53 : FVec Ideal S544x1024 .bf16) (v771 : Vec Ideal S1024x256 .bf16) (r : Fin 544) (l : Fin 128) :
    k0_pay88 (F := Ideal) v53 v771 (ix5 0 0 0 r l) = ∑ d : Fin 1024, v53 (ix2 r d) * v771 (ix2 d ⟨128 + l, by omega⟩) := by
  pointwise [k0_pay86, k0_pay88]

theorem slab_24 (v53 : FVec Ideal S544x1024 .bf16) (v930 : Vec Ideal S1024x256 .bf16) (r : Fin 544) (l : Fin 128) :
    k0_pay99 (F := Ideal) v53 v930 (ix5 0 0 0 r l) = ∑ d : Fin 1024, v53 (ix2 r d) * v930 (ix2 d ⟨0 + l, by omega⟩) := by
  pointwise [k0_pay98, k0_pay99]

theorem slab_25 (v53 : FVec Ideal S544x1024 .bf16) (v930 : Vec Ideal S1024x256 .bf16) (r : Fin 544) (l : Fin 128) :
    k0_pay100 (F := Ideal) v53 v930 (ix5 0 0 0 r l) = ∑ d : Fin 1024, v53 (ix2 r d) * v930 (ix2 d ⟨128 + l, by omega⟩) := by
  pointwise [k0_pay98, k0_pay100]

theorem slab_26 (v53 : FVec Ideal S544x1024 .bf16) (v941 : Vec Ideal S1024x256 .bf16) (r : Fin 544) (l : Fin 128) :
    k0_pay102 (F := Ideal) v53 v941 (ix5 0 0 0 r l) = ∑ d : Fin 1024, v53 (ix2 r d) * v941 (ix2 d ⟨0 + l, by omega⟩) := by
  pointwise [k0_pay101, k0_pay102]

theorem slab_27 (v53 : FVec Ideal S544x1024 .bf16) (v941 : Vec Ideal S1024x256 .bf16) (r : Fin 544) (l : Fin 128) :
    k0_pay103 (F := Ideal) v53 v941 (ix5 0 0 0 r l) = ∑ d : Fin 1024, v53 (ix2 r d) * v941 (ix2 d ⟨128 + l, by omega⟩) := by
  pointwise [k0_pay101, k0_pay103]

theorem slab_28 (v53 : FVec Ideal S544x1024 .bf16) (v1100 : Vec Ideal S1024x256 .bf16) (r : Fin 544) (l : Fin 128) :
    k0_pay114 (F := Ideal) v53 v1100 (ix5 0 0 0 r l) = ∑ d : Fin 1024, v53 (ix2 r d) * v1100 (ix2 d ⟨0 + l, by omega⟩) := by
  pointwise [k0_pay113, k0_pay114]

theorem slab_29 (v53 : FVec Ideal S544x1024 .bf16) (v1100 : Vec Ideal S1024x256 .bf16) (r : Fin 544) (l : Fin 128) :
    k0_pay115 (F := Ideal) v53 v1100 (ix5 0 0 0 r l) = ∑ d : Fin 1024, v53 (ix2 r d) * v1100 (ix2 d ⟨128 + l, by omega⟩) := by
  pointwise [k0_pay113, k0_pay115]

theorem slab_30 (v53 : FVec Ideal S544x1024 .bf16) (v1111 : Vec Ideal S1024x256 .bf16) (r : Fin 544) (l : Fin 128) :
    k0_pay117 (F := Ideal) v53 v1111 (ix5 0 0 0 r l) = ∑ d : Fin 1024, v53 (ix2 r d) * v1111 (ix2 d ⟨0 + l, by omega⟩) := by
  pointwise [k0_pay116, k0_pay117]

theorem slab_31 (v53 : FVec Ideal S544x1024 .bf16) (v1111 : Vec Ideal S1024x256 .bf16) (r : Fin 544) (l : Fin 128) :
    k0_pay118 (F := Ideal) v53 v1111 (ix5 0 0 0 r l) = ∑ d : Fin 1024, v53 (ix2 r d) * v1111 (ix2 d ⟨128 + l, by omega⟩) := by
  pointwise [k0_pay116, k0_pay118]

theorem slab_32 (v53 : FVec Ideal S544x1024 .bf16) (v1270 : Vec Ideal S1024x256 .bf16) (r : Fin 544) (l : Fin 128) :
    k0_pay131 (F := Ideal) v53 v1270 (ix5 0 0 0 r l) = ∑ d : Fin 1024, v53 (ix2 r d) * v1270 (ix2 d ⟨0 + l, by omega⟩) := by
  pointwise [k0_pay130, k0_pay131]

theorem slab_33 (v53 : FVec Ideal S544x1024 .bf16) (v1270 : Vec Ideal S1024x256 .bf16) (r : Fin 544) (l : Fin 128) :
    k0_pay133 (F := Ideal) (k0_pay132 v53 v1270) (ix5 0 0 0 r l) = ∑ d : Fin 1024, v53 (ix2 r d) * v1270 (ix2 d ⟨128 + l, by omega⟩) := by
  pointwise [k0_pay130, k0_pay132, k0_pay133]

theorem slab_34 (v53 : FVec Ideal S544x1024 .bf16) (v1281 : Vec Ideal S1024x256 .bf16) (r : Fin 544) (l : Fin 128) :
    k0_pay135 (F := Ideal) v53 v1281 (ix5 0 0 0 r l) = ∑ d : Fin 1024, v53 (ix2 r d) * v1281 (ix2 d ⟨0 + l, by omega⟩) := by
  pointwise [k0_pay134, k0_pay135]

theorem slab_35 (v53 : FVec Ideal S544x1024 .bf16) (v1281 : Vec Ideal S1024x256 .bf16) (r : Fin 544) (l : Fin 128) :
    k0_pay136 (F := Ideal) v53 v1281 (ix5 0 0 0 r l) = ∑ d : Fin 1024, v53 (ix2 r d) * v1281 (ix2 d ⟨128 + l, by omega⟩) := by
  pointwise [k0_pay134, k0_pay136]

theorem slab_36 (v53 : FVec Ideal S544x1024 .bf16) (v1445 : Vec Ideal S1024x256 .bf16) (r : Fin 544) (l : Fin 128) :
    k0_pay150 (F := Ideal) (k0_pay149 v53 v1445) (ix5 0 0 0 r l) = ∑ d : Fin 1024, v53 (ix2 r d) * v1445 (ix2 d ⟨0 + l, by omega⟩) := by
  pointwise [k0_pay148, k0_pay149, k0_pay150]

theorem slab_37 (v53 : FVec Ideal S544x1024 .bf16) (v1445 : Vec Ideal S1024x256 .bf16) (r : Fin 544) (l : Fin 128) :
    k0_pay151 (F := Ideal) (k0_pay148 v53 v1445) (ix5 0 0 0 r l) = ∑ d : Fin 1024, v53 (ix2 r d) * v1445 (ix2 d ⟨128 + l, by omega⟩) := by
  pointwise [k0_pay148, k0_pay151]

theorem slab_38 (v53 : FVec Ideal S544x1024 .bf16) (v1456 : Vec Ideal S1024x256 .bf16) (r : Fin 544) (l : Fin 128) :
    k0_pay153 (F := Ideal) v53 v1456 (ix5 0 0 0 r l) = ∑ d : Fin 1024, v53 (ix2 r d) * v1456 (ix2 d ⟨0 + l, by omega⟩) := by
  pointwise [k0_pay152, k0_pay153]

theorem slab_39 (v53 : FVec Ideal S544x1024 .bf16) (v1456 : Vec Ideal S1024x256 .bf16) (r : Fin 544) (l : Fin 128) :
    k0_pay154 (F := Ideal) v53 v1456 (ix5 0 0 0 r l) = ∑ d : Fin 1024, v53 (ix2 r d) * v1456 (ix2 d ⟨128 + l, by omega⟩) := by
  pointwise [k0_pay152, k0_pay154]

theorem slab_40 (v53 : FVec Ideal S544x1024 .bf16) (v1615 : Vec Ideal S1024x256 .bf16) (r : Fin 544) (l : Fin 128) :
    k0_pay167 (F := Ideal) (k0_pay166 v53 v1615) (ix5 0 0 0 r l) = ∑ d : Fin 1024, v53 (ix2 r d) * v1615 (ix2 d ⟨0 + l, by omega⟩) := by
  pointwise [k0_pay165, k0_pay166, k0_pay167]

theorem slab_41 (v53 : FVec Ideal S544x1024 .bf16) (v1615 : Vec Ideal S1024x256 .bf16) (r : Fin 544) (l : Fin 128) :
    k0_pay168 (F := Ideal) (k0_pay165 v53 v1615) (ix5 0 0 0 r l) = ∑ d : Fin 1024, v53 (ix2 r d) * v1615 (ix2 d ⟨128 + l, by omega⟩) := by
  pointwise [k0_pay165, k0_pay168]

theorem slab_42 (v53 : FVec Ideal S544x1024 .bf16) (v1626 : Vec Ideal S1024x256 .bf16) (r : Fin 544) (l : Fin 128) :
    k0_pay170 (F := Ideal) v53 v1626 (ix5 0 0 0 r l) = ∑ d : Fin 1024, v53 (ix2 r d) * v1626 (ix2 d ⟨0 + l, by omega⟩) := by
  pointwise [k0_pay169, k0_pay170]

theorem slab_43 (v53 : FVec Ideal S544x1024 .bf16) (v1626 : Vec Ideal S1024x256 .bf16) (r : Fin 544) (l : Fin 128) :
    k0_pay171 (F := Ideal) v53 v1626 (ix5 0 0 0 r l) = ∑ d : Fin 1024, v53 (ix2 r d) * v1626 (ix2 d ⟨128 + l, by omega⟩) := by
  pointwise [k0_pay169, k0_pay171]

end Cert.FfnIdeal.Att
-- ==== Proof.FfnLoads.lean ====
module

public import proofs.«01_k».proof.Proof.FfnGates
public import proofs.«01_k».proof.Proof.FfnSlabs

@[expose] public section

set_option maxRecDepth 16384

noncomputable section

namespace Cert.FfnIdeal.Att

open Cert.FfnIdeal Cert.FfnIdeal.Gen
open Idealize.ShloMosaic Idealize.ShloMosaic.TcCoe Idealize.SL.Sem

/-! ## Which columns of the up-projection a slab of the buffer holds -/

/-- After the stores `L`, slab `(a, b, d)` holds the 128 columns from `f` on. -/
def Has (H : FVec Ideal S544x1024 .bf16) (X5 : FVec Ideal S1024x5632 .bf16) (L : List (View.Piece (Elt Ideal) S2x2x2x544x128 .f32))
    (a b d : Fin 2) (f : ℕ) : Prop :=
  ∀ (r : Fin 544) (l : Fin 128) (h : f + (l : ℕ) < 5632), View.canon L (ix5 a b d r l) = up H X5 r ⟨f + l, h⟩

theorem has_hit (H : FVec Ideal S544x1024 .bf16) (X5 : FVec Ideal S1024x5632 .bf16) (L : List (View.Piece (Elt Ideal) S2x2x2x544x128 .f32))
    (a b d : ℕ) (inb) (w : (Rect.unit (s := S2x2x2x544x128) ![a, b, d, 0, 0] S1x1x1x544x128.size inb).shape.Idx → Elt Ideal .f32)
    (o : ℕ) (inbW) (u : ℕ) (hu : u + 128 ≤ 256)
    (hw : ∀ (r : Fin 544) (l : Fin 128), w (ix5 0 0 0 r l)
      = ∑ e : Fin 1024, H (ix2 r e) * (show Vec Ideal S1024x256 .bf16 from View.ld X5 (Rect.unit (s := S1024x5632) ![0, o] S1024x256.size inbW)) (ix2 e ⟨u + l, by omega⟩))
    (a' b' d' : Fin 2) (f : ℕ) (h : ((a' : ℕ) = a ∧ (b' : ℕ) = b ∧ (d' : ℕ) = d) ∧ f = o + u) :
    Has H X5 (⟨Rect.unit (s := S2x2x2x544x128) ![a, b, d, 0, 0] S1x1x1x544x128.size inb, w⟩ :: L) a' b' d' f := by
  intro r l hf
  obtain ⟨⟨h0, h1, h2⟩, rfl⟩ := h
  rw [slab_hit a b d 0 0 0 inb w L _ r l h0 h1 h2 rfl rfl, hw]
  unfold up
  refine Finset.sum_congr rfl fun e _ => congrArg _ ?_
  refine congrArg X5 ?_
  funext q
  apply Fin.ext
  match q with
  | ⟨0, _⟩ => show 0 + 1 * (e : ℕ) = (e : ℕ); omega
  | ⟨1, _⟩ => show o + 1 * (u + (l : ℕ)) = o + u + (l : ℕ); omega

theorem has_miss (H : FVec Ideal S544x1024 .bf16) (X5 : FVec Ideal S1024x5632 .bf16) (L : List (View.Piece (Elt Ideal) S2x2x2x544x128 .f32))
    (a b d : ℕ) (inb) (w : (Rect.unit (s := S2x2x2x544x128) ![a, b, d, 0, 0] S1x1x1x544x128.size inb).shape.Idx → Elt Ideal .f32)
    (a' b' d' : Fin 2) (f : ℕ) (h : (a' : ℕ) ≠ a ∨ (b' : ℕ) ≠ b ∨ (d' : ℕ) ≠ d) (hL : Has H X5 L a' b' d' f) :
    Has H X5 (⟨Rect.unit (s := S2x2x2x544x128) ![a, b, d, 0, 0] S1x1x1x544x128.size inb, w⟩ :: L) a' b' d' f := by
  intro r l hf
  rw [slab_miss a b d inb w L _ h]
  exact hL r l hf

/-- A load of 512 rows from row `s` on, of a slab that holds the columns from `f` on. -/
theorem ld_has (H : FVec Ideal S544x1024 .bf16) (X5 : FVec Ideal S1024x5632 .bf16) (L : List (View.Piece (Elt Ideal) S2x2x2x544x128 .f32))
    (a b d : Fin 2) (f : ℕ) (hL : Has H X5 L a b d f) (o : Fin 5 → ℕ) (inb) (s : ℕ) (hs : s + 512 ≤ 544) (ho : o = ![(a : ℕ), b, d, s, 0])
    (r : Fin 512) (l : Fin 128) (h : f + (l : ℕ) < 5632) :
    (show Vec Ideal S1x1x1x512x128 .f32 from View.ld (View.canon L) (Rect.unit (s := S2x2x2x544x128) o S1x1x1x512x128.size inb)) (ix5 0 0 0 r l)
      = up H X5 ⟨s + r, by omega⟩ ⟨f + l, h⟩ := by
  subst ho
  refine Eq.trans ?_ (hL ⟨s + r, by omega⟩ l h)
  refine congrArg (View.canon L) ?_
  funext q
  apply Fin.ext
  match q with
  | ⟨0, _⟩ => show (a : ℕ) + 1 * 0 = (a : ℕ); omega
  | ⟨1, _⟩ => show (b : ℕ) + 1 * 0 = (b : ℕ); omega
  | ⟨2, _⟩ => show (d : ℕ) + 1 * 0 = (d : ℕ); omega
  | ⟨3, _⟩ => show s + 1 * (r : ℕ) = s + (r : ℕ); omega
  | ⟨4, _⟩ => show 0 + 1 * (l : ℕ) = (l : ℕ); omega

/-- The convolution from loads of the weights, the bias and one slab. -/
theorem conv_of (H : FVec Ideal S544x1024 .bf16) (X5 : FVec Ideal S1024x5632 .bf16) (X6 : FVec Ideal S3x5632 .f32) (X7 : FVec Ideal S1x5632 .f32)
    (L : List (View.Piece (Elt Ideal) S2x2x2x544x128 .f32)) (a b d : Fin 2) (f : ℕ) (hL : Has H X5 L a b d f) (hf : f + 128 ≤ 5632)
    (inb6 inb7) (o0 o1 o2 : Fin 5 → ℕ) (inb0 inb1 inb2)
    (h0 : o0 = ![(a : ℕ), b, d, 15, 0]) (h1 : o1 = ![(a : ℕ), b, d, 16, 0]) (h2 : o2 = ![(a : ℕ), b, d, 17, 0]) (r : Fin 512) (l : Fin 128) :
    cv (View.ld X6 (Rect.unit (s := S3x5632) ![0, f] S3x128.size inb6)) (View.ld X7 (Rect.unit (s := S1x5632) ![0, f] S1x128.size inb7))
        (View.ld (View.canon L) (Rect.unit (s := S2x2x2x544x128) o0 S1x1x1x512x128.size inb0))
        (View.ld (View.canon L) (Rect.unit (s := S2x2x2x544x128) o1 S1x1x1x512x128.size inb1))
        (View.ld (View.canon L) (Rect.unit (s := S2x2x2x544x128) o2 S1x1x1x512x128.size inb2)) r l
      = conv H X5 X6 X7 r ⟨f + l, by omega⟩ := by
  have hl : f + (l : ℕ) < 5632 := by omega
  have e6 : ∀ q : Fin 3, (show Vec Ideal S3x128 .f32 from View.ld X6 (Rect.unit (s := S3x5632) ![0, f] S3x128.size inb6)) (ix2 q l) = X6 (ix2 q ⟨f + l, hl⟩) := by
    intro q
    refine congrArg X6 ?_
    funext p
    apply Fin.ext
    match p with
    | ⟨0, _⟩ => show 0 + 1 * (q : ℕ) = (q : ℕ); omega
    | ⟨1, _⟩ => show f + 1 * (l : ℕ) = f + (l : ℕ); omega
  have e7 : (show Vec Ideal S1x128 .f32 from View.ld X7 (Rect.unit (s := S1x5632) ![0, f] S1x128.size inb7)) (ix2 0 l) = X7 (ix2 0 ⟨f + l, hl⟩) := by
    refine congrArg X7 ?_
    funext p
    apply Fin.ext
    match p with
    | ⟨0, _⟩ => rfl
    | ⟨1, _⟩ => show f + 1 * (l : ℕ) = f + (l : ℕ); omega
  have u0 := ld_has H X5 L a b d f hL o0 inb0 15 (by omega) h0 r l hl
  have u1 := ld_has H X5 L a b d f hL o1 inb1 16 (by omega) h1 r l hl
  have u2 := ld_has H X5 L a b d f hL o2 inb2 17 (by omega) h2 r l hl
  unfold cv conv
  exact congrArg₂ (· + ·) (congrArg₂ (· + ·) (congrArg₂ (· + ·) e7 (congrArg₂ (· * ·) u0 (e6 0))) (congrArg₂ (· * ·) u1 (e6 1))) (congrArg₂ (· * ·) u2 (e6 2))

/-- The gated activation from the two convolutions. -/
theorem act_of (H : FVec Ideal S544x1024 .bf16) (X5 : FVec Ideal S1024x5632 .bf16) (X6 : FVec Ideal S3x5632 .f32) (X7 : FVec Ideal S1x5632 .f32)
    (r : Fin 512) (l : Fin 128) (f f' : ℕ) (hf : f + 128 ≤ 2816 ∧ f' = 2816 + f) (g v : EReal)
    (hg : g = conv H X5 X6 X7 r ⟨f + l, by omega⟩) (hv : v = conv H X5 X6 X7 r ⟨f' + l, by omega⟩) :
    gelu g * v = act H X5 X6 X7 r (f + l) := by
  obtain ⟨h, rfl⟩ := hf
  have hk : f + (l : ℕ) < 2816 := by omega
  unfold act
  rw [dif_pos hk, hg, hv]
  have e : (⟨2816 + f + (l : ℕ), by omega⟩ : Fin 5632) = ⟨2816 + (f + (l : ℕ)), by omega⟩ := Fin.ext (by dsimp only; omega)
  rw [e]

end Cert.FfnIdeal.Att
-- ==== Proof.FfnIdealHyps.lean ====
module

public import proofs.«01_k».proof.Proof.Gen.FfnIdeal.Frame
public import Idealize.ShloMosaic.Lib.Pipeline.ValueKit
public import Idealize.ShloMosaic.Lib.Tactic

@[expose] public section

set_option maxRecDepth 16384

noncomputable section

namespace Cert.FfnIdeal.Att

open Cert.FfnIdeal Cert.FfnIdeal.Gen
open Idealize.ShloMosaic Idealize.ShloMosaic.TcCoe Idealize.SL.Sem

variable {F : FTy → Type} [FloatOps F]
variable (m : (ℓ : Loc nD τ sig) → Buf (Elt F) ℓ)

/-- The three row offsets the host prepares: 15, 16, 17. -/
theorem v7 (c : Dev nD) (k : Fin 3) : (show Vec F S3 .i32 from V m c main_v7) (ix1 k) = BitVec.ofNat 32 (15 + k) := by
  entry_read
  match k with
  | ⟨0, _⟩ => rfl
  | ⟨1, _⟩ => rfl
  | ⟨2, _⟩ => rfl

/-- … as the block of every grid step. -/
theorem taps (c : Dev nD) (t : Fin cfg0.N) (k : Fin 3) : (show Vec F S3 .i32 from iblk m c 0 t) (ix1 k) = BitVec.ofNat 32 (15 + k) := by
  have h : ∀ t : Fin cfg0.N, win0_0.index t = ![0] := (by decide +kernel : ∀ t : Fin grid0.N, _)
  refine Eq.trans ?_ (v7 m c k)
  show V m c main_v7 ((win0_0.blk t).view.emb (ix1 k)) = _
  congr 1
  blk_ext! [h t]

/-- … and as the word the body reads. -/
theorem word (c : Dev nD) (t : Fin cfg0.N) (k : ℕ) (hk : k < 3) (inb) (hp : 0 < S1.numel) :
    (ms0_0 t).view.readAt (Elt F) (Rect.unit (s := S3) ![k] S1.size inb).toLoadRect ((hs0_0 t).unread (iblk m c 0 t)) (Shape.Idx.first hp) = BitVec.ofNat 32 (15 + k) := by
  refine Eq.trans ?_ (taps m c t ⟨k, hk⟩)
  rw [View.readAt_apply, Memref.IsWhole.read_unread]
  congr 1
  funext q
  apply Fin.ext
  match q with
  | ⟨0, _⟩ => rfl

/-- A load of 512 rows at one of these offsets stays inside its slab. -/
theorem chk (b d : Fin 2) (a : Fin 2) (W : BitVec 32) (k : ℕ) (hk : k < 3) (hW : W = BitVec.ofNat 32 (15 + k)) :
    (∀ q, (![(a : ℕ), b, d, (Scalar.indexCast W : Index).toNat, 0] : Fin 5 → ℕ) q + S1x1x1x512x128.size q ≤ S2x2x2x544x128.size q) := by
  subst hW
  have : (Scalar.indexCast (BitVec.ofNat 32 (15 + k)) : Index).toNat = 15 + k := by
    interval_cases k <;> rfl
  rw [this]
  intro q
  match q with
  | ⟨0, _⟩ => show (a : ℕ) + 1 ≤ 2; omega
  | ⟨1, _⟩ => show (b : ℕ) + 1 ≤ 2; omega
  | ⟨2, _⟩ => show (d : ℕ) + 1 ≤ 2; omega
  | ⟨3, _⟩ => show 15 + k + 512 ≤ 544; omega
  | ⟨4, _⟩ => show 0 + 128 ≤ 128; omega
/-- Every side condition of the body holds: the offsets come from the host's constant. -/
theorem hyps : Hyps m :=
  Hyps.of
    (fun c t => chk 0 0 0 _ 0 (by omega) (word m c t 0 (by omega) _ _))
    (fun c t => chk 0 0 0 _ 1 (by omega) (word m c t 1 (by omega) _ _))
    (fun c t => chk 0 0 0 _ 2 (by omega) (word m c t 2 (by omega) _ _))
    (fun c t => chk 1 0 0 _ 0 (by omega) (word m c t 0 (by omega) _ _))
    (fun c t => chk 1 0 0 _ 1 (by omega) (word m c t 1 (by omega) _ _))
    (fun c t => chk 1 0 0 _ 2 (by omega) (word m c t 2 (by omega) _ _))
    (fun c t => chk 0 1 0 _ 0 (by omega) (word m c t 0 (by omega) _ _))
    (fun c t => chk 0 1 0 _ 1 (by omega) (word m c t 1 (by omega) _ _))
    (fun c t => chk 0 1 0 _ 2 (by omega) (word m c t 2 (by omega) _ _))
    (fun c t => chk 1 1 0 _ 0 (by omega) (word m c t 0 (by omega) _ _))
    (fun c t => chk 1 1 0 _ 1 (by omega) (word m c t 1 (by omega) _ _))
    (fun c t => chk 1 1 0 _ 2 (by omega) (word m c t 2 (by omega) _ _))
    (fun c t => chk 0 0 1 _ 0 (by omega) (word m c t 0 (by omega) _ _))
    (fun c t => chk 0 0 1 _ 1 (by omega) (word m c t 1 (by omega) _ _))
    (fun c t => chk 0 0 1 _ 2 (by omega) (word m c t 2 (by omega) _ _))
    (fun c t => chk 1 0 1 _ 0 (by omega) (word m c t 0 (by omega) _ _))
    (fun c t => chk 1 0 1 _ 1 (by omega) (word m c t 1 (by omega) _ _))
    (fun c t => chk 1 0 1 _ 2 (by omega) (word m c t 2 (by omega) _ _))
    (fun c t => chk 0 1 1 _ 0 (by omega) (word m c t 0 (by omega) _ _))
    (fun c t => chk 0 1 1 _ 1 (by omega) (word m c t 1 (by omega) _ _))
    (fun c t => chk 0 1 1 _ 2 (by omega) (word m c t 2 (by omega) _ _))
    (fun c t => chk 1 1 1 _ 0 (by omega) (word m c t 0 (by omega) _ _))
    (fun c t => chk 1 1 1 _ 1 (by omega) (word m c t 1 (by omega) _ _))
    (fun c t => chk 1 1 1 _ 2 (by omega) (word m c t 2 (by omega) _ _))
    (fun c t => chk 0 0 0 _ 0 (by omega) (word m c t 0 (by omega) _ _))
    (fun c t => chk 0 0 0 _ 1 (by omega) (word m c t 1 (by omega) _ _))
    (fun c t => chk 0 0 0 _ 2 (by omega) (word m c t 2 (by omega) _ _))
    (fun c t => chk 1 0 0 _ 0 (by omega) (word m c t 0 (by omega) _ _))
    (fun c t => chk 1 0 0 _ 1 (by omega) (word m c t 1 (by omega) _ _))
    (fun c t => chk 1 0 0 _ 2 (by omega) (word m c t 2 (by omega) _ _))
    (fun c t => chk 0 1 0 _ 0 (by omega) (word m c t 0 (by omega) _ _))
    (fun c t => chk 0 1 0 _ 1 (by omega) (word m c t 1 (by omega) _ _))
    (fun c t => chk 0 1 0 _ 2 (by omega) (word m c t 2 (by omega) _ _))
    (fun c t => chk 1 1 0 _ 0 (by omega) (word m c t 0 (by omega) _ _))
    (fun c t => chk 1 1 0 _ 1 (by omega) (word m c t 1 (by omega) _ _))
    (fun c t => chk 1 1 0 _ 2 (by omega) (word m c t 2 (by omega) _ _))
    (fun c t => chk 0 0 1 _ 0 (by omega) (word m c t 0 (by omega) _ _))
    (fun c t => chk 0 0 1 _ 1 (by omega) (word m c t 1 (by omega) _ _))
    (fun c t => chk 0 0 1 _ 2 (by omega) (word m c t 2 (by omega) _ _))
    (fun c t => chk 1 0 1 _ 0 (by omega) (word m c t 0 (by omega) _ _))
    (fun c t => chk 1 0 1 _ 1 (by omega) (word m c t 1 (by omega) _ _))
    (fun c t => chk 1 0 1 _ 2 (by omega) (word m c t 2 (by omega) _ _))
    (fun c t => chk 0 1 1 _ 0 (by omega) (word m c t 0 (by omega) _ _))
    (fun c t => chk 0 1 1 _ 1 (by omega) (word m c t 1 (by omega) _ _))
    (fun c t => chk 0 1 1 _ 2 (by omega) (word m c t 2 (by omega) _ _))
    (fun c t => chk 1 1 1 _ 0 (by omega) (word m c t 0 (by omega) _ _))
    (fun c t => chk 1 1 1 _ 1 (by omega) (word m c t 1 (by omega) _ _))
    (fun c t => chk 1 1 1 _ 2 (by omega) (word m c t 2 (by omega) _ _))
    (fun c t => chk 0 0 0 _ 0 (by omega) (word m c t 0 (by omega) _ _))
    (fun c t => chk 0 0 0 _ 1 (by omega) (word m c t 1 (by omega) _ _))
    (fun c t => chk 0 0 0 _ 2 (by omega) (word m c t 2 (by omega) _ _))
    (fun c t => chk 1 0 0 _ 0 (by omega) (word m c t 0 (by omega) _ _))
    (fun c t => chk 1 0 0 _ 1 (by omega) (word m c t 1 (by omega) _ _))
    (fun c t => chk 1 0 0 _ 2 (by omega) (word m c t 2 (by omega) _ _))
    (fun c t => chk 0 1 0 _ 0 (by omega) (word m c t 0 (by omega) _ _))
    (fun c t => chk 0 1 0 _ 1 (by omega) (word m c t 1 (by omega) _ _))
    (fun c t => chk 0 1 0 _ 2 (by omega) (word m c t 2 (by omega) _ _))
    (fun c t => chk 1 1 0 _ 0 (by omega) (word m c t 0 (by omega) _ _))
    (fun c t => chk 1 1 0 _ 1 (by omega) (word m c t 1 (by omega) _ _))
    (fun c t => chk 1 1 0 _ 2 (by omega) (word m c t 2 (by omega) _ _))
    (fun c t => chk 0 0 1 _ 0 (by omega) (word m c t 0 (by omega) _ _))
    (fun c t => chk 0 0 1 _ 1 (by omega) (word m c t 1 (by omega) _ _))
    (fun c t => chk 0 0 1 _ 2 (by omega) (word m c t 2 (by omega) _ _))
    (fun c t => chk 1 0 1 _ 0 (by omega) (word m c t 0 (by omega) _ _))
    (fun c t => chk 1 0 1 _ 1 (by omega) (word m c t 1 (by omega) _ _))
    (fun c t => chk 1 0 1 _ 2 (by omega) (word m c t 2 (by omega) _ _))
    (fun c t => chk 0 1 1 _ 0 (by omega) (word m c t 0 (by omega) _ _))
    (fun c t => chk 0 1 1 _ 1 (by omega) (word m c t 1 (by omega) _ _))
    (fun c t => chk 0 1 1 _ 2 (by omega) (word m c t 2 (by omega) _ _))
    (fun c t => chk 1 1 1 _ 0 (by omega) (word m c t 0 (by omega) _ _))
    (fun c t => chk 1 1 1 _ 1 (by omega) (word m c t 1 (by omega) _ _))
    (fun c t => chk 1 1 1 _ 2 (by omega) (word m c t 2 (by omega) _ _))
    (fun c t => chk 0 0 0 _ 0 (by omega) (word m c t 0 (by omega) _ _))
    (fun c t => chk 0 0 0 _ 1 (by omega) (word m c t 1 (by omega) _ _))
    (fun c t => chk 0 0 0 _ 2 (by omega) (word m c t 2 (by omega) _ _))
    (fun c t => chk 1 0 0 _ 0 (by omega) (word m c t 0 (by omega) _ _))
    (fun c t => chk 1 0 0 _ 1 (by omega) (word m c t 1 (by omega) _ _))
    (fun c t => chk 1 0 0 _ 2 (by omega) (word m c t 2 (by omega) _ _))
    (fun c t => chk 0 1 0 _ 0 (by omega) (word m c t 0 (by omega) _ _))
    (fun c t => chk 0 1 0 _ 1 (by omega) (word m c t 1 (by omega) _ _))
    (fun c t => chk 0 1 0 _ 2 (by omega) (word m c t 2 (by omega) _ _))
    (fun c t => chk 1 1 0 _ 0 (by omega) (word m c t 0 (by omega) _ _))
    (fun c t => chk 1 1 0 _ 1 (by omega) (word m c t 1 (by omega) _ _))
    (fun c t => chk 1 1 0 _ 2 (by omega) (word m c t 2 (by omega) _ _))
    (fun c t => chk 0 0 1 _ 0 (by omega) (word m c t 0 (by omega) _ _))
    (fun c t => chk 0 0 1 _ 1 (by omega) (word m c t 1 (by omega) _ _))
    (fun c t => chk 0 0 1 _ 2 (by omega) (word m c t 2 (by omega) _ _))
    (fun c t => chk 1 0 1 _ 0 (by omega) (word m c t 0 (by omega) _ _))
    (fun c t => chk 1 0 1 _ 1 (by omega) (word m c t 1 (by omega) _ _))
    (fun c t => chk 1 0 1 _ 2 (by omega) (word m c t 2 (by omega) _ _))
    (fun c t => chk 0 1 1 _ 0 (by omega) (word m c t 0 (by omega) _ _))
    (fun c t => chk 0 1 1 _ 1 (by omega) (word m c t 1 (by omega) _ _))
    (fun c t => chk 0 1 1 _ 2 (by omega) (word m c t 2 (by omega) _ _))
    (fun c t => chk 1 1 1 _ 0 (by omega) (word m c t 0 (by omega) _ _))
    (fun c t => chk 1 1 1 _ 1 (by omega) (word m c t 1 (by omega) _ _))
    (fun c t => chk 1 1 1 _ 2 (by omega) (word m c t 2 (by omega) _ _))
    (fun c t => chk 0 0 0 _ 0 (by omega) (word m c t 0 (by omega) _ _))
    (fun c t => chk 0 0 0 _ 1 (by omega) (word m c t 1 (by omega) _ _))
    (fun c t => chk 0 0 0 _ 2 (by omega) (word m c t 2 (by omega) _ _))
    (fun c t => chk 1 0 0 _ 0 (by omega) (word m c t 0 (by omega) _ _))
    (fun c t => chk 1 0 0 _ 1 (by omega) (word m c t 1 (by omega) _ _))
    (fun c t => chk 1 0 0 _ 2 (by omega) (word m c t 2 (by omega) _ _))
    (fun c t => chk 0 1 0 _ 0 (by omega) (word m c t 0 (by omega) _ _))
    (fun c t => chk 0 1 0 _ 1 (by omega) (word m c t 1 (by omega) _ _))
    (fun c t => chk 0 1 0 _ 2 (by omega) (word m c t 2 (by omega) _ _))
    (fun c t => chk 1 1 0 _ 0 (by omega) (word m c t 0 (by omega) _ _))
    (fun c t => chk 1 1 0 _ 1 (by omega) (word m c t 1 (by omega) _ _))
    (fun c t => chk 1 1 0 _ 2 (by omega) (word m c t 2 (by omega) _ _))
    (fun c t => chk 0 0 1 _ 0 (by omega) (word m c t 0 (by omega) _ _))
    (fun c t => chk 0 0 1 _ 1 (by omega) (word m c t 1 (by omega) _ _))
    (fun c t => chk 0 0 1 _ 2 (by omega) (word m c t 2 (by omega) _ _))
    (fun c t => chk 1 0 1 _ 0 (by omega) (word m c t 0 (by omega) _ _))
    (fun c t => chk 1 0 1 _ 1 (by omega) (word m c t 1 (by omega) _ _))
    (fun c t => chk 1 0 1 _ 2 (by omega) (word m c t 2 (by omega) _ _))
    (fun c t => chk 0 1 1 _ 0 (by omega) (word m c t 0 (by omega) _ _))
    (fun c t => chk 0 1 1 _ 1 (by omega) (word m c t 1 (by omega) _ _))
    (fun c t => chk 0 1 1 _ 2 (by omega) (word m c t 2 (by omega) _ _))
    (fun c t => chk 1 1 1 _ 0 (by omega) (word m c t 0 (by omega) _ _))
    (fun c t => chk 1 1 1 _ 1 (by omega) (word m c t 1 (by omega) _ _))
    (fun c t => chk 1 1 1 _ 2 (by omega) (word m c t 2 (by omega) _ _))
    (fun c t => chk 0 0 0 _ 0 (by omega) (word m c t 0 (by omega) _ _))
    (fun c t => chk 0 0 0 _ 1 (by omega) (word m c t 1 (by omega) _ _))
    (fun c t => chk 0 0 0 _ 2 (by omega) (word m c t 2 (by omega) _ _))
    (fun c t => chk 1 0 0 _ 0 (by omega) (word m c t 0 (by omega) _ _))
    (fun c t => chk 1 0 0 _ 1 (by omega) (word m c t 1 (by omega) _ _))
    (fun c t => chk 1 0 0 _ 2 (by omega) (word m c t 2 (by omega) _ _))
    (fun c t => chk 0 1 0 _ 0 (by omega) (word m c t 0 (by omega) _ _))
    (fun c t => chk 0 1 0 _ 1 (by omega) (word m c t 1 (by omega) _ _))
    (fun c t => chk 0 1 0 _ 2 (by omega) (word m c t 2 (by omega) _ _))
    (fun c t => chk 1 1 0 _ 0 (by omega) (word m c t 0 (by omega) _ _))
    (fun c t => chk 1 1 0 _ 1 (by omega) (word m c t 1 (by omega) _ _))
    (fun c t => chk 1 1 0 _ 2 (by omega) (word m c t 2 (by omega) _ _))

end Cert.FfnIdeal.Att
-- ==== Proof.FfnPoint.lean ====
module

public import proofs.«01_k».proof.Proof.FfnLoads
public import proofs.«01_k».proof.Proof.FfnIdealHyps

@[expose] public section

set_option maxRecDepth 131072

noncomputable section

namespace Cert.FfnIdeal.Att

open Cert.FfnIdeal Cert.FfnIdeal.Gen
open Idealize.ShloMosaic Idealize.ShloMosaic.TcCoe Idealize.SL.Sem

variable (m : (ℓ : Loc nD τ sig) → Buf (Elt Ideal) ℓ)

/-- The offset word of a load, in the form the run leaves it. -/
theorem word_ld (c : Dev nD) (t : Fin cfg0.N) (k : ℕ) (hk : k < 3) (inb) (hp : 0 < S1.numel) :
    View.ld (View.read (Elt Ideal) (ms0_0 t).view ((hs0_0 t).unread (iblk m c 0 t))) (Rect.unit (s := S3) ![k] S1.size inb) (Shape.Idx.first hp)
      = BitVec.ofNat 32 (15 + k) :=
  word m c t k hk inb hp

theorem off_eq (a b d : Fin 2) (W : BitVec 32) (k : ℕ) (hk : k < 3) (hW : W = BitVec.ofNat 32 (15 + k)) :
    (![(a : ℕ), b, d, (Scalar.indexCast W : Index).toNat, 0] : Fin 5 → ℕ) = ![(a : ℕ), b, d, 15 + k, 0] := by
  subst hW
  have : (Scalar.indexCast (BitVec.ofNat 32 (15 + k)) : Index).toNat = 15 + k := by
    interval_cases k <;> rfl
  rw [this]

/-- The normed tile of a grid step, with the rows before and after it. -/
def hAt (c : Dev nD) (t : Fin cfg0.N) : FVec Ideal S544x1024 .bf16 :=
  k0_pay5 (F := Ideal) (k0_pay2 (iblk m c 4 t)) (k0_pay3 (grid0.coords t) (iblk m c 4 t) (iblk m c 1 t))
    (k0_pay4 (grid0.coords t) (iblk m c 4 t) (iblk m c 3 t)) (iblk m c 2 t)

/-- The activations of a grid step. -/
abbrev actAt (c : Dev nD) (t : Fin cfg0.N) : Fin 512 → ℕ → EReal := act (hAt m c t) (iblk m c 5 t) (iblk m c 6 t) (iblk m c 7 t)

/-- Rows of the second weight, from its block. -/
theorem ld_rows (X8 : FVec Ideal S2816x1024 .bf16) (o n : ℕ) (inb) (k : Fin n) (d : Fin 1024) (h : o + (k : ℕ) < 2816) :
    (show Vec Ideal ⟨2, ![n, 1024]⟩ .bf16 from View.ld (X8 : Vec Ideal S2816x1024 .bf16) (Rect.unit (s := S2816x1024) ![o, 0] ![n, 1024] inb)) (ix2 k d) = X8 (ix2 ⟨o + k, h⟩ d) := by
  refine congrArg X8 ?_
  funext p
  apply Fin.ext
  match p with
  | ⟨0, _⟩ => show o + 1 * (k : ℕ) = o + (k : ℕ); omega
  | ⟨1, _⟩ => show 0 + 1 * (d : ℕ) = (d : ℕ); omega

/-- One element of one grid step's block, from its input blocks. -/
theorem outs_at (c : Dev nD) (t : Fin cfg0.N) (r : Fin 512) (d : Fin 1024) :
    outsAt0 m (hyps m) c t (ix3 0 r d) = outRow (down (actAt m c t) (iblk m c 8 t)) (iblk m c 2 t) (iblk m c 9 t) r d := by
  unfold outsAt0
  frame_out
  refine tail_of _ _ _ _ _ _ _ _ _ _ r d ?_ ?_ ?_ ?_ ?_ ?_
  · intro r k
    refine load_act _ _ _ 0 8 1024 0 _ rfl (by omega) ?_ r k
    refine holds_cons _ _ 0 7 _ _ _ rfl ?_ ?_
    · intro r l
      refine Eq.trans (gate_7 _ _ _ _ _ _ _ _ _ _ r l) ?_
      refine act_of _ _ _ _ r l 896 3712 (by omega) _ _ ?_ ?_
      · refine conv_of _ _ _ _ _ 1 0 1 896 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 768 _ 128 (by omega) (slab_13 _ _) _ _ _ _ (by decide)
        · exact off_eq 1 0 1 _ 0 (by omega) (word_ld m c t 0 (by omega) _ _)
        · exact off_eq 1 0 1 _ 1 (by omega) (word_ld m c t 1 (by omega) _ _)
        · exact off_eq 1 0 1 _ 2 (by omega) (word_ld m c t 2 (by omega) _ _)
      · refine conv_of _ _ _ _ _ 1 1 1 3712 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 3584 _ 128 (by omega) (slab_15 _ _) _ _ _ _ (by decide)
        · exact off_eq 1 1 1 _ 0 (by omega) (word_ld m c t 0 (by omega) _ _)
        · exact off_eq 1 1 1 _ 1 (by omega) (word_ld m c t 1 (by omega) _ _)
        · exact off_eq 1 1 1 _ 2 (by omega) (word_ld m c t 2 (by omega) _ _)
    refine holds_cons _ _ 0 6 _ _ _ rfl ?_ ?_
    · intro r l
      refine Eq.trans (gate_6 _ _ _ _ _ _ _ _ _ _ r l) ?_
      refine act_of _ _ _ _ r l 768 3584 (by omega) _ _ ?_ ?_
      · refine conv_of _ _ _ _ _ 1 0 0 768 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 768 _ 0 (by omega) (slab_12 _ _) _ _ _ _ (by decide)
        · exact off_eq 1 0 0 _ 0 (by omega) (word_ld m c t 0 (by omega) _ _)
        · exact off_eq 1 0 0 _ 1 (by omega) (word_ld m c t 1 (by omega) _ _)
        · exact off_eq 1 0 0 _ 2 (by omega) (word_ld m c t 2 (by omega) _ _)
      · refine conv_of _ _ _ _ _ 1 1 0 3584 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 3584 _ 0 (by omega) (slab_14 _ _) _ _ _ _ (by decide)
        · exact off_eq 1 1 0 _ 0 (by omega) (word_ld m c t 0 (by omega) _ _)
        · exact off_eq 1 1 0 _ 1 (by omega) (word_ld m c t 1 (by omega) _ _)
        · exact off_eq 1 1 0 _ 2 (by omega) (word_ld m c t 2 (by omega) _ _)
    refine holds_cons _ _ 0 5 _ _ _ rfl ?_ ?_
    · intro r l
      refine Eq.trans (gate_5 _ _ _ _ _ _ _ _ _ _ r l) ?_
      refine act_of _ _ _ _ r l 640 3456 (by omega) _ _ ?_ ?_
      · refine conv_of _ _ _ _ _ 0 0 1 640 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 512 _ 128 (by omega) (slab_9 _ _) _ _ _ _ (by decide)
        · exact off_eq 0 0 1 _ 0 (by omega) (word_ld m c t 0 (by omega) _ _)
        · exact off_eq 0 0 1 _ 1 (by omega) (word_ld m c t 1 (by omega) _ _)
        · exact off_eq 0 0 1 _ 2 (by omega) (word_ld m c t 2 (by omega) _ _)
      · refine conv_of _ _ _ _ _ 0 1 1 3456 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 3328 _ 128 (by omega) (slab_11 _ _) _ _ _ _ (by decide)
        · exact off_eq 0 1 1 _ 0 (by omega) (word_ld m c t 0 (by omega) _ _)
        · exact off_eq 0 1 1 _ 1 (by omega) (word_ld m c t 1 (by omega) _ _)
        · exact off_eq 0 1 1 _ 2 (by omega) (word_ld m c t 2 (by omega) _ _)
    refine holds_cons _ _ 0 4 _ _ _ rfl ?_ ?_
    · intro r l
      refine Eq.trans (gate_4 _ _ _ _ _ _ _ _ _ _ r l) ?_
      refine act_of _ _ _ _ r l 512 3328 (by omega) _ _ ?_ ?_
      · refine conv_of _ _ _ _ _ 0 0 0 512 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 512 _ 0 (by omega) (slab_8 _ _) _ _ _ _ (by decide)
        · exact off_eq 0 0 0 _ 0 (by omega) (word_ld m c t 0 (by omega) _ _)
        · exact off_eq 0 0 0 _ 1 (by omega) (word_ld m c t 1 (by omega) _ _)
        · exact off_eq 0 0 0 _ 2 (by omega) (word_ld m c t 2 (by omega) _ _)
      · refine conv_of _ _ _ _ _ 0 1 0 3328 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 3328 _ 0 (by omega) (slab_10 _ _) _ _ _ _ (by decide)
        · exact off_eq 0 1 0 _ 0 (by omega) (word_ld m c t 0 (by omega) _ _)
        · exact off_eq 0 1 0 _ 1 (by omega) (word_ld m c t 1 (by omega) _ _)
        · exact off_eq 0 1 0 _ 2 (by omega) (word_ld m c t 2 (by omega) _ _)
    refine holds_cons _ _ 0 3 _ _ _ rfl ?_ ?_
    · intro r l
      refine Eq.trans (gate_3 _ _ _ _ _ _ _ _ _ _ r l) ?_
      refine act_of _ _ _ _ r l 384 3200 (by omega) _ _ ?_ ?_
      · refine conv_of _ _ _ _ _ 1 0 1 384 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 256 _ 128 (by omega) (slab_5 _ _) _ _ _ _ (by decide)
        · exact off_eq 1 0 1 _ 0 (by omega) (word_ld m c t 0 (by omega) _ _)
        · exact off_eq 1 0 1 _ 1 (by omega) (word_ld m c t 1 (by omega) _ _)
        · exact off_eq 1 0 1 _ 2 (by omega) (word_ld m c t 2 (by omega) _ _)
      · refine conv_of _ _ _ _ _ 1 1 1 3200 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 3072 _ 128 (by omega) (slab_7 _ _) _ _ _ _ (by decide)
        · exact off_eq 1 1 1 _ 0 (by omega) (word_ld m c t 0 (by omega) _ _)
        · exact off_eq 1 1 1 _ 1 (by omega) (word_ld m c t 1 (by omega) _ _)
        · exact off_eq 1 1 1 _ 2 (by omega) (word_ld m c t 2 (by omega) _ _)
    refine holds_cons _ _ 0 2 _ _ _ rfl ?_ ?_
    · intro r l
      refine Eq.trans (gate_2 _ _ _ _ _ _ _ _ _ _ r l) ?_
      refine act_of _ _ _ _ r l 256 3072 (by omega) _ _ ?_ ?_
      · refine conv_of _ _ _ _ _ 1 0 0 256 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 256 _ 0 (by omega) (slab_4 _ _) _ _ _ _ (by decide)
        · exact off_eq 1 0 0 _ 0 (by omega) (word_ld m c t 0 (by omega) _ _)
        · exact off_eq 1 0 0 _ 1 (by omega) (word_ld m c t 1 (by omega) _ _)
        · exact off_eq 1 0 0 _ 2 (by omega) (word_ld m c t 2 (by omega) _ _)
      · refine conv_of _ _ _ _ _ 1 1 0 3072 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 3072 _ 0 (by omega) (slab_6 _ _) _ _ _ _ (by decide)
        · exact off_eq 1 1 0 _ 0 (by omega) (word_ld m c t 0 (by omega) _ _)
        · exact off_eq 1 1 0 _ 1 (by omega) (word_ld m c t 1 (by omega) _ _)
        · exact off_eq 1 1 0 _ 2 (by omega) (word_ld m c t 2 (by omega) _ _)
    refine holds_cons _ _ 0 1 _ _ _ rfl ?_ ?_
    · intro r l
      refine Eq.trans (gate_1 _ _ _ _ _ _ _ _ _ _ r l) ?_
      refine act_of _ _ _ _ r l 128 2944 (by omega) _ _ ?_ ?_
      · refine conv_of _ _ _ _ _ 0 0 1 128 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 0 _ 128 (by omega) (slab_1 _ _ _ _ _) _ _ _ _ (by decide)
        · exact off_eq 0 0 1 _ 0 (by omega) (word_ld m c t 0 (by omega) _ _)
        · exact off_eq 0 0 1 _ 1 (by omega) (word_ld m c t 1 (by omega) _ _)
        · exact off_eq 0 0 1 _ 2 (by omega) (word_ld m c t 2 (by omega) _ _)
      · refine conv_of _ _ _ _ _ 0 1 1 2944 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 2816 _ 128 (by omega) (slab_3 _ _ _ _ _) _ _ _ _ (by decide)
        · exact off_eq 0 1 1 _ 0 (by omega) (word_ld m c t 0 (by omega) _ _)
        · exact off_eq 0 1 1 _ 1 (by omega) (word_ld m c t 1 (by omega) _ _)
        · exact off_eq 0 1 1 _ 2 (by omega) (word_ld m c t 2 (by omega) _ _)
    refine holds_cons _ _ 0 0 _ _ _ rfl ?_ ?_
    · intro r l
      refine Eq.trans (gate_0 _ _ _ _ _ _ _ _ _ _ r l) ?_
      refine act_of _ _ _ _ r l 0 2816 (by omega) _ _ ?_ ?_
      · refine conv_of _ _ _ _ _ 0 0 0 0 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 0 _ 0 (by omega) (slab_0 _ _ _ _ _) _ _ _ _ (by decide)
        · exact off_eq 0 0 0 _ 0 (by omega) (word_ld m c t 0 (by omega) _ _)
        · exact off_eq 0 0 0 _ 1 (by omega) (word_ld m c t 1 (by omega) _ _)
        · exact off_eq 0 0 0 _ 2 (by omega) (word_ld m c t 2 (by omega) _ _)
      · refine conv_of _ _ _ _ _ 0 1 0 2816 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 2816 _ 0 (by omega) (slab_2 _ _ _ _ _) _ _ _ _ (by decide)
        · exact off_eq 0 1 0 _ 0 (by omega) (word_ld m c t 0 (by omega) _ _)
        · exact off_eq 0 1 0 _ 1 (by omega) (word_ld m c t 1 (by omega) _ _)
        · exact off_eq 0 1 0 _ 2 (by omega) (word_ld m c t 2 (by omega) _ _)
    exact holds_empty _ _ _
  · intro r k
    refine load_act _ _ _ 8 16 1024 1024 _ rfl (by omega) ?_ r k
    refine holds_cons _ _ 8 15 _ _ _ rfl ?_ ?_
    · intro r l
      refine Eq.trans (gate_15 _ _ _ _ _ _ _ _ _ _ r l) ?_
      refine act_of _ _ _ _ r l 1920 4736 (by omega) _ _ ?_ ?_
      · refine conv_of _ _ _ _ _ 1 0 1 1920 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 1792 _ 128 (by omega) (slab_29 _ _) _ _ _ _ (by decide)
        · exact off_eq 1 0 1 _ 0 (by omega) (word_ld m c t 0 (by omega) _ _)
        · exact off_eq 1 0 1 _ 1 (by omega) (word_ld m c t 1 (by omega) _ _)
        · exact off_eq 1 0 1 _ 2 (by omega) (word_ld m c t 2 (by omega) _ _)
      · refine conv_of _ _ _ _ _ 1 1 1 4736 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 4608 _ 128 (by omega) (slab_31 _ _) _ _ _ _ (by decide)
        · exact off_eq 1 1 1 _ 0 (by omega) (word_ld m c t 0 (by omega) _ _)
        · exact off_eq 1 1 1 _ 1 (by omega) (word_ld m c t 1 (by omega) _ _)
        · exact off_eq 1 1 1 _ 2 (by omega) (word_ld m c t 2 (by omega) _ _)
    refine holds_cons _ _ 8 14 _ _ _ rfl ?_ ?_
    · intro r l
      refine Eq.trans (gate_14 _ _ _ _ _ _ _ _ _ _ r l) ?_
      refine act_of _ _ _ _ r l 1792 4608 (by omega) _ _ ?_ ?_
      · refine conv_of _ _ _ _ _ 1 0 0 1792 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 1792 _ 0 (by omega) (slab_28 _ _) _ _ _ _ (by decide)
        · exact off_eq 1 0 0 _ 0 (by omega) (word_ld m c t 0 (by omega) _ _)
        · exact off_eq 1 0 0 _ 1 (by omega) (word_ld m c t 1 (by omega) _ _)
        · exact off_eq 1 0 0 _ 2 (by omega) (word_ld m c t 2 (by omega) _ _)
      · refine conv_of _ _ _ _ _ 1 1 0 4608 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 4608 _ 0 (by omega) (slab_30 _ _) _ _ _ _ (by decide)
        · exact off_eq 1 1 0 _ 0 (by omega) (word_ld m c t 0 (by omega) _ _)
        · exact off_eq 1 1 0 _ 1 (by omega) (word_ld m c t 1 (by omega) _ _)
        · exact off_eq 1 1 0 _ 2 (by omega) (word_ld m c t 2 (by omega) _ _)
    refine holds_cons _ _ 8 13 _ _ _ rfl ?_ ?_
    · intro r l
      refine Eq.trans (gate_13 _ _ _ _ _ _ _ _ _ _ r l) ?_
      refine act_of _ _ _ _ r l 1664 4480 (by omega) _ _ ?_ ?_
      · refine conv_of _ _ _ _ _ 0 0 1 1664 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 1536 _ 128 (by omega) (slab_25 _ _) _ _ _ _ (by decide)
        · exact off_eq 0 0 1 _ 0 (by omega) (word_ld m c t 0 (by omega) _ _)
        · exact off_eq 0 0 1 _ 1 (by omega) (word_ld m c t 1 (by omega) _ _)
        · exact off_eq 0 0 1 _ 2 (by omega) (word_ld m c t 2 (by omega) _ _)
      · refine conv_of _ _ _ _ _ 0 1 1 4480 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 4352 _ 128 (by omega) (slab_27 _ _) _ _ _ _ (by decide)
        · exact off_eq 0 1 1 _ 0 (by omega) (word_ld m c t 0 (by omega) _ _)
        · exact off_eq 0 1 1 _ 1 (by omega) (word_ld m c t 1 (by omega) _ _)
        · exact off_eq 0 1 1 _ 2 (by omega) (word_ld m c t 2 (by omega) _ _)
    refine holds_cons _ _ 8 12 _ _ _ rfl ?_ ?_
    · intro r l
      refine Eq.trans (gate_12 _ _ _ _ _ _ _ _ _ _ r l) ?_
      refine act_of _ _ _ _ r l 1536 4352 (by omega) _ _ ?_ ?_
      · refine conv_of _ _ _ _ _ 0 0 0 1536 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 1536 _ 0 (by omega) (slab_24 _ _) _ _ _ _ (by decide)
        · exact off_eq 0 0 0 _ 0 (by omega) (word_ld m c t 0 (by omega) _ _)
        · exact off_eq 0 0 0 _ 1 (by omega) (word_ld m c t 1 (by omega) _ _)
        · exact off_eq 0 0 0 _ 2 (by omega) (word_ld m c t 2 (by omega) _ _)
      · refine conv_of _ _ _ _ _ 0 1 0 4352 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 4352 _ 0 (by omega) (slab_26 _ _) _ _ _ _ (by decide)
        · exact off_eq 0 1 0 _ 0 (by omega) (word_ld m c t 0 (by omega) _ _)
        · exact off_eq 0 1 0 _ 1 (by omega) (word_ld m c t 1 (by omega) _ _)
        · exact off_eq 0 1 0 _ 2 (by omega) (word_ld m c t 2 (by omega) _ _)
    refine holds_cons _ _ 8 11 _ _ _ rfl ?_ ?_
    · intro r l
      refine Eq.trans (gate_11 _ _ _ _ _ _ _ _ _ _ r l) ?_
      refine act_of _ _ _ _ r l 1408 4224 (by omega) _ _ ?_ ?_
      · refine conv_of _ _ _ _ _ 1 0 1 1408 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 1280 _ 128 (by omega) (slab_21 _ _) _ _ _ _ (by decide)
        · exact off_eq 1 0 1 _ 0 (by omega) (word_ld m c t 0 (by omega) _ _)
        · exact off_eq 1 0 1 _ 1 (by omega) (word_ld m c t 1 (by omega) _ _)
        · exact off_eq 1 0 1 _ 2 (by omega) (word_ld m c t 2 (by omega) _ _)
      · refine conv_of _ _ _ _ _ 1 1 1 4224 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 4096 _ 128 (by omega) (slab_23 _ _) _ _ _ _ (by decide)
        · exact off_eq 1 1 1 _ 0 (by omega) (word_ld m c t 0 (by omega) _ _)
        · exact off_eq 1 1 1 _ 1 (by omega) (word_ld m c t 1 (by omega) _ _)
        · exact off_eq 1 1 1 _ 2 (by omega) (word_ld m c t 2 (by omega) _ _)
    refine holds_cons _ _ 8 10 _ _ _ rfl ?_ ?_
    · intro r l
      refine Eq.trans (gate_10 _ _ _ _ _ _ _ _ _ _ r l) ?_
      refine act_of _ _ _ _ r l 1280 4096 (by omega) _ _ ?_ ?_
      · refine conv_of _ _ _ _ _ 1 0 0 1280 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 1280 _ 0 (by omega) (slab_20 _ _) _ _ _ _ (by decide)
        · exact off_eq 1 0 0 _ 0 (by omega) (word_ld m c t 0 (by omega) _ _)
        · exact off_eq 1 0 0 _ 1 (by omega) (word_ld m c t 1 (by omega) _ _)
        · exact off_eq 1 0 0 _ 2 (by omega) (word_ld m c t 2 (by omega) _ _)
      · refine conv_of _ _ _ _ _ 1 1 0 4096 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 4096 _ 0 (by omega) (slab_22 _ _) _ _ _ _ (by decide)
        · exact off_eq 1 1 0 _ 0 (by omega) (word_ld m c t 0 (by omega) _ _)
        · exact off_eq 1 1 0 _ 1 (by omega) (word_ld m c t 1 (by omega) _ _)
        · exact off_eq 1 1 0 _ 2 (by omega) (word_ld m c t 2 (by omega) _ _)
    refine holds_cons _ _ 8 9 _ _ _ rfl ?_ ?_
    · intro r l
      refine Eq.trans (gate_9 _ _ _ _ _ _ _ _ _ _ r l) ?_
      refine act_of _ _ _ _ r l 1152 3968 (by omega) _ _ ?_ ?_
      · refine conv_of _ _ _ _ _ 0 0 1 1152 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 1024 _ 128 (by omega) (slab_17 _ _) _ _ _ _ (by decide)
        · exact off_eq 0 0 1 _ 0 (by omega) (word_ld m c t 0 (by omega) _ _)
        · exact off_eq 0 0 1 _ 1 (by omega) (word_ld m c t 1 (by omega) _ _)
        · exact off_eq 0 0 1 _ 2 (by omega) (word_ld m c t 2 (by omega) _ _)
      · refine conv_of _ _ _ _ _ 0 1 1 3968 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 3840 _ 128 (by omega) (slab_19 _ _) _ _ _ _ (by decide)
        · exact off_eq 0 1 1 _ 0 (by omega) (word_ld m c t 0 (by omega) _ _)
        · exact off_eq 0 1 1 _ 1 (by omega) (word_ld m c t 1 (by omega) _ _)
        · exact off_eq 0 1 1 _ 2 (by omega) (word_ld m c t 2 (by omega) _ _)
    refine holds_cons _ _ 8 8 _ _ _ rfl ?_ ?_
    · intro r l
      refine Eq.trans (gate_8 _ _ _ _ _ _ _ _ _ _ r l) ?_
      refine act_of _ _ _ _ r l 1024 3840 (by omega) _ _ ?_ ?_
      · refine conv_of _ _ _ _ _ 0 0 0 1024 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 1024 _ 0 (by omega) (slab_16 _ _) _ _ _ _ (by decide)
        · exact off_eq 0 0 0 _ 0 (by omega) (word_ld m c t 0 (by omega) _ _)
        · exact off_eq 0 0 0 _ 1 (by omega) (word_ld m c t 1 (by omega) _ _)
        · exact off_eq 0 0 0 _ 2 (by omega) (word_ld m c t 2 (by omega) _ _)
      · refine conv_of _ _ _ _ _ 0 1 0 3840 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 3840 _ 0 (by omega) (slab_18 _ _) _ _ _ _ (by decide)
        · exact off_eq 0 1 0 _ 0 (by omega) (word_ld m c t 0 (by omega) _ _)
        · exact off_eq 0 1 0 _ 1 (by omega) (word_ld m c t 1 (by omega) _ _)
        · exact off_eq 0 1 0 _ 2 (by omega) (word_ld m c t 2 (by omega) _ _)
    exact holds_empty _ _ _
  · intro r k
    refine load_act _ _ _ 16 22 768 2048 _ rfl (by omega) ?_ r k
    refine holds_cons _ _ 16 21 _ _ _ rfl ?_ ?_
    · intro r l
      refine Eq.trans (gate_21 _ _ _ _ _ _ _ _ _ _ r l) ?_
      refine act_of _ _ _ _ r l 2688 5504 (by omega) _ _ ?_ ?_
      · refine conv_of _ _ _ _ _ 0 0 1 2688 ?_ (by omega) _ _ _ _ _ _ _ _ ?_ ?_ ?_ r l
        · refine has_miss _ _ _ _ _ _ _ _ _ _ _ _ (by decide) ?_
          refine has_miss _ _ _ _ _ _ _ _ _ _ _ _ (by decide) ?_
          exact has_hit _ _ _ _ _ _ _ _ 2560 _ 128 (by omega) (slab_41 _ _) _ _ _ _ (by decide)
        · exact off_eq 0 0 1 _ 0 (by omega) (word_ld m c t 0 (by omega) _ _)
        · exact off_eq 0 0 1 _ 1 (by omega) (word_ld m c t 1 (by omega) _ _)
        · exact off_eq 0 0 1 _ 2 (by omega) (word_ld m c t 2 (by omega) _ _)
      · refine conv_of _ _ _ _ _ 0 1 1 5504 ?_ (by omega) _ _ _ _ _ _ _ _ ?_ ?_ ?_ r l
        · exact has_hit _ _ _ _ _ _ _ _ 5376 _ 128 (by omega) (slab_43 _ _) _ _ _ _ (by decide)
        · exact off_eq 0 1 1 _ 0 (by omega) (word_ld m c t 0 (by omega) _ _)
        · exact off_eq 0 1 1 _ 1 (by omega) (word_ld m c t 1 (by omega) _ _)
        · exact off_eq 0 1 1 _ 2 (by omega) (word_ld m c t 2 (by omega) _ _)
    refine holds_cons _ _ 16 20 _ _ _ rfl ?_ ?_
    · intro r l
      refine Eq.trans (gate_20 _ _ _ _ _ _ _ _ _ _ r l) ?_
      refine act_of _ _ _ _ r l 2560 5376 (by omega) _ _ ?_ ?_
      · refine conv_of _ _ _ _ _ 0 0 0 2560 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 2560 _ 0 (by omega) (slab_40 _ _) _ _ _ _ (by decide)
        · exact off_eq 0 0 0 _ 0 (by omega) (word_ld m c t 0 (by omega) _ _)
        · exact off_eq 0 0 0 _ 1 (by omega) (word_ld m c t 1 (by omega) _ _)
        · exact off_eq 0 0 0 _ 2 (by omega) (word_ld m c t 2 (by omega) _ _)
      · refine conv_of _ _ _ _ _ 0 1 0 5376 ?_ (by omega) _ _ _ _ _ _ _ _ ?_ ?_ ?_ r l
        · refine has_miss _ _ _ _ _ _ _ _ _ _ _ _ (by decide) ?_
          exact has_hit _ _ _ _ _ _ _ _ 5376 _ 0 (by omega) (slab_42 _ _) _ _ _ _ (by decide)
        · exact off_eq 0 1 0 _ 0 (by omega) (word_ld m c t 0 (by omega) _ _)
        · exact off_eq 0 1 0 _ 1 (by omega) (word_ld m c t 1 (by omega) _ _)
        · exact off_eq 0 1 0 _ 2 (by omega) (word_ld m c t 2 (by omega) _ _)
    refine holds_cons _ _ 16 19 _ _ _ rfl ?_ ?_
    · intro r l
      refine Eq.trans (gate_19 _ _ _ _ _ _ _ _ _ _ r l) ?_
      refine act_of _ _ _ _ r l 2432 5248 (by omega) _ _ ?_ ?_
      · refine conv_of _ _ _ _ _ 1 0 1 2432 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 2304 _ 128 (by omega) (slab_37 _ _) _ _ _ _ (by decide)
        · exact off_eq 1 0 1 _ 0 (by omega) (word_ld m c t 0 (by omega) _ _)
        · exact off_eq 1 0 1 _ 1 (by omega) (word_ld m c t 1 (by omega) _ _)
        · exact off_eq 1 0 1 _ 2 (by omega) (word_ld m c t 2 (by omega) _ _)
      · refine conv_of _ _ _ _ _ 1 1 1 5248 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 5120 _ 128 (by omega) (slab_39 _ _) _ _ _ _ (by decide)
        · exact off_eq 1 1 1 _ 0 (by omega) (word_ld m c t 0 (by omega) _ _)
        · exact off_eq 1 1 1 _ 1 (by omega) (word_ld m c t 1 (by omega) _ _)
        · exact off_eq 1 1 1 _ 2 (by omega) (word_ld m c t 2 (by omega) _ _)
    refine holds_cons _ _ 16 18 _ _ _ rfl ?_ ?_
    · intro r l
      refine Eq.trans (gate_18 _ _ _ _ _ _ _ _ _ _ r l) ?_
      refine act_of _ _ _ _ r l 2304 5120 (by omega) _ _ ?_ ?_
      · refine conv_of _ _ _ _ _ 1 0 0 2304 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 2304 _ 0 (by omega) (slab_36 _ _) _ _ _ _ (by decide)
        · exact off_eq 1 0 0 _ 0 (by omega) (word_ld m c t 0 (by omega) _ _)
        · exact off_eq 1 0 0 _ 1 (by omega) (word_ld m c t 1 (by omega) _ _)
        · exact off_eq 1 0 0 _ 2 (by omega) (word_ld m c t 2 (by omega) _ _)
      · refine conv_of _ _ _ _ _ 1 1 0 5120 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 5120 _ 0 (by omega) (slab_38 _ _) _ _ _ _ (by decide)
        · exact off_eq 1 1 0 _ 0 (by omega) (word_ld m c t 0 (by omega) _ _)
        · exact off_eq 1 1 0 _ 1 (by omega) (word_ld m c t 1 (by omega) _ _)
        · exact off_eq 1 1 0 _ 2 (by omega) (word_ld m c t 2 (by omega) _ _)
    refine holds_cons _ _ 16 17 _ _ _ rfl ?_ ?_
    · intro r l
      refine Eq.trans (gate_17 _ _ _ _ _ _ _ _ _ _ r l) ?_
      refine act_of _ _ _ _ r l 2176 4992 (by omega) _ _ ?_ ?_
      · refine conv_of _ _ _ _ _ 0 0 1 2176 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 2048 _ 128 (by omega) (slab_33 _ _) _ _ _ _ (by decide)
        · exact off_eq 0 0 1 _ 0 (by omega) (word_ld m c t 0 (by omega) _ _)
        · exact off_eq 0 0 1 _ 1 (by omega) (word_ld m c t 1 (by omega) _ _)
        · exact off_eq 0 0 1 _ 2 (by omega) (word_ld m c t 2 (by omega) _ _)
      · refine conv_of _ _ _ _ _ 0 1 1 4992 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 4864 _ 128 (by omega) (slab_35 _ _) _ _ _ _ (by decide)
        · exact off_eq 0 1 1 _ 0 (by omega) (word_ld m c t 0 (by omega) _ _)
        · exact off_eq 0 1 1 _ 1 (by omega) (word_ld m c t 1 (by omega) _ _)
        · exact off_eq 0 1 1 _ 2 (by omega) (word_ld m c t 2 (by omega) _ _)
    refine holds_cons _ _ 16 16 _ _ _ rfl ?_ ?_
    · intro r l
      refine Eq.trans (gate_16 _ _ _ _ _ _ _ _ _ _ r l) ?_
      refine act_of _ _ _ _ r l 2048 4864 (by omega) _ _ ?_ ?_
      · refine conv_of _ _ _ _ _ 0 0 0 2048 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 2048 _ 0 (by omega) (slab_32 _ _) _ _ _ _ (by decide)
        · exact off_eq 0 0 0 _ 0 (by omega) (word_ld m c t 0 (by omega) _ _)
        · exact off_eq 0 0 0 _ 1 (by omega) (word_ld m c t 1 (by omega) _ _)
        · exact off_eq 0 0 0 _ 2 (by omega) (word_ld m c t 2 (by omega) _ _)
      · refine conv_of _ _ _ _ _ 0 1 0 4864 ?_ (by omega) _ _ _ _ _ _ _ _ ?_ ?_ ?_ r l
        · refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          refine has_miss _ _ _ _ _ _ _ _ _ _ _ _ (by decide) ?_
          exact has_hit _ _ _ _ _ _ _ _ 4864 _ 0 (by omega) (slab_34 _ _) _ _ _ _ (by decide)
        · exact off_eq 0 1 0 _ 0 (by omega) (word_ld m c t 0 (by omega) _ _)
        · exact off_eq 0 1 0 _ 1 (by omega) (word_ld m c t 1 (by omega) _ _)
        · exact off_eq 0 1 0 _ 2 (by omega) (word_ld m c t 2 (by omega) _ _)
    exact holds_empty _ _ _
  · intro k d
    exact ld_rows _ 0 _ _ k d _
  · intro k d
    exact ld_rows _ 1024 _ _ k d _
  · intro k d
    exact ld_rows _ 2048 _ _ k d _

end Cert.FfnIdeal.Att
-- ==== Proof.FfnRef.lean ====
module

public import proofs.«01_k».proof.Proof.Gen.FfnRefIdeal.Run
public import Idealize.ShloMosaic.Lib.Pointwise

@[expose] public section

set_option maxRecDepth 16384

noncomputable section

namespace Cert.FfnRefIdeal.Att

open Cert.FfnRefIdeal Cert.FfnRefIdeal.Gen
open Idealize.ShloMosaic Idealize.ShloMosaic.TcCoe Idealize.SL.Sem
open Facts

/-- One over the root of the mean square of every row, and a little more. -/
def scale (X : FVec Ideal S2x8192x1024 .f32) : FVec Ideal S2x8192x1024 .f32 :=
  broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))

/-- A row's norm with its gain. -/
def normed (X : FVec Ideal S2x8192x1024 .f32) (G : FVec Ideal S1024 .f32) : FVec Ideal S2x8192x1024 .f32 :=
  mulf (mulf X (scale X)) (broadcastInDim S2x8192x1024 ![0, 1, 2] bcast_S1x1x1024_S2x8192x1024_0_1_2 (broadcastInDim S1x1x1024 ![2] bcast_S1024_S1x1x1024_2 G))

/-- The up-projection. -/
def proj (N : FVec Ideal S2x8192x1024 .f32) (X2 : FVec Ideal S1024x5632 .f32) : FVec Ideal S2x8192x5632 .f32 :=
  Host.dotGeneral dot_S2x8192x1024_S1024x5632_S2x8192x5632_2_0_01_1_n_n none N X2

/-- … with a row of zeros before the first position and one after the last. -/
def padded (N : FVec Ideal S2x8192x5632 .f32) : FVec Ideal S2x8194x5632 .f32 :=
  pad S2x8194x5632 ![0, 1, 0] ![0, 1, 0] ![0, 0, 0] N (sitofp .f32 (constantI S_ 32 0#32)) pads_S2x8192x5632_S2x8194x5632_000_110_000 h_S_

/-- The convolution over three neighbouring positions, and its bias. -/
def conved (P : FVec Ideal S2x8194x5632 .f32) (X3 : FVec Ideal S3x5632 .f32) (X4 : FVec Ideal S5632 .f32) : FVec Ideal S2x8192x5632 .f32 :=
  addf (addf (addf
    (mulf (extractStridedSlice S2x8192x5632 ![0, 0, 0] P slices_S2x8194x5632_S2x8192x5632_0_0_0) (broadcastInDim S2x8192x5632 ![0, 1, 2] bcast_S1x1x5632_S2x8192x5632_0_1_2 (broadcastInDim S1x1x5632 ![2] bcast_S5632_S1x1x5632_2 (shapeCast _ (extractStridedSlice S1x5632 ![0, 0] X3 slices_S3x5632_S1x5632_0_0) shapeCasts_S1x5632_S5632))))
    (mulf (extractStridedSlice S2x8192x5632 ![0, 1, 0] P slices_S2x8194x5632_S2x8192x5632_0_1_0) (broadcastInDim S2x8192x5632 ![0, 1, 2] bcast_S1x1x5632_S2x8192x5632_0_1_2 (broadcastInDim S1x1x5632 ![2] bcast_S5632_S1x1x5632_2 (shapeCast _ (extractStridedSlice S1x5632 ![1, 0] X3 slices_S3x5632_S1x5632_1_0) shapeCasts_S1x5632_S5632)))))
    (mulf (extractStridedSlice S2x8192x5632 ![0, 2, 0] P slices_S2x8194x5632_S2x8192x5632_0_2_0) (broadcastInDim S2x8192x5632 ![0, 1, 2] bcast_S1x1x5632_S2x8192x5632_0_1_2 (broadcastInDim S1x1x5632 ![2] bcast_S5632_S1x1x5632_2 (shapeCast _ (extractStridedSlice S1x5632 ![2, 0] X3 slices_S3x5632_S1x5632_2_0) shapeCasts_S1x5632_S5632)))))
    (broadcastInDim S2x8192x5632 ![0, 1, 2] bcast_S1x1x5632_S2x8192x5632_0_1_2 (broadcastInDim S1x1x5632 ![2] bcast_S5632_S1x1x5632_2 X4))

/-- The columns of the gate. -/
def gate (U : FVec Ideal S2x8192x5632 .f32) : FVec Ideal S2x8192x2816 .f32 :=
  extractStridedSlice S2x8192x2816 ![0, 0, 0] U slices_S2x8192x5632_S2x8192x2816_0_0_0

/-- The gated activations. -/
def acts (U : FVec Ideal S2x8192x5632 .f32) : FVec Ideal S2x8192x2816 .f32 :=
  mulf (mulf (gate U) (mulf (broadcastInDim S2x8192x2816 ![] bcast_S_S2x8192x2816 (constant S_ .f32 0x3F000000#32)) (addf (broadcastInDim S2x8192x2816 ![] bcast_S_S2x8192x2816 (constant S_ .f32 0x3F800000#32)) (Host.tanh (mulf (broadcastInDim S2x8192x2816 ![] bcast_S_S2x8192x2816 (constant S_ .f32 0x3F4C422A#32)) (addf (gate U) (mulf (broadcastInDim S2x8192x2816 ![] bcast_S_S2x8192x2816 (constant S_ .f32 0x3D372713#32)) (mulf (mulf (gate U) (gate U)) (gate U)))))))))
    (extractStridedSlice S2x8192x2816 ![0, 0, 2816] U slices_S2x8192x5632_S2x8192x2816_0_0_2816)

/-- The down projection. -/
def downs (A : FVec Ideal S2x8192x2816 .f32) (X5 : FVec Ideal S2816x1024 .f32) : FVec Ideal S2x8192x1024 .f32 :=
  Host.dotGeneral dot_S2x8192x2816_S2816x1024_S2x8192x1024_2_0_01_1_n_n none A X5

/-- What the reference computes of its arguments. -/
def out (X0 : FVec Ideal S2x8192x1024 .f32) (X1 : FVec Ideal S1024 .f32) (X2 : FVec Ideal S1024x5632 .f32) (X3 : FVec Ideal S3x5632 .f32)
    (X4 : FVec Ideal S5632 .f32) (X5 : FVec Ideal S2816x1024 .f32) (X6 : FVec Ideal S1024 .f32) : FVec Ideal S2x8192x1024 .f32 :=
  addf X0 (normed (downs (acts (conved (padded (proj (normed X0 X1) X2)) X3 X4)) X5) X6)

theorem res_eq (m : (ℓ : Loc nD τ sig) → Buf (Elt Ideal) ℓ) (c : Dev nD) :
    Value.res_main_v68 (F := Ideal) m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Value.res_main_v68
  rfl

/-- A row's norm with its gain, at an element. -/
def nrm (x : Fin 1024 → EReal) (g : EReal) (d : Fin 1024) : EReal :=
  x d * Ideal.rsqrt (Ideal.div (∑ e : Fin 1024, x e * x e) (Ideal.ofBits .f32 0x44800000#32) + Ideal.ofBits .f32 0x358637BD#32) * g

theorem normed_at (X : FVec Ideal S2x8192x1024 .f32) (G : FVec Ideal S1024 .f32) (b : Fin 2) (s : Fin 8192) (d : Fin 1024) :
    normed X G (ix3 b s d) = nrm (fun e => X (ix3 b s e)) (G (ix1 d)) d := by
  unfold nrm
  pointwise [normed, scale]

theorem proj_at (N : FVec Ideal S2x8192x1024 .f32) (X2 : FVec Ideal S1024x5632 .f32) (b : Fin 2) (s : Fin 8192) (f : Fin 5632) :
    proj N X2 (ix3 b s f) = ∑ d : Fin 1024, N (ix3 b s d) * X2 (ix2 d f) := by
  pointwise [proj]

theorem padded_in (N : FVec Ideal S2x8192x5632 .f32) (b : Fin 2) (q : Fin 8194) (f : Fin 5632) (h : 1 ≤ (q : ℕ) ∧ (q : ℕ) ≤ 8192) :
    padded N (ix3 b q f) = N (ix3 b ⟨q - 1, by omega⟩ f) := by
  pointwise [padded]
  rw [dif_pos ⟨h.1, by omega⟩]

theorem padded_out (N : FVec Ideal S2x8192x5632 .f32) (b : Fin 2) (q : Fin 8194) (f : Fin 5632) (h : ¬ (1 ≤ (q : ℕ) ∧ (q : ℕ) ≤ 8192)) :
    padded N (ix3 b q f) = 0 := by
  pointwise [padded]
  rw [dif_neg (by omega)]
  show (((0#32 : BitVec 32).toInt : ℝ) : EReal) = 0
  simp

theorem conved_at (P : FVec Ideal S2x8194x5632 .f32) (X3 : FVec Ideal S3x5632 .f32) (X4 : FVec Ideal S5632 .f32) (b : Fin 2) (s : Fin 8192) (f : Fin 5632) :
    conved P X3 X4 (ix3 b s f) = P (ix3 b ⟨s, by omega⟩ f) * X3 (ix2 0 f) + P (ix3 b ⟨1 + s, by omega⟩ f) * X3 (ix2 1 f)
      + P (ix3 b ⟨2 + s, by omega⟩ f) * X3 (ix2 2 f) + X4 (ix1 f) := by
  pointwise [conved]

/-- The gate's nonlinearity. -/
def gelu (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * g * g)))))

theorem acts_at (U : FVec Ideal S2x8192x5632 .f32) (b : Fin 2) (s : Fin 8192) (k : Fin 2816) :
    acts U (ix3 b s k) = gelu (U (ix3 b s ⟨k, by omega⟩)) * U (ix3 b s ⟨2816 + k, by omega⟩) := by
  unfold gelu
  pointwise [acts, gate]

theorem downs_at (A : FVec Ideal S2x8192x2816 .f32) (X5 : FVec Ideal S2816x1024 .f32) (b : Fin 2) (s : Fin 8192) (d : Fin 1024) :
    downs A X5 (ix3 b s d) = ∑ k : Fin 2816, A (ix3 b s k) * X5 (ix2 k d) := by
  pointwise [downs]

end Cert.FfnRefIdeal.Att
-- ==== Proof.FfnRows.lean ====
module

public import proofs.«01_k».proof.Proof.FfnPoint
public import proofs.«01_k».proof.Proof.FfnRef
public import Idealize.ShloMosaic.Lib.Pipeline.ValueKit

@[expose] public section

set_option maxRecDepth 16384

noncomputable section

namespace Cert.FfnIdeal.Att

open Cert.FfnIdeal Cert.FfnIdeal.Gen
open Idealize.ShloMosaic Idealize.ShloMosaic.TcCoe Idealize.SL.Sem
open Cert.FfnRefIdeal.Att (nrm)

/-! ## The rows of the normed tile -/

theorem pay2_at (X4 : Vec Ideal S1x1024 .f32) (d : Fin 1024) : k0_pay2 (F := Ideal) X4 (ix2 0 d) = X4 (ix2 0 d) := by
  pointwise [k0_pay2]

theorem pay3_at (i : grid0.Coords) (X4 : Vec Ideal S1x1024 .f32) (X1 : Vec Ideal S1x16x1024 .f32) (q : Fin 16) (d : Fin 1024) :
    k0_pay3 (F := Ideal) i X4 X1 (ix2 q d) = nrm (fun e => X1 (ix3 0 q e)) (X4 (ix2 0 d)) d
      * Scalar.select (Scalar.cmpi .sgt (BitVec.ofNat 32 (i 1).val) 0#32) (Ideal.ofBits .f32 0x3F800000#32) (Ideal.ofBits .f32 0x00000000#32) := by
  unfold nrm
  pointwise [k0_pay3, k0_pay2]

theorem pay4_at (i : grid0.Coords) (X4 : Vec Ideal S1x1024 .f32) (X1 : Vec Ideal S1x16x1024 .f32) (q : Fin 16) (d : Fin 1024) :
    k0_pay4 (F := Ideal) i X4 X1 (ix2 q d) = nrm (fun e => X1 (ix3 0 q e)) (X4 (ix2 0 d)) d
      * Scalar.select (Scalar.cmpi .slt (BitVec.ofNat 32 (i 1).val) 15#32) (Ideal.ofBits .f32 0x3F800000#32) (Ideal.ofBits .f32 0x00000000#32) := by
  unfold nrm
  pointwise [k0_pay4, k0_pay2]

theorem pay5_prev (v1 : FVec Ideal S1x1024 .f32) (v19 v37 : FVec Ideal S16x1024 .f32) (v38 : Vec Ideal S1x512x1024 .f32) (d : Fin 1024) :
    k0_pay5 (F := Ideal) v1 v19 v37 v38 (ix2 15 d) = v19 (ix2 15 d) := by
  pointwise [k0_pay5]

theorem pay5_mid (v1 : FVec Ideal S1x1024 .f32) (v19 v37 : FVec Ideal S16x1024 .f32) (v38 : Vec Ideal S1x512x1024 .f32) (q : Fin 512) (d : Fin 1024) :
    k0_pay5 (F := Ideal) v1 v19 v37 v38 (ix2 ⟨16 + q, by omega⟩ d) = nrm (fun e => v38 (ix3 0 q e)) (v1 (ix2 0 d)) d := by
  unfold nrm
  pointwise [k0_pay5]

theorem pay5_next (v1 : FVec Ideal S1x1024 .f32) (v19 v37 : FVec Ideal S16x1024 .f32) (v38 : Vec Ideal S1x512x1024 .f32) (d : Fin 1024) :
    k0_pay5 (F := Ideal) v1 v19 v37 v38 (ix2 528 d) = v37 (ix2 0 d) := by
  pointwise [k0_pay5]

variable (m : (ℓ : Loc nD τ sig) → Buf (Elt Ideal) ℓ)

/-! ## The input blocks of a grid step -/

abbrev argX (c : Dev nD) : FVec Ideal S2x8192x1024 .f32 := m ((c : Thread nD τ).loc main_arg0)
abbrev argG (c : Dev nD) : FVec Ideal S1024 .f32 := m ((c : Thread nD τ).loc main_arg1)
abbrev argU (c : Dev nD) : FVec Ideal S1024x5632 .f32 := m ((c : Thread nD τ).loc main_arg2)
abbrev argW (c : Dev nD) : FVec Ideal S3x5632 .f32 := m ((c : Thread nD τ).loc main_arg3)
abbrev argB (c : Dev nD) : FVec Ideal S5632 .f32 := m ((c : Thread nD τ).loc main_arg4)
abbrev argD (c : Dev nD) : FVec Ideal S2816x1024 .f32 := m ((c : Thread nD τ).loc main_arg5)
abbrev argP (c : Dev nD) : FVec Ideal S1024 .f32 := m ((c : Thread nD τ).loc main_arg6)

theorem idx : ∀ t : Fin cfg0.N, win0_1.index t = ![t.val / 16, t.val % 16 * 32 - 1, 0] ∧ win0_2.index t = ![t.val / 16, t.val % 16, 0]
    ∧ win0_3.index t = ![t.val / 16, min (t.val % 16 * 32 + 32) 511, 0] ∧ win0_10.index t = ![t.val / 16, t.val % 16, 0] ∧ t.val < 32 :=
  (by decide +kernel : ∀ t : Fin grid0.N, _)

theorem idx_whole : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

theorem coords_eq : ∀ t : Fin cfg0.N, (grid0.coords t 1).val = t.val % 16 :=
  (by decide +kernel : ∀ t : Fin grid0.N, _)

theorem t_lt (t : Fin cfg0.N) : t.val < 32 := (idx t).2.2.2.2

theorem blk1 (c : Dev nD) (t : Fin cfg0.N) (q : Fin 16) (d : Fin 1024) :
    iblk m c 1 t (ix3 0 q d) = argX m c (ix3 ⟨t.val / 16, by have := t_lt t; omega⟩ ⟨(t.val % 16 * 32 - 1) * 16 + q, by omega⟩ d) := by
  have := t_lt t
  blk_ext! [iblk, V, idx t]

theorem blk2 (c : Dev nD) (t : Fin cfg0.N) (q : Fin 512) (d : Fin 1024) :
    iblk m c 2 t (ix3 0 q d) = argX m c (ix3 ⟨t.val / 16, by have := t_lt t; omega⟩ ⟨t.val % 16 * 512 + q, by omega⟩ d) := by
  have := t_lt t
  blk_ext! [iblk, V, idx t]

theorem blk3 (c : Dev nD) (t : Fin cfg0.N) (q : Fin 16) (d : Fin 1024) :
    iblk m c 3 t (ix3 0 q d) = argX m c (ix3 ⟨t.val / 16, by have := t_lt t; omega⟩ ⟨min (t.val % 16 * 32 + 32) 511 * 16 + q, by omega⟩ d) := by
  have := t_lt t
  blk_ext! [iblk, V, idx t]

theorem main4 (c : Dev nD) (d : Fin 1024) : (show FVec Ideal S1x1024 .f32 from V m c main_v0) (ix2 0 d) = argG m c (ix1 d) := by
  entry_read
  pointwise []

theorem main5 (c : Dev nD) (x : S1024x5632.Idx) : (show FVec Ideal S1024x5632 .bf16 from V m c main_v1) x = argU m c x := by
  entry_read
  rfl

theorem main7 (c : Dev nD) (f : Fin 5632) : (show FVec Ideal S1x5632 .f32 from V m c main_v2) (ix2 0 f) = argB m c (ix1 f) := by
  entry_read
  pointwise []

theorem main8 (c : Dev nD) (x : S2816x1024.Idx) : (show FVec Ideal S2816x1024 .bf16 from V m c main_v3) x = argD m c x := by
  entry_read
  rfl

theorem main9 (c : Dev nD) (d : Fin 1024) : (show FVec Ideal S1x1024 .f32 from V m c main_v4) (ix2 0 d) = argP m c (ix1 d) := by
  entry_read
  pointwise []

theorem blk4 (c : Dev nD) (t : Fin cfg0.N) (d : Fin 1024) : iblk m c 4 t (ix2 0 d) = argG m c (ix1 d) := by
  refine Eq.trans ?_ (main4 m c d)
  show V m c main_v0 ((win0_4.blk t).view.emb (ix2 0 d)) = _
  congr 1
  blk_ext! [idx_whole t]

theorem blk5 (c : Dev nD) (t : Fin cfg0.N) (d : Fin 1024) (f : Fin 5632) : iblk m c 5 t (ix2 d f) = argU m c (ix2 d f) := by
  refine Eq.trans ?_ (main5 m c (ix2 d f))
  show V m c main_v1 ((win0_5.blk t).view.emb (ix2 d f)) = _
  congr 1
  blk_ext! [idx_whole t]

theorem blk6 (c : Dev nD) (t : Fin cfg0.N) (q : Fin 3) (f : Fin 5632) : iblk m c 6 t (ix2 q f) = argW m c (ix2 q f) := by
  blk_ext! [iblk, V, idx_whole t]

theorem blk7 (c : Dev nD) (t : Fin cfg0.N) (f : Fin 5632) : iblk m c 7 t (ix2 0 f) = argB m c (ix1 f) := by
  refine Eq.trans ?_ (main7 m c f)
  show V m c main_v2 ((win0_7.blk t).view.emb (ix2 0 f)) = _
  congr 1
  blk_ext! [idx_whole t]

theorem blk8 (c : Dev nD) (t : Fin cfg0.N) (k : Fin 2816) (d : Fin 1024) : iblk m c 8 t (ix2 k d) = argD m c (ix2 k d) := by
  refine Eq.trans ?_ (main8 m c (ix2 k d))
  show V m c main_v3 ((win0_8.blk t).view.emb (ix2 k d)) = _
  congr 1
  blk_ext! [idx_whole t]

theorem blk9 (c : Dev nD) (t : Fin cfg0.N) (d : Fin 1024) : iblk m c 9 t (ix2 0 d) = argP m c (ix1 d) := by
  refine Eq.trans ?_ (main9 m c d)
  show V m c main_v4 ((win0_9.blk t).view.emb (ix2 0 d)) = _
  congr 1
  blk_ext! [idx_whole t]

end Cert.FfnIdeal.Att
-- ==== Proof.FfnFinal.lean ====
module

public import proofs.«01_k».proof.Proof.FfnRows

@[expose] public section

set_option maxRecDepth 16384

noncomputable section

namespace Cert.FfnIdeal.Att

open Cert.FfnIdeal Cert.FfnIdeal.Gen
open Idealize.ShloMosaic Idealize.ShloMosaic.TcCoe Idealize.SL.Sem
open Cert.FfnRefIdeal.Att (nrm normed normed_at proj proj_at padded padded_in padded_out conved conved_at acts acts_at downs downs_at)

variable (m : (ℓ : Loc nD τ sig) → Buf (Elt Ideal) ℓ)

/-- The batch of a grid step. -/
abbrev bAt (t : Fin cfg0.N) : Fin 2 := ⟨t.val / 16, by have := t_lt t; omega⟩

/-- The reference's stages, of the arguments of this program. -/
abbrev nAt (c : Dev nD) := normed (argX m c) (argG m c)
abbrev pAt (c : Dev nD) := padded (proj (nAt m c) (argU m c))
abbrev cAt (c : Dev nD) := conved (pAt m c) (argW m c) (argB m c)
abbrev dAt (c : Dev nD) := downs (acts (cAt m c)) (argD m c)

theorem nAt_at (c : Dev nD) (b : Fin 2) (s : Fin 8192) (d : Fin 1024) :
    nAt m c (ix3 b s d) = nrm (fun e => argX m c (ix3 b s e)) (argG m c (ix1 d)) d :=
  normed_at _ _ _ _ _

theorem pAt_in (c : Dev nD) (b : Fin 2) (q : Fin 8194) (f : Fin 5632) (h : 1 ≤ (q : ℕ) ∧ (q : ℕ) ≤ 8192) :
    pAt m c (ix3 b q f) = ∑ d : Fin 1024, nAt m c (ix3 b ⟨q - 1, by omega⟩ d) * argU m c (ix2 d f) :=
  (padded_in _ _ _ _ h).trans (proj_at _ _ _ _ _)

theorem pAt_out (c : Dev nD) (b : Fin 2) (q : Fin 8194) (f : Fin 5632) (h : ¬ (1 ≤ (q : ℕ) ∧ (q : ℕ) ≤ 8192)) :
    pAt m c (ix3 b q f) = 0 :=
  padded_out _ _ _ _ h

theorem mask_gt (i : ℕ) (hi : i < 16) : Scalar.cmpi .sgt (BitVec.ofNat 32 i) 0#32 = if 0 < i then 1#1 else 0#1 := by
  interval_cases i <;> rfl

theorem mask_lt (i : ℕ) (hi : i < 16) : Scalar.cmpi .slt (BitVec.ofNat 32 i) 15#32 = if i < 15 then 1#1 else 0#1 := by
  interval_cases i <;> rfl

theorem sel_one : Scalar.select (1#1 : BitVec 1) (Ideal.ofBits .f32 0x3F800000#32) (Ideal.ofBits .f32 0x00000000#32) = (1 : EReal) := by
  show Ideal.ofBits .f32 0x3F800000#32 = (1 : EReal)
  rw [Ideal.ofBits_one_f32]

theorem sel_zero : Scalar.select (0#1 : BitVec 1) (Ideal.ofBits .f32 0x3F800000#32) (Ideal.ofBits .f32 0x00000000#32) = (0 : EReal) := by
  show Ideal.ofBits .f32 0x00000000#32 = (0 : EReal)
  rw [Ideal.ofBits_zero_f32]

/-- The last row before the tile, or zero at the start of the sequence. -/
theorem row_prev (c : Dev nD) (t : Fin cfg0.N) (d : Fin 1024) : hAt m c t (ix2 15 d)
    = if h : 0 < t.val % 16 then nAt m c (ix3 (bAt t) ⟨t.val % 16 * 512 - 1, by omega⟩ d) else 0 := by
  have ht := t_lt t
  unfold hAt
  rw [pay5_prev, pay3_at, coords_eq, mask_gt _ (by omega), blk4]
  simp only [blk1]
  split_ifs with h
  · rw [sel_one, mul_one, nAt_at]
    have e : (⟨(t.val % 16 * 32 - 1) * 16 + ((15 : Fin 16) : ℕ), by omega⟩ : Fin 8192) = ⟨t.val % 16 * 512 - 1, by omega⟩ :=
      Fin.ext (by show (t.val % 16 * 32 - 1) * 16 + 15 = t.val % 16 * 512 - 1; omega)
    rw [e]
  · rw [sel_zero, mul_zero]

/-- The first row after the tile, or zero at the end of the sequence. -/
theorem row_next (c : Dev nD) (t : Fin cfg0.N) (d : Fin 1024) : hAt m c t (ix2 528 d)
    = if h : t.val % 16 < 15 then nAt m c (ix3 (bAt t) ⟨t.val % 16 * 512 + 512, by omega⟩ d) else 0 := by
  have ht := t_lt t
  unfold hAt
  rw [pay5_next, pay4_at, coords_eq, mask_lt _ (by omega), blk4]
  simp only [blk3]
  split_ifs with h
  · rw [sel_one, mul_one, nAt_at]
    have e : (⟨min (t.val % 16 * 32 + 32) 511 * 16 + ((0 : Fin 16) : ℕ), by omega⟩ : Fin 8192) = ⟨t.val % 16 * 512 + 512, by omega⟩ :=
      Fin.ext (by show min (t.val % 16 * 32 + 32) 511 * 16 + 0 = t.val % 16 * 512 + 512; omega)
    rw [e]
  · rw [sel_zero, mul_zero]

/-- The rows of the tile itself. -/
theorem row_mid (c : Dev nD) (t : Fin cfg0.N) (q : Fin 512) (d : Fin 1024) :
    hAt m c t (ix2 ⟨16 + q, by omega⟩ d) = nAt m c (ix3 (bAt t) ⟨t.val % 16 * 512 + q, by omega⟩ d) := by
  unfold hAt
  rw [pay5_mid, pay2_at, blk4, nAt_at]
  simp only [blk2]

/-- The up-projected rows of a step are the padded rows of the reference. -/
theorem up_eq (c : Dev nD) (t : Fin cfg0.N) (q : Fin 514) (f : Fin 5632) (r : Fin 544) (hr : (r : ℕ) = 15 + q) (s : Fin 8194) (hs : (s : ℕ) = t.val % 16 * 512 + q) :
    up (hAt m c t) (iblk m c 5 t) r f = pAt m c (ix3 (bAt t) s f) := by
  have ht := t_lt t
  unfold up
  simp only [blk5]
  by_cases h : 1 ≤ (s : ℕ) ∧ (s : ℕ) ≤ 8192
  · rw [pAt_in _ _ _ _ _ h]
    refine Finset.sum_congr rfl fun d _ => ?_
    congr 1
    by_cases h0 : (q : ℕ) = 0
    · obtain rfl : r = 15 := Fin.ext (by show (r : ℕ) = 15; omega)
      rw [row_prev, dif_pos (by omega)]
      exact congrArg (fun x => nAt m c (ix3 (bAt t) x d)) (Fin.ext (by dsimp only; omega))
    · by_cases h1 : (q : ℕ) = 513
      · obtain rfl : r = 528 := Fin.ext (by show (r : ℕ) = 528; omega)
        rw [row_next, dif_pos (by omega)]
        exact congrArg (fun x => nAt m c (ix3 (bAt t) x d)) (Fin.ext (by dsimp only; omega))
      · refine (congrArg (fun x => hAt m c t (ix2 x d)) (Fin.ext (by dsimp only; omega) : r = ⟨16 + ((⟨q - 1, by omega⟩ : Fin 512) : ℕ), by dsimp only; omega⟩)).trans ?_
        refine (row_mid m c t _ d).trans ?_
        exact congrArg (fun x => nAt m c (ix3 (bAt t) x d)) (Fin.ext (by dsimp only; omega))
  · rw [pAt_out _ _ _ _ _ h]
    refine Finset.sum_eq_zero fun d _ => ?_
    by_cases h0 : (q : ℕ) = 0
    · obtain rfl : r = 15 := Fin.ext (by show (r : ℕ) = 15; omega)
      rw [row_prev, dif_neg (by omega), zero_mul]
    · obtain rfl : r = 528 := Fin.ext (by show (r : ℕ) = 528; omega)
      rw [row_next, dif_neg (by omega), zero_mul]

theorem conv_eq (c : Dev nD) (t : Fin cfg0.N) (r : Fin 512) (f : Fin 5632) :
    conv (hAt m c t) (iblk m c 5 t) (iblk m c 6 t) (iblk m c 7 t) r f = cAt m c (ix3 (bAt t) ⟨t.val % 16 * 512 + r, by omega⟩ f) := by
  unfold conv
  rw [up_eq m c t ⟨r, by omega⟩ f _ rfl ⟨t.val % 16 * 512 + r, by omega⟩ rfl,
    up_eq m c t ⟨1 + r, by omega⟩ f _ (by dsimp only; omega) ⟨1 + (t.val % 16 * 512 + r), by omega⟩ (by dsimp only; omega),
    up_eq m c t ⟨2 + r, by omega⟩ f _ (by dsimp only; omega) ⟨2 + (t.val % 16 * 512 + r), by omega⟩ (by dsimp only; omega),
    blk7, blk6, blk6, blk6]
  refine Eq.trans ?_ (conved_at _ _ _ _ _ _).symm
  rw [add_comm _ (argB m c (ix1 f)), add_assoc, add_assoc, add_assoc]

theorem gelu_eq (g : EReal) : gelu g = Cert.FfnRefIdeal.Att.gelu g := by
  unfold gelu Cert.FfnRefIdeal.Att.gelu
  rw [mul_comm g (g * g)]

theorem act_eq (c : Dev nD) (t : Fin cfg0.N) (r : Fin 512) (k : ℕ) (hk : k < 2816) :
    actAt m c t r k = acts (cAt m c) (ix3 (bAt t) ⟨t.val % 16 * 512 + r, by omega⟩ ⟨k, hk⟩) := by
  show act _ _ _ _ r k = _
  unfold act
  rw [dif_pos hk, acts_at, conv_eq, conv_eq, gelu_eq]

/-- A sum over the 2816 lanes, in three groups. -/
theorem sum_groups (f : Fin 2816 → EReal) : ∑ k, f k
    = (∑ k : Fin 1024, f ⟨0 + k, by omega⟩ + ∑ k : Fin 1024, f ⟨1024 + k, by omega⟩) + ∑ k : Fin 768, f ⟨2048 + k, by omega⟩ := by
  refine (Fin.sum_univ_add (a := 2048) (b := 768) f).trans ?_
  congr 1
  refine (Fin.sum_univ_add (a := 1024) (b := 1024) fun i => f (Fin.castAdd 768 i)).trans ?_
  congr 1

theorem down_eq (c : Dev nD) (t : Fin cfg0.N) (r : Fin 512) (d : Fin 1024) :
    down (actAt m c t) (iblk m c 8 t) r d = dAt m c (ix3 (bAt t) ⟨t.val % 16 * 512 + r, by omega⟩ d) := by
  refine Eq.trans ?_ (downs_at _ _ _ _ _).symm
  rw [sum_groups]
  unfold down
  simp only [blk8]
  refine congrArg₂ (· + ·) (congrArg₂ (· + ·) (Finset.sum_congr rfl fun k _ => ?_) (Finset.sum_congr rfl fun k _ => ?_)) (Finset.sum_congr rfl fun k _ => ?_)
  · exact congrArg (· * _) (act_eq m c t r (0 + k) (by omega))
  · exact congrArg (· * _) (act_eq m c t r (1024 + k) (by omega))
  · exact congrArg (· * _) (act_eq m c t r (2048 + k) (by omega))

/-- The reference's result, of the arguments of this program. -/
abbrev outAt (c : Dev nD) := Cert.FfnRefIdeal.Att.out (argX m c) (argG m c) (argU m c) (argW m c) (argB m c) (argD m c) (argP m c)

/-- One element of one grid step's block is the reference's. -/
theorem point (c : Dev nD) (t : Fin cfg0.N) (r : Fin 512) (d : Fin 1024) :
    outsAt0 m (hyps m) c t (ix3 0 r d) = outAt m c (ix3 (bAt t) ⟨t.val % 16 * 512 + r, by omega⟩ d) := by
  rw [outs_at]
  show outRow _ _ _ r d = argX m c (ix3 (bAt t) ⟨t.val % 16 * 512 + r, by omega⟩ d)
    + normed (dAt m c) (argP m c) (ix3 (bAt t) ⟨t.val % 16 * 512 + r, by omega⟩ d)
  rw [normed_at]
  unfold outRow nrm
  simp only [down_eq, blk2, blk9]

/-- The result array of the whole run is the reference's. -/
theorem final (c : Dev nD) : (dats m (hyps m) 0 c).arrAt 10 cfg0.N = outAt m c := by
  refine (dats m (hyps m) 0 c).arrAt_eq_of_covers 10 _ (by decide +kernel) fun t _ y => ?_
  obtain ⟨a, r, d, rfl⟩ : ∃ a r d, y = ix3 a r d := ⟨_, _, _, eq_ix3 y⟩
  obtain rfl : a = 0 := Subsingleton.elim _ _
  refine (congrFun (after0_10 m (hyps m) c t) (ix3 0 r d)).trans ?_
  refine (point m c t r d).trans ?_
  have ht := t_lt t
  refine congrArg (outAt m c) ?_
  blk_ext! [idx t]

end Cert.FfnIdeal.Att

end
-- ==== Proof.OutRef.lean ====
module

public import proofs.«01_k».proof.Proof.Gen.OutRefIdeal.Run
public import Idealize.ShloMosaic.Lib.Pointwise

@[expose] public section

set_option maxRecDepth 16384

noncomputable section

namespace Cert.OutRefIdeal.Att

open Cert.OutRefIdeal Cert.OutRefIdeal.Gen
open Idealize.ShloMosaic Idealize.ShloMosaic.TcCoe Idealize.SL.Sem
open Facts

/-- A row of one attention's output, over the root of its mean square, with its gain. -/
def half (X : FVec Ideal S2x8192x512 .f32) (G : FVec Ideal S512 .f32) : FVec Ideal S2x8192x512 .f32 :=
  mulf (mulf X (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf X X) (constant S_ .f32 0x00000000#32) reducesTo_S2x8192x512_S2x8192_d2 h_S_)) (broadcastInDim S2x8192x1 ![] bcast_S_S2x8192x1 (constant S_ .f32 0x44000000#32))) (broadcastInDim S2x8192x1 ![] bcast_S_S2x8192x1 (constant S_ .f32 0x358637BD#32))))))
    (broadcastInDim S2x8192x512 ![0, 1, 2] bcast_S1x1x512_S2x8192x512_0_1_2 (broadcastInDim S1x1x512 ![2] bcast_S512_S1x1x512_2 G))

/-- The same of a row of the model's width. -/
def full (X : FVec Ideal S2x8192x1024 .f32) (G : FVec Ideal S1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 G))

/-- The second attention's output, with its positions along the rows. -/
def turned (X : FVec Ideal S2x512x8192 .f32) : FVec Ideal S2x8192x512 .f32 :=
  transpose S2x8192x512 [0, 2, 1] X transposes_S2x512x8192_S2x8192x512_0_2_1

/-- The two attentions' outputs side by side. -/
def joined (A B : FVec Ideal S2x8192x512 .f32) : FVec Ideal S2x8192x1024 .f32 :=
  concatenate S2x8192x1024 2 [⟨S2x8192x512, A⟩, ⟨S2x8192x512, B⟩] concatenates_S2x8192x512_S2x8192x512_S2x8192x1024_d2

/-- The projection of the joined rows. -/
def proj (N : FVec Ideal S2x8192x1024 .f32) (W : FVec Ideal S1024x1024 .f32) : FVec Ideal S2x8192x1024 .f32 :=
  Host.dotGeneral dot_S2x8192x1024_S1024x1024_S2x8192x1024_2_0_01_1_n_n none N W

/-- What the reference computes of its arguments. -/
def out (X0 : FVec Ideal S2x8192x512 .f32) (X1 : FVec Ideal S2x512x8192 .f32) (X2 : FVec Ideal S2x8192x1024 .f32) (X3 : FVec Ideal S512 .f32)
    (X4 : FVec Ideal S512 .f32) (X5 : FVec Ideal S1024x1024 .f32) (X6 : FVec Ideal S1024 .f32) : FVec Ideal S2x8192x1024 .f32 :=
  addf X2 (full (proj (joined (half X0 X3) (half (turned X1) X4)) X5) X6)

theorem res_eq (m : (ℓ : Loc nD τ sig) → Buf (Elt Ideal) ℓ) (c : Dev nD) :
    Value.res_main_v42 (F := Ideal) m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Value.res_main_v42
  rfl

/-- A row over the root of its mean square, with its gain, at an element; `w` is the width as a word. -/
def nrm {n : ℕ} (w : BitVec 32) (x : Fin n → EReal) (g : EReal) (d : Fin n) : EReal :=
  x d * Ideal.rsqrt (Ideal.div (∑ e : Fin n, x e * x e) (Ideal.ofBits .f32 w) + Ideal.ofBits .f32 0x358637BD#32) * g

theorem half_at (X : FVec Ideal S2x8192x512 .f32) (G : FVec Ideal S512 .f32) (b : Fin 2) (s : Fin 8192) (d : Fin 512) :
    half X G (ix3 b s d) = nrm 0x44000000#32 (fun e => X (ix3 b s e)) (G (ix1 d)) d := by
  unfold nrm
  pointwise [half]

theorem full_at (X : FVec Ideal S2x8192x1024 .f32) (G : FVec Ideal S1024 .f32) (b : Fin 2) (s : Fin 8192) (d : Fin 1024) :
    full X G (ix3 b s d) = nrm 0x44800000#32 (fun e => X (ix3 b s e)) (G (ix1 d)) d := by
  unfold nrm
  pointwise [full]

theorem turned_at (X : FVec Ideal S2x512x8192 .f32) (b : Fin 2) (s : Fin 8192) (d : Fin 512) :
    turned X (ix3 b s d) = X (ix3 b d s) := by
  pointwise [turned]

theorem joined_left (A B : FVec Ideal S2x8192x512 .f32) (b : Fin 2) (s : Fin 8192) (d : Fin 512) :
    joined A B (ix3 b s ⟨d, by omega⟩) = A (ix3 b s d) := by
  pointwise [joined]

theorem joined_right (A B : FVec Ideal S2x8192x512 .f32) (b : Fin 2) (s : Fin 8192) (d : Fin 512) :
    joined A B (ix3 b s ⟨512 + d, by omega⟩) = B (ix3 b s d) := by
  pointwise [joined]

theorem proj_at (N : FVec Ideal S2x8192x1024 .f32) (W : FVec Ideal S1024x1024 .f32) (b : Fin 2) (s : Fin 8192) (f : Fin 1024) :
    proj N W (ix3 b s f) = ∑ d : Fin 1024, N (ix3 b s d) * W (ix2 d f) := by
  pointwise [proj]

/-- The projection of the two halves, in two sums. -/
theorem proj_joined (A B : FVec Ideal S2x8192x512 .f32) (W : FVec Ideal S1024x1024 .f32) (b : Fin 2) (s : Fin 8192) (f : Fin 1024) :
    proj (joined A B) W (ix3 b s f)
      = ∑ d : Fin 512, A (ix3 b s d) * W (ix2 ⟨d, by omega⟩ f) + ∑ d : Fin 512, B (ix3 b s d) * W (ix2 ⟨512 + d, by omega⟩ f) := by
  rw [proj_at]
  refine (Fin.sum_univ_add (a := 512) (b := 512) _).trans ?_
  refine congrArg₂ (· + ·) (Finset.sum_congr rfl fun d _ => ?_) (Finset.sum_congr rfl fun d _ => ?_)
  · exact congrArg (· * _) (joined_left A B b s d)
  · exact congrArg (· * _) (joined_right A B b s d)

end Cert.OutRefIdeal.Att
-- ==== Proof.OutFinal.lean ====
module

public import proofs.«01_k».proof.Proof.Gen.OutIdeal.Value
public import proofs.«01_k».proof.Proof.OutRef
public import Idealize.ShloMosaic.Lib.Pipeline.ValueKit

@[expose] public section

set_option maxRecDepth 16384

noncomputable section

namespace Cert.OutIdeal.Att

open Cert.OutIdeal Cert.OutIdeal.Gen
open Idealize.ShloMosaic Idealize.ShloMosaic.TcCoe Idealize.SL.Sem
open Cert.OutRefIdeal.Att (nrm half full turned joined proj half_at full_at turned_at proj_joined)

/-! ## One grid step -/

theorem pay2_at (x : Vec Ideal S1x512x512 .f32) (g : Vec Ideal S1x512 .f32) (r k : Fin 512) :
    k0_pay2 (F := Ideal) x g (ix2 r k) = nrm 0x44000000#32 (fun e => x (ix3 0 e r)) (g (ix2 0 k)) k := by
  unfold nrm
  pointwise [k0_pay2]

theorem pay3_at (x : Vec Ideal S1x512x512 .f32) (g : Vec Ideal S1x512 .f32) (w : Vec Ideal S512x1024 .bf16) (r : Fin 512) (f : Fin 1024) :
    k0_pay3 (F := Ideal) x g w (ix2 r f) = ∑ k : Fin 512, nrm 0x44000000#32 (fun e => x (ix3 0 r e)) (g (ix2 0 k)) k * w (ix2 k f) := by
  unfold nrm
  pointwise [k0_pay3]

theorem pay1_at (a : FVec Ideal S512x512 .bf16) (y : FVec Ideal S512x1024 .f32) (w : Vec Ideal S512x1024 .bf16) (x : Vec Ideal S1x512x1024 .f32)
    (g : Vec Ideal S1x1024 .f32) (r : Fin 512) (d : Fin 1024) :
    k0_pay1 (F := Ideal) a y w x g (ix3 0 r d) = x (ix3 0 r d)
      + nrm 0x44800000#32 (fun f => y (ix2 r f) + ∑ k : Fin 512, a (ix2 r k) * w (ix2 k f)) (g (ix2 0 d)) d := by
  unfold nrm
  pointwise [k0_pay1]

/-- The first half of the weight's rows. -/
theorem ld_low (X : Vec Ideal S1024x1024 .bf16) (k : Fin 512) (f : Fin 1024) : View.ld X r0_2 (ix2 k f) = X (ix2 ⟨k, by omega⟩ f) := by
  refine congrArg X ?_
  funext p
  apply Fin.ext
  match p with
  | ⟨0, _⟩ => show 0 + 1 * (k : ℕ) = (k : ℕ); omega
  | ⟨1, _⟩ => show 0 + 1 * (f : ℕ) = (f : ℕ); omega

/-- The second half. -/
theorem ld_high (X : Vec Ideal S1024x1024 .bf16) (k : Fin 512) (f : Fin 1024) : View.ld X r0_3 (ix2 k f) = X (ix2 ⟨512 + k, by omega⟩ f) := by
  refine congrArg X ?_
  funext p
  apply Fin.ext
  match p with
  | ⟨0, _⟩ => show 512 + 1 * (k : ℕ) = 512 + (k : ℕ); omega
  | ⟨1, _⟩ => show 0 + 1 * (f : ℕ) = (f : ℕ); omega

/-- One row of the block a grid step writes, from its input blocks. -/
theorem step_at (x0 x1 : Vec Ideal S1x512x512 .f32) (x2 : Vec Ideal S1x512x1024 .f32) (x3 x4 : Vec Ideal S1x512 .f32) (x5 : Vec Ideal S1024x1024 .bf16)
    (x6 : Vec Ideal S1x1024 .f32) (r : Fin 512) (d : Fin 1024) :
    out0_7 (F := Ideal) x0 x1 x2 x3 x4 x5 x6 (ix3 0 r d) = x2 (ix3 0 r d)
      + nrm 0x44800000#32 (fun f => ∑ k : Fin 512, nrm 0x44000000#32 (fun e => x0 (ix3 0 r e)) (x3 (ix2 0 k)) k * x5 (ix2 ⟨k, by omega⟩ f)
          + ∑ k : Fin 512, nrm 0x44000000#32 (fun e => x1 (ix3 0 e r)) (x4 (ix2 0 k)) k * x5 (ix2 ⟨512 + k, by omega⟩ f)) (x6 (ix2 0 d)) d := by
  unfold out0_7
  frame_out
  rw [pay1_at]
  simp only [pay2_at, pay3_at]
  refine congrArg (x2 (ix3 0 r d) + ·) (congrArg (fun y => nrm 0x44800000#32 y (x6 (ix2 0 d)) d) (funext fun f => ?_))
  refine congrArg₂ (· + ·) (Finset.sum_congr rfl fun k _ => ?_) (Finset.sum_congr rfl fun k _ => ?_)
  · exact congrArg (_ * ·) (ld_low x5 k f)
  · exact congrArg (_ * ·) (ld_high x5 k f)

variable (m : (ℓ : Loc nD τ sig) → Buf (Elt Ideal) ℓ)

/-! ## The input blocks of a grid step -/

abbrev argA (c : Dev nD) : FVec Ideal S2x8192x512 .f32 := m ((c : Thread nD τ).loc main_arg0)
abbrev argT (c : Dev nD) : FVec Ideal S2x512x8192 .f32 := m ((c : Thread nD τ).loc main_arg1)
abbrev argX (c : Dev nD) : FVec Ideal S2x8192x1024 .f32 := m ((c : Thread nD τ).loc main_arg2)
abbrev argGa (c : Dev nD) : FVec Ideal S512 .f32 := m ((c : Thread nD τ).loc main_arg3)
abbrev argGb (c : Dev nD) : FVec Ideal S512 .f32 := m ((c : Thread nD τ).loc main_arg4)
abbrev argW (c : Dev nD) : FVec Ideal S1024x1024 .f32 := m ((c : Thread nD τ).loc main_arg5)
abbrev argP (c : Dev nD) : FVec Ideal S1024 .f32 := m ((c : Thread nD τ).loc main_arg6)

theorem idx : ∀ t : Fin cfg0.N, win0_0.index t = ![t.val / 16, t.val % 16, 0] ∧ win0_1.index t = ![t.val / 16, 0, t.val % 16]
    ∧ win0_2.index t = ![t.val / 16, t.val % 16, 0] ∧ win0_7.index t = ![t.val / 16, t.val % 16, 0] ∧ t.val < 32 :=
  (by decide +kernel : ∀ t : Fin grid0.N, _)

theorem idx_whole : ∀ t : Fin cfg0.N, win0_3.index t = ![0, 0] ∧ win0_4.index t = ![0, 0] ∧ win0_5.index t = ![0, 0] ∧ win0_6.index t = ![0, 0] :=
  (by decide +kernel : ∀ t : Fin grid0.N, _)

theorem t_lt (t : Fin cfg0.N) : t.val < 32 := (idx t).2.2.2.2

/-- The batch of a grid step. -/
abbrev bAt (t : Fin cfg0.N) : Fin 2 := ⟨t.val / 16, by have := t_lt t; omega⟩

theorem blk0 (c : Dev nD) (t : Fin cfg0.N) (r : Fin 512) (k : Fin 512) :
    iblk m c 0 t (ix3 0 r k) = argA m c (ix3 (bAt t) ⟨t.val % 16 * 512 + r, by omega⟩ k) := by
  have := t_lt t
  blk_ext! [iblk, V, idx t]

theorem blk1 (c : Dev nD) (t : Fin cfg0.N) (k : Fin 512) (r : Fin 512) :
    iblk m c 1 t (ix3 0 k r) = argT m c (ix3 (bAt t) k ⟨t.val % 16 * 512 + r, by omega⟩) := by
  have := t_lt t
  blk_ext! [iblk, V, idx t]

theorem blk2 (c : Dev nD) (t : Fin cfg0.N) (r : Fin 512) (d : Fin 1024) :
    iblk m c 2 t (ix3 0 r d) = argX m c (ix3 (bAt t) ⟨t.val % 16 * 512 + r, by omega⟩ d) := by
  have := t_lt t
  blk_ext! [iblk, V, idx t]

theorem main3 (c : Dev nD) (d : Fin 512) : (show FVec Ideal S1x512 .f32 from V m c main_v0) (ix2 0 d) = argGa m c (ix1 d) := by
  entry_read
  pointwise []

theorem main4 (c : Dev nD) (d : Fin 512) : (show FVec Ideal S1x512 .f32 from V m c main_v1) (ix2 0 d) = argGb m c (ix1 d) := by
  entry_read
  pointwise []

theorem main5 (c : Dev nD) (x : S1024x1024.Idx) : (show FVec Ideal S1024x1024 .bf16 from V m c main_v2) x = argW m c x := by
  entry_read
  rfl

theorem main6 (c : Dev nD) (d : Fin 1024) : (show FVec Ideal S1x1024 .f32 from V m c main_v3) (ix2 0 d) = argP m c (ix1 d) := by
  entry_read
  pointwise []

theorem blk3 (c : Dev nD) (t : Fin cfg0.N) (d : Fin 512) : iblk m c 3 t (ix2 0 d) = argGa m c (ix1 d) := by
  refine Eq.trans ?_ (main3 m c d)
  show V m c main_v0 ((win0_3.blk t).view.emb (ix2 0 d)) = _
  congr 1
  blk_ext! [idx_whole t]

theorem blk4 (c : Dev nD) (t : Fin cfg0.N) (d : Fin 512) : iblk m c 4 t (ix2 0 d) = argGb m c (ix1 d) := by
  refine Eq.trans ?_ (main4 m c d)
  show V m c main_v1 ((win0_4.blk t).view.emb (ix2 0 d)) = _
  congr 1
  blk_ext! [idx_whole t]

theorem blk5 (c : Dev nD) (t : Fin cfg0.N) (k : Fin 1024) (d : Fin 1024) : iblk m c 5 t (ix2 k d) = argW m c (ix2 k d) := by
  refine Eq.trans ?_ (main5 m c (ix2 k d))
  show V m c main_v2 ((win0_5.blk t).view.emb (ix2 k d)) = _
  congr 1
  blk_ext! [idx_whole t]

theorem blk6 (c : Dev nD) (t : Fin cfg0.N) (d : Fin 1024) : iblk m c 6 t (ix2 0 d) = argP m c (ix1 d) := by
  refine Eq.trans ?_ (main6 m c d)
  show V m c main_v3 ((win0_6.blk t).view.emb (ix2 0 d)) = _
  congr 1
  blk_ext! [idx_whole t]

/-! ## The result -/

/-- The reference's result, of the arguments of this program. -/
abbrev outAt (c : Dev nD) := Cert.OutRefIdeal.Att.out (argA m c) (argT m c) (argX m c) (argGa m c) (argGb m c) (argW m c) (argP m c)

/-- One element of one grid step's block is the reference's. -/
theorem point (c : Dev nD) (t : Fin cfg0.N) (r : Fin 512) (d : Fin 1024) :
    out0_7 (F := Ideal) (iblk m c 0 t) (iblk m c 1 t) (iblk m c 2 t) (iblk m c 3 t) (iblk m c 4 t) (iblk m c 5 t) (iblk m c 6 t) (ix3 0 r d)
      = outAt m c (ix3 (bAt t) ⟨t.val % 16 * 512 + r, by omega⟩ d) := by
  refine (step_at _ _ _ _ _ _ _ r d).trans ?_
  simp only [blk0, blk1, blk2, blk3, blk4, blk5, blk6]
  refine congrArg (argX m c (ix3 (bAt t) ⟨t.val % 16 * 512 + r, by omega⟩ d) + ·) ?_
  refine Eq.trans ?_ (full_at _ _ _ _ _).symm
  simp only [proj_joined, half_at, turned_at]

/-- The result array of the whole run is the reference's. -/
theorem final (c : Dev nD) : (dats m 0 c).arrAt 7 cfg0.N = outAt m c := by
  refine (dats m 0 c).arrAt_eq_of_covers 7 _ (by decide +kernel) fun t _ y => ?_
  obtain ⟨a, r, d, rfl⟩ : ∃ a r d, y = ix3 a r d := ⟨_, _, _, eq_ix3 y⟩
  obtain rfl : a = 0 := Subsingleton.elim _ _
  refine (congrFun (after0_7 m c t) (ix3 0 r d)).trans ?_
  refine (point m c t r d).trans ?_
  have ht := t_lt t
  refine congrArg (outAt m c) ?_
  blk_ext! [idx t]

end Cert.OutIdeal.Att
-- ==== Proof.InpStep.lean ====
module

public import proofs.«01_k».proof.Proof.Gen.InpIdeal.Frame
public import proofs.«01_k».proof.Proof.OutRef
public import Idealize.ShloMosaic.Lib.Pipeline.ValueKit

@[expose] public section

set_option maxRecDepth 16384

noncomputable section

namespace Cert.InpIdeal.Att

open Cert.InpIdeal Cert.InpIdeal.Gen
open Idealize.ShloMosaic Idealize.ShloMosaic.TcCoe Idealize.SL.Sem
open Cert.OutRefIdeal.Att (nrm)

/-! ## The values of one grid step, at an element -/

theorem pay2_at (x : Vec Ideal S1x512x1024 .f32) (g : Vec Ideal S1x1024 .f32) (r : Fin 512) (d : Fin 1024) :
    k0_pay2 (F := Ideal) x g (ix2 r d) = nrm 0x44800000#32 (fun e => x (ix3 0 r e)) (g (ix2 0 d)) d := by
  unfold nrm
  pointwise [k0_pay2]

theorem pay3_at (x : Vec Ideal S1x512x1024 .f32) (g : Vec Ideal S1x1024 .f32) (w : Vec Ideal S1024x1536 .bf16) (r : Fin 512) (f : Fin 1536) :
    k0_pay3 (F := Ideal) x g w (ix3 0 r f) = ∑ d : Fin 1024, nrm 0x44800000#32 (fun e => x (ix3 0 r e)) (g (ix2 0 d)) d * w (ix2 d f) := by
  unfold nrm
  pointwise [k0_pay3, k0_pay2]

theorem pay4_at (x : Vec Ideal S1x512x1024 .f32) (g : Vec Ideal S1x1024 .f32) (w : Vec Ideal S1024x768 .bf16) (r : Fin 512) (f : Fin 768) :
    k0_pay4 (F := Ideal) x g w (ix2 r f) = ∑ d : Fin 1024, nrm 0x44800000#32 (fun e => x (ix3 0 r e)) (g (ix2 0 d)) d * w (ix2 d f) := by
  unfold nrm
  pointwise [k0_pay4, k0_pay2]

theorem pay5_at (x : Vec Ideal S1x512x1024 .f32) (g : Vec Ideal S1x1024 .f32) (w : Vec Ideal S1024x768 .bf16) (r : Fin 512) (j : Fin 384) :
    k0_pay5 (F := Ideal) x g w (ix2 r j) = k0_pay4 (F := Ideal) x g w (ix2 r ⟨j, by omega⟩) := by
  pointwise [k0_pay5]

theorem pay6_at (x : Vec Ideal S1x512x1024 .f32) (g : Vec Ideal S1x1024 .f32) (w : Vec Ideal S1024x768 .bf16) (r : Fin 512) (j : Fin 256) :
    k0_pay6 (F := Ideal) x g w (ix2 r j) = k0_pay4 (F := Ideal) x g w (ix2 r ⟨384 + j, by omega⟩) := by
  pointwise [k0_pay6]

theorem pay7_at (x : Vec Ideal S1x512x1024 .f32) (g : Vec Ideal S1x1024 .f32) (w : Vec Ideal S1024x768 .bf16) (r : Fin 512) (l : Fin 128) :
    k0_pay7 (F := Ideal) x g w (ix2 r l) = k0_pay4 (F := Ideal) x g w (ix2 r ⟨640 + l, by omega⟩) := by
  pointwise [k0_pay7]

theorem pay13_at (c : FVec Ideal S512x384 .f32) (g : Vec Ideal S1x384 .f32) (w : Vec Ideal S384x1024 .bf16) (r : Fin 512) (f : Fin 1024) :
    k0_pay13 (F := Ideal) c g w (ix2 r f) = ∑ k : Fin 384, nrm 0x43C00000#32 (fun e => c (ix2 r e)) (g (ix2 0 k)) k * w (ix2 k f) := by
  unfold nrm
  pointwise [k0_pay13]

theorem pay30_at (c : FVec Ideal S512x256 .f32) (g : Vec Ideal S1x256 .f32) (r : Fin 512) (k : Fin 256) :
    k0_pay30 (F := Ideal) c g (ix2 r k) = nrm 0x43800000#32 (fun e => c (ix2 r e)) (g (ix2 0 k)) k := by
  unfold nrm
  pointwise [k0_pay30]

theorem pay31_at (n : FVec Ideal S512x256 .bf16) (w : Vec Ideal S256x1024 .bf16) (r : Fin 512) (f : Fin 1024) :
    k0_pay31 (F := Ideal) n w (ix2 r f) = ∑ k : Fin 256, n (ix2 r k) * w (ix2 k f) := by
  pointwise [k0_pay31]

theorem pay58_at (n : FVec Ideal S512x256 .bf16) (w : Vec Ideal S512x256 .bf16) (a r : Fin 512) :
    k0_pay1 (F := Ideal) (k0_pay58 (F := Ideal) n w) (ix4 0 0 a r) = ∑ k : Fin 256, w (ix2 a k) * n (ix2 r k) := by
  pointwise [k0_pay1, k0_pay58]

/-- The scale of the queries. -/
abbrev qs : EReal := Ideal.ofBits .f32 0x3E16C740#32

theorem below : ∀ l : Fin 128, IntOp.cmpi CmpIPredicate.slt (BitVec.ofNat 32 (l : ℕ)) 64#32 = (if (l : ℕ) < 64 then 1#1 else 0#1) := by decide
theorem shiftLane : ∀ l : Fin 128, IntOp.cmpi CmpIPredicate.eq (BitVec.ofNat 32 (l : ℕ)) 96#32 = (if (l : ℕ) = 96 then 1#1 else 0#1) := by decide

theorem pay11_at (c : FVec Ideal S512x128 .f32) (r : Fin 512) (l : Fin 128) :
    k0_pay11 (F := Ideal) c (iota .tc S512x128 32 [1] iota_S512x128_d1_w32) k0_pay10 (ix2 r l) = (c (ix2 r l) + if (l : ℕ) < 64 then 1 else 0) * qs := by
  have h : k0_pay11 (F := Ideal) c (iota .tc S512x128 32 [1] iota_S512x128_d1_w32) k0_pay10 (ix2 r l)
      = (c (ix2 r l) + Scalar.select (IntOp.cmpi CmpIPredicate.slt (BitVec.ofNat 32 (l : ℕ)) 64#32) 1 0) * qs := by
    pointwise [k0_pay11, k0_pay10]
  rw [h, below]
  split <;> rfl

theorem pay12_at (s : FVec Ideal S512x128 .f32) (r : Fin 512) (l : Fin 128) : k0_pay12 (F := Ideal) s (ix2 r l) = s (ix2 r l) * qs := by
  pointwise [k0_pay12]

theorem rot_at (v : FVec Ideal S512x128 .f32) (r : Fin 512) (l : Fin 128) :
    dynamicRotate 1 96#32 none v rotates_S512x128_d1 (ix2 r l) = v (ix2 r ⟨(l + 32) % 128, by omega⟩) := by
  have h : dynamicRotate 1 96#32 none v rotates_S512x128_d1 (ix2 r l) = v (ix2 r ⟨(l + 128 - 96) % 128, by omega⟩) := by pointwise []
  rw [h]
  refine congrArg (fun j => v (ix2 r j)) (Fin.ext ?_)
  show ((l : ℕ) + 128 - 96) % 128 = (l + 32) % 128
  omega

theorem pay32_at (k : FVec Ideal S512x128 .f32) (c s : FVec Ideal S512x128 .f32) (r : Fin 512) (l : Fin 128) :
    k0_pay32 (F := Ideal) k c s (iota .tc S512x128 32 [1] iota_S512x128_d1_w32) (ix2 r l)
      = k (ix2 r l) * c (ix2 r l) + k (ix2 r ⟨(l + 32) % 128, by omega⟩) * s (ix2 r l) + if (l : ℕ) = 96 then 1 else 0 := by
  have h : k0_pay32 (F := Ideal) k c s (iota .tc S512x128 32 [1] iota_S512x128_d1_w32) (ix2 r l)
      = k (ix2 r l) * c (ix2 r l) + dynamicRotate 1 96#32 none k rotates_S512x128_d1 (ix2 r l) * s (ix2 r l)
        + Scalar.select (IntOp.cmpi CmpIPredicate.eq (BitVec.ofNat 32 (l : ℕ)) 96#32) 1 0 := by
    pointwise [k0_pay32]
  rw [h, shiftLane, rot_at]
  split <;> rfl

/-! ## The eight heads -/

/-- A head of the queries: the lanes of the head, and the lanes rotated, each times its table. -/
abbrev headQ (c s : FVec Ideal S512x128 .f32) (q : FVec Ideal S512x1024 .f32) (h : Fin 8) (r : Fin 512) (l : Fin 128) : EReal :=
  q (ix2 r ⟨h * 128 + l, by omega⟩) * c (ix2 r l) + q (ix2 r ⟨h * 128 + (l + 32) % 128, by omega⟩) * s (ix2 r l)

/-- All the heads of the queries. -/
abbrev allQ (c s : FVec Ideal S512x128 .f32) (q : FVec Ideal S512x1024 .f32) : Vec Ideal S1x8x512x128 .bf16 :=
  fun y : S1x8x512x128.Idx => headQ c s q (y 1) (y 2) (y 3)

/-- A head of the keys. -/
abbrev headK (k : FVec Ideal S512x1024 .f32) (p : FVec Ideal S512x128 .f32) (h : Fin 8) (r : Fin 512) (l : Fin 128) : EReal :=
  k (ix2 r ⟨h * 128 + l, by omega⟩) + p (ix2 r l)

theorem cut_at (q : FVec Ideal S512x1024 .f32) (o : ℕ) (w : S512x1024.Slices ![0, o] S512x128) (ho : o + 128 ≤ 1024) (r : Fin 512) (l : Fin 128) :
    extractStridedSlice S512x128 ![0, o] q w (ix2 r l) = q (ix2 r ⟨o + l, by omega⟩) := by
  refine congrArg q ?_
  funext p
  apply Fin.ext
  match p with
  | ⟨0, _⟩ => show 0 + (r : ℕ) = (r : ℕ); omega
  | ⟨1, _⟩ => rfl

theorem piece_at (v : FVec Ideal S512x128 .bf16) (r : Fin 512) (l : Fin 128) :
    shapeCast S1x1x512x128 v shapeCasts_S512x128_S1x1x512x128 (ix4 0 0 r l) = v (ix2 r l) := by
  pointwise []

theorem laneQ (q : FVec Ideal S512x1024 .f32) (c s : FVec Ideal S512x128 .f32) (o : ℕ) (w : S512x1024.Slices ![0, o] S512x128) (ho : o + 128 ≤ 1024)
    (r : Fin 512) (l : Fin 128) :
    shapeCast S1x1x512x128 (truncf (F := Ideal) .bf16 (addf (mulf (extractStridedSlice S512x128 ![0, o] q w) c)
        (mulf (dynamicRotate 1 96#32 none (extractStridedSlice S512x128 ![0, o] q w) rotates_S512x128_d1) s)) bitsLt_bf16_f32) shapeCasts_S512x128_S1x1x512x128 (ix4 0 0 r l)
      = q (ix2 r ⟨o + l, by omega⟩) * c (ix2 r l) + q (ix2 r ⟨o + (l + 32) % 128, by omega⟩) * s (ix2 r l) := by
  refine (piece_at _ r l).trans ?_
  show extractStridedSlice S512x128 ![0, o] q w (ix2 r l) * c (ix2 r l)
    + dynamicRotate 1 96#32 none (extractStridedSlice S512x128 ![0, o] q w) rotates_S512x128_d1 (ix2 r l) * s (ix2 r l) = _
  rw [rot_at, cut_at q o w ho, cut_at q o w ho]

theorem laneK (k : FVec Ideal S512x1024 .f32) (p : FVec Ideal S512x128 .f32) (o : ℕ) (w : S512x1024.Slices ![0, o] S512x128) (ho : o + 128 ≤ 1024)
    (r : Fin 512) (l : Fin 128) :
    shapeCast S1x1x512x128 (truncf (F := Ideal) .bf16 (addf (extractStridedSlice S512x128 ![0, o] k w) p) bitsLt_bf16_f32) shapeCasts_S512x128_S1x1x512x128 (ix4 0 0 r l)
      = k (ix2 r ⟨o + l, by omega⟩) + p (ix2 r l) := by
  refine (piece_at _ r l).trans ?_
  show extractStridedSlice S512x128 ![0, o] k w (ix2 r l) + p (ix2 r l) = _
  rw [cut_at k o w ho]

abbrev allK (k : FVec Ideal S512x1024 .f32) (p : FVec Ideal S512x128 .f32) : Vec Ideal S1x8x512x128 .bf16 :=
  fun y : S1x8x512x128.Idx => headK k p (y 1) (y 2) (y 3)

theorem emb_head (o : Fin 8) (inb : ∀ i, (![0, (o : ℕ), 0, 0] : Fin 4 → ℕ) i + S1x1x512x128.size i ≤ S1x8x512x128.size i) (r : Fin 512) (l : Fin 128) :
    (Rect.unit (s := S1x8x512x128) ![0, (o : ℕ), 0, 0] S1x1x512x128.size inb).emb (ix4 0 0 r l) = ix4 0 o r l := by
  funext p
  apply Fin.ext
  match p with
  | ⟨0, _⟩ => rfl
  | ⟨1, _⟩ => show (o : ℕ) + 1 * 0 = (o : ℕ); omega
  | ⟨2, _⟩ => show 0 + 1 * (r : ℕ) = (r : ℕ); omega
  | ⟨3, _⟩ => show 0 + 1 * (l : ℕ) = (l : ℕ); omega

variable (x0 : Vec Ideal S1x512x1024 .f32) (x1 : Vec Ideal S1x1024 .f32) (x2 : Vec Ideal S1024x2304 .bf16) (x3 : Vec Ideal S512x128 .f32)
  (x4 : Vec Ideal S512x128 .f32) (x5 : Vec Ideal S1x384 .f32) (x6 : Vec Ideal S384x1024 .bf16) (x7 : Vec Ideal S1x256 .f32) (x8 : Vec Ideal S256x1024 .bf16)
  (x9 : Vec Ideal S512x256 .bf16) (x10 : Vec Ideal S1024x128 .bf16)

/-- The queries a grid step writes, over the values of the step. -/
theorem out12_at (h : Fin 8) (r : Fin 512) (l : Fin 128) :
    out0_12 (F := Ideal) x0 x1 x2 x3 x4 x5 x6 x7 x8 x9 x10 (ix4 0 h r l)
      = headQ (k0_pay65 x0 x1 x2 x3 x4 x5 x6 x7 x8 x9 x10) (k0_pay66 x0 x1 x2 x3 x4 x5 x6 x7 x8 x9 x10) (k0_pay67 x0 x1 x2 x3 x4 x5 x6 x7 x8 x9 x10) h r l := by
  unfold out0_12
  refine View.canon_apply_of_pieces (allQ (k0_pay65 x0 x1 x2 x3 x4 x5 x6 x7 x8 x9 x10) (k0_pay66 x0 x1 x2 x3 x4 x5 x6 x7 x8 x9 x10) (k0_pay67 x0 x1 x2 x3 x4 x5 x6 x7 x8 x9 x10)) _ ?_ (ix4 0 h r l) (cover0_12 _ _ _ _ _ _ _ _ _)
  intro pc hpc
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneQ (k0_pay67 x0 x1 x2 x3 x4 x5 x6 x7 x8 x9 x10) (k0_pay65 x0 x1 x2 x3 x4 x5 x6 x7 x8 x9 x10) (k0_pay66 x0 x1 x2 x3 x4 x5 x6 x7 x8 x9 x10) 896 _ (by omega) r l).trans (congrArg (allQ (k0_pay65 x0 x1 x2 x3 x4 x5 x6 x7 x8 x9 x10) (k0_pay66 x0 x1 x2 x3 x4 x5 x6 x7 x8 x9 x10) (k0_pay67 x0 x1 x2 x3 x4 x5 x6 x7 x8 x9 x10)) (emb_head 7 inb_S1x8x512x128_S1x1x512x128_0_7_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneQ (k0_pay67 x0 x1 x2 x3 x4 x5 x6 x7 x8 x9 x10) (k0_pay65 x0 x1 x2 x3 x4 x5 x6 x7 x8 x9 x10) (k0_pay66 x0 x1 x2 x3 x4 x5 x6 x7 x8 x9 x10) 768 _ (by omega) r l).trans (congrArg (allQ (k0_pay65 x0 x1 x2 x3 x4 x5 x6 x7 x8 x9 x10) (k0_pay66 x0 x1 x2 x3 x4 x5 x6 x7 x8 x9 x10) (k0_pay67 x0 x1 x2 x3 x4 x5 x6 x7 x8 x9 x10)) (emb_head 6 inb_S1x8x512x128_S1x1x512x128_0_6_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneQ (k0_pay67 x0 x1 x2 x3 x4 x5 x6 x7 x8 x9 x10) (k0_pay65 x0 x1 x2 x3 x4 x5 x6 x7 x8 x9 x10) (k0_pay66 x0 x1 x2 x3 x4 x5 x6 x7 x8 x9 x10) 640 _ (by omega) r l).trans (congrArg (allQ (k0_pay65 x0 x1 x2 x3 x4 x5 x6 x7 x8 x9 x10) (k0_pay66 x0 x1 x2 x3 x4 x5 x6 x7 x8 x9 x10) (k0_pay67 x0 x1 x2 x3 x4 x5 x6 x7 x8 x9 x10)) (emb_head 5 inb_S1x8x512x128_S1x1x512x128_0_5_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneQ (k0_pay67 x0 x1 x2 x3 x4 x5 x6 x7 x8 x9 x10) (k0_pay65 x0 x1 x2 x3 x4 x5 x6 x7 x8 x9 x10) (k0_pay66 x0 x1 x2 x3 x4 x5 x6 x7 x8 x9 x10) 512 _ (by omega) r l).trans (congrArg (allQ (k0_pay65 x0 x1 x2 x3 x4 x5 x6 x7 x8 x9 x10) (k0_pay66 x0 x1 x2 x3 x4 x5 x6 x7 x8 x9 x10) (k0_pay67 x0 x1 x2 x3 x4 x5 x6 x7 x8 x9 x10)) (emb_head 4 inb_S1x8x512x128_S1x1x512x128_0_4_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneQ (k0_pay67 x0 x1 x2 x3 x4 x5 x6 x7 x8 x9 x10) (k0_pay65 x0 x1 x2 x3 x4 x5 x6 x7 x8 x9 x10) (k0_pay66 x0 x1 x2 x3 x4 x5 x6 x7 x8 x9 x10) 384 _ (by omega) r l).trans (congrArg (allQ (k0_pay65 x0 x1 x2 x3 x4 x5 x6 x7 x8 x9 x10) (k0_pay66 x0 x1 x2 x3 x4 x5 x6 x7 x8 x9 x10) (k0_pay67 x0 x1 x2 x3 x4 x5 x6 x7 x8 x9 x10)) (emb_head 3 inb_S1x8x512x128_S1x1x512x128_0_3_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneQ (k0_pay67 x0 x1 x2 x3 x4 x5 x6 x7 x8 x9 x10) (k0_pay65 x0 x1 x2 x3 x4 x5 x6 x7 x8 x9 x10) (k0_pay66 x0 x1 x2 x3 x4 x5 x6 x7 x8 x9 x10) 256 _ (by omega) r l).trans (congrArg (allQ (k0_pay65 x0 x1 x2 x3 x4 x5 x6 x7 x8 x9 x10) (k0_pay66 x0 x1 x2 x3 x4 x5 x6 x7 x8 x9 x10) (k0_pay67 x0 x1 x2 x3 x4 x5 x6 x7 x8 x9 x10)) (emb_head 2 inb_S1x8x512x128_S1x1x512x128_0_2_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneQ (k0_pay67 x0 x1 x2 x3 x4 x5 x6 x7 x8 x9 x10) (k0_pay65 x0 x1 x2 x3 x4 x5 x6 x7 x8 x9 x10) (k0_pay66 x0 x1 x2 x3 x4 x5 x6 x7 x8 x9 x10) 128 _ (by omega) r l).trans (congrArg (allQ (k0_pay65 x0 x1 x2 x3 x4 x5 x6 x7 x8 x9 x10) (k0_pay66 x0 x1 x2 x3 x4 x5 x6 x7 x8 x9 x10) (k0_pay67 x0 x1 x2 x3 x4 x5 x6 x7 x8 x9 x10)) (emb_head 1 inb_S1x8x512x128_S1x1x512x128_0_1_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneQ (k0_pay67 x0 x1 x2 x3 x4 x5 x6 x7 x8 x9 x10) (k0_pay65 x0 x1 x2 x3 x4 x5 x6 x7 x8 x9 x10) (k0_pay66 x0 x1 x2 x3 x4 x5 x6 x7 x8 x9 x10) 0 _ (by omega) r l).trans (congrArg (allQ (k0_pay65 x0 x1 x2 x3 x4 x5 x6 x7 x8 x9 x10) (k0_pay66 x0 x1 x2 x3 x4 x5 x6 x7 x8 x9 x10) (k0_pay67 x0 x1 x2 x3 x4 x5 x6 x7 x8 x9 x10)) (emb_head 0 inb_S1x8x512x128_S1x1x512x128_0_0_0_0 r l)).symm
  nomatch hpc

/-- The keys a grid step writes, over the values of the step. -/
theorem out13_at (h : Fin 8) (r : Fin 512) (l : Fin 128) :
    out0_13 (F := Ideal) x0 x1 x2 x3 x4 x5 x6 x7 x8 x9 x10 (ix4 0 h r l)
      = headK (k0_pay71 x0 x1 x2 x3 x4 x5 x6 x7 x8 x9 x10) (k0_pay72 x0 x1 x2 x3 x4 x5 x6 x7 x8 x9 x10) h r l := by
  unfold out0_13
  refine View.canon_apply_of_pieces (allK (k0_pay71 x0 x1 x2 x3 x4 x5 x6 x7 x8 x9 x10) (k0_pay72 x0 x1 x2 x3 x4 x5 x6 x7 x8 x9 x10)) _ ?_ (ix4 0 h r l) (cover0_13 _ _ _ _ _ _ _ _ _)
  intro pc hpc
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneK (k0_pay71 x0 x1 x2 x3 x4 x5 x6 x7 x8 x9 x10) (k0_pay72 x0 x1 x2 x3 x4 x5 x6 x7 x8 x9 x10) 896 _ (by omega) r l).trans (congrArg (allK (k0_pay71 x0 x1 x2 x3 x4 x5 x6 x7 x8 x9 x10) (k0_pay72 x0 x1 x2 x3 x4 x5 x6 x7 x8 x9 x10)) (emb_head 7 inb_S1x8x512x128_S1x1x512x128_0_7_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneK (k0_pay71 x0 x1 x2 x3 x4 x5 x6 x7 x8 x9 x10) (k0_pay72 x0 x1 x2 x3 x4 x5 x6 x7 x8 x9 x10) 768 _ (by omega) r l).trans (congrArg (allK (k0_pay71 x0 x1 x2 x3 x4 x5 x6 x7 x8 x9 x10) (k0_pay72 x0 x1 x2 x3 x4 x5 x6 x7 x8 x9 x10)) (emb_head 6 inb_S1x8x512x128_S1x1x512x128_0_6_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneK (k0_pay71 x0 x1 x2 x3 x4 x5 x6 x7 x8 x9 x10) (k0_pay72 x0 x1 x2 x3 x4 x5 x6 x7 x8 x9 x10) 640 _ (by omega) r l).trans (congrArg (allK (k0_pay71 x0 x1 x2 x3 x4 x5 x6 x7 x8 x9 x10) (k0_pay72 x0 x1 x2 x3 x4 x5 x6 x7 x8 x9 x10)) (emb_head 5 inb_S1x8x512x128_S1x1x512x128_0_5_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneK (k0_pay71 x0 x1 x2 x3 x4 x5 x6 x7 x8 x9 x10) (k0_pay72 x0 x1 x2 x3 x4 x5 x6 x7 x8 x9 x10) 512 _ (by omega) r l).trans (congrArg (allK (k0_pay71 x0 x1 x2 x3 x4 x5 x6 x7 x8 x9 x10) (k0_pay72 x0 x1 x2 x3 x4 x5 x6 x7 x8 x9 x10)) (emb_head 4 inb_S1x8x512x128_S1x1x512x128_0_4_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneK (k0_pay71 x0 x1 x2 x3 x4 x5 x6 x7 x8 x9 x10) (k0_pay72 x0 x1 x2 x3 x4 x5 x6 x7 x8 x9 x10) 384 _ (by omega) r l).trans (congrArg (allK (k0_pay71 x0 x1 x2 x3 x4 x5 x6 x7 x8 x9 x10) (k0_pay72 x0 x1 x2 x3 x4 x5 x6 x7 x8 x9 x10)) (emb_head 3 inb_S1x8x512x128_S1x1x512x128_0_3_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneK (k0_pay71 x0 x1 x2 x3 x4 x5 x6 x7 x8 x9 x10) (k0_pay72 x0 x1 x2 x3 x4 x5 x6 x7 x8 x9 x10) 256 _ (by omega) r l).trans (congrArg (allK (k0_pay71 x0 x1 x2 x3 x4 x5 x6 x7 x8 x9 x10) (k0_pay72 x0 x1 x2 x3 x4 x5 x6 x7 x8 x9 x10)) (emb_head 2 inb_S1x8x512x128_S1x1x512x128_0_2_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneK (k0_pay71 x0 x1 x2 x3 x4 x5 x6 x7 x8 x9 x10) (k0_pay72 x0 x1 x2 x3 x4 x5 x6 x7 x8 x9 x10) 128 _ (by omega) r l).trans (congrArg (allK (k0_pay71 x0 x1 x2 x3 x4 x5 x6 x7 x8 x9 x10) (k0_pay72 x0 x1 x2 x3 x4 x5 x6 x7 x8 x9 x10)) (emb_head 1 inb_S1x8x512x128_S1x1x512x128_0_1_0_0 r l)).symm
  rcases List.mem_cons.mp hpc with rfl | hpc
  · intro y
    obtain ⟨a, b, r, l, rfl⟩ : ∃ a b r l, y = ix4 a b r l := ⟨_, _, _, _, eq_ix4 y⟩
    obtain rfl : a = 0 := Subsingleton.elim _ _
    obtain rfl : b = 0 := Subsingleton.elim _ _
    exact (laneK (k0_pay71 x0 x1 x2 x3 x4 x5 x6 x7 x8 x9 x10) (k0_pay72 x0 x1 x2 x3 x4 x5 x6 x7 x8 x9 x10) 0 _ (by omega) r l).trans (congrArg (allK (k0_pay71 x0 x1 x2 x3 x4 x5 x6 x7 x8 x9 x10) (k0_pay72 x0 x1 x2 x3 x4 x5 x6 x7 x8 x9 x10)) (emb_head 0 inb_S1x8x512x128_S1x1x512x128_0_0_0_0 r l)).symm
  nomatch hpc

end Cert.InpIdeal.Att
-- ==== Proof.InpPoint.lean ====
module

public import proofs.«01_k».proof.Proof.InpStep

@[expose] public section

set_option maxRecDepth 16384

noncomputable section

namespace Cert.InpIdeal.Att

open Cert.InpIdeal Cert.InpIdeal.Gen
open Idealize.ShloMosaic Idealize.ShloMosaic.TcCoe Idealize.SL.Sem
open Cert.OutRefIdeal.Att (nrm)

/-! ## One grid step, from its input blocks -/

variable (x0 : Vec Ideal S1x512x1024 .f32) (x1 : Vec Ideal S1x1024 .f32) (x2 : Vec Ideal S1024x2304 .bf16) (x3 : Vec Ideal S512x128 .f32)
  (x4 : Vec Ideal S512x128 .f32) (x5 : Vec Ideal S1x384 .f32) (x6 : Vec Ideal S384x1024 .bf16) (x7 : Vec Ideal S1x256 .f32) (x8 : Vec Ideal S256x1024 .bf16)
  (x9 : Vec Ideal S512x256 .bf16) (x10 : Vec Ideal S1024x128 .bf16)

theorem whole0 : View.ld x0 r0_0 = x0 := View.ld_unit_lit _ _ (by decide)
theorem whole1 : View.ld x1 r0_1 = x1 := View.ld_unit_lit _ _ (by decide)
theorem whole3 : View.ld x3 r0_5 = x3 := View.ld_unit_lit _ _ (by decide)
theorem whole5 : View.ld x5 r0_6 = x5 := View.ld_unit_lit _ _ (by decide)
theorem whole6 : View.ld x6 r0_7 = x6 := View.ld_unit_lit _ _ (by decide)
theorem whole7 : View.ld x7 r0_16 = x7 := View.ld_unit_lit _ _ (by decide)
theorem whole8 : View.ld x8 r0_17 = x8 := View.ld_unit_lit _ _ (by decide)
theorem whole9 : View.ld x9 r0_20 = x9 := View.ld_unit_lit _ _ (by decide)

theorem ld_first (d : Fin 1024) (f : Fin 1536) : View.ld x2 r0_2 (ix2 d f) = x2 (ix2 d ⟨f, by omega⟩) := by
  refine congrArg x2 ?_
  funext p
  apply Fin.ext
  match p with
  | ⟨0, _⟩ => show 0 + 1 * (d : ℕ) = (d : ℕ); omega
  | ⟨1, _⟩ => show 0 + 1 * (f : ℕ) = (f : ℕ); omega

theorem ld_second (d : Fin 1024) (f : Fin 768) : View.ld x2 r0_4 (ix2 d f) = x2 (ix2 d ⟨1536 + f, by omega⟩) := by
  refine congrArg x2 ?_
  funext p
  apply Fin.ext
  match p with
  | ⟨0, _⟩ => show 0 + 1 * (d : ℕ) = (d : ℕ); omega
  | ⟨1, _⟩ => show 1536 + 1 * (f : ℕ) = 1536 + (f : ℕ); omega

/-- The projected row. -/
def row (r : Fin 512) (f : Fin 2304) : EReal := ∑ d : Fin 1024, nrm 0x44800000#32 (fun e => x0 (ix3 0 r e)) (x1 (ix2 0 d)) d * x2 (ix2 d f)

/-- The queries before the rotation. -/
def rowQ (r : Fin 512) (f : Fin 1024) : EReal :=
  ∑ k : Fin 384, nrm 0x43C00000#32 (fun e : Fin 384 => row x0 x1 x2 r ⟨1536 + e, by omega⟩) (x5 (ix2 0 k)) k * x6 (ix2 k f)

/-- The normalised latent of keys and values. -/
def rowN (r : Fin 512) (k : Fin 256) : EReal := nrm 0x43800000#32 (fun e : Fin 256 => row x0 x1 x2 r ⟨1920 + e, by omega⟩) (x7 (ix2 0 k)) k

theorem proj_at (r : Fin 512) (f : Fin 768) : k0_pay4 (F := Ideal) x0 x1 (View.ld x2 r0_4) (ix2 r f) = row x0 x1 x2 r ⟨1536 + f, by omega⟩ := by
  rw [pay4_at]
  unfold row
  exact Finset.sum_congr rfl fun d _ => congrArg (_ * ·) (ld_second x2 d f)

theorem out11_at (r : Fin 512) (f : Fin 1536) : out0_11 (F := Ideal) x0 x1 x2 x3 x4 x5 x6 x7 x8 x9 x10 (ix3 0 r f) = row x0 x1 x2 r ⟨f, by omega⟩ := by
  unfold out0_11
  frame_out
  rw [pay3_at]
  unfold row
  exact Finset.sum_congr rfl fun d _ => congrArg (_ * ·) (ld_first x2 d f)

theorem latQ_at (r : Fin 512) (j : Fin 384) : k0_pay60 (F := Ideal) x0 x1 x2 x3 x4 x5 x6 x7 x8 x9 x10 (ix2 r j) = row x0 x1 x2 r ⟨1536 + j, by omega⟩ := by
  unfold k0_pay60
  rw [whole0, whole1, pay5_at]
  exact proj_at x0 x1 x2 r ⟨j, by omega⟩

theorem latR_at (r : Fin 512) (l : Fin 128) : k0_pay61 (F := Ideal) x0 x1 x2 x3 x4 x5 x6 x7 x8 x9 x10 (ix2 r l) = row x0 x1 x2 r ⟨2176 + l, by omega⟩ := by
  unfold k0_pay61
  rw [whole0, whole1, pay7_at]
  refine (proj_at x0 x1 x2 r ⟨640 + l, by omega⟩).trans (congrArg (row x0 x1 x2 r) (Fin.ext ?_))
  show 1536 + (640 + (l : ℕ)) = 2176 + l
  omega

theorem latK_at (r : Fin 512) (k : Fin 256) : k0_pay70 (F := Ideal) x0 x1 x2 x3 x4 x5 x6 x7 x8 x9 x10 (ix2 r k) = rowN x0 x1 x2 x7 r k := by
  unfold k0_pay70
  rw [whole0, whole1, whole7, pay30_at]
  unfold rowN
  refine congrArg (fun y => nrm 0x43800000#32 y (x7 (ix2 0 k)) k) (funext fun e => ?_)
  rw [pay6_at]
  refine (proj_at x0 x1 x2 r ⟨384 + e, by omega⟩).trans (congrArg (row x0 x1 x2 r) (Fin.ext ?_))
  show 1536 + (384 + (e : ℕ)) = 1920 + e
  omega

theorem upQ_at (r : Fin 512) (f : Fin 1024) : k0_pay67 (F := Ideal) x0 x1 x2 x3 x4 x5 x6 x7 x8 x9 x10 (ix2 r f) = rowQ x0 x1 x2 x5 x6 r f := by
  unfold k0_pay67
  rw [whole5, whole6, pay13_at]
  unfold rowQ
  simp only [latQ_at]

theorem upK_at (r : Fin 512) (f : Fin 1024) : k0_pay71 (F := Ideal) x0 x1 x2 x3 x4 x5 x6 x7 x8 x9 x10 (ix2 r f) = ∑ k : Fin 256, rowN x0 x1 x2 x7 r k * x8 (ix2 k f) := by
  unfold k0_pay71
  rw [whole8, pay31_at]
  simp only [latK_at]

theorem out14_at (a r : Fin 512) : out0_14 (F := Ideal) x0 x1 x2 x3 x4 x5 x6 x7 x8 x9 x10 (ix4 0 0 a r) = ∑ k : Fin 256, rowN x0 x1 x2 x7 r k * x9 (ix2 a k) := by
  unfold out0_14
  frame_out
  rw [pay58_at]
  simp only [latK_at]
  exact Finset.sum_congr rfl fun k _ => mul_comm _ _

theorem tabC_at (r : Fin 512) (l : Fin 128) : k0_pay62 (F := Ideal) x0 x1 x2 x3 x4 x5 x6 x7 x8 x9 x10 (ix2 r l) = x3 (ix2 r l) := by
  unfold k0_pay62
  rw [whole3]
  pointwise [k0_pay8]

theorem tabS_at (r : Fin 512) (l : Fin 128) : k0_pay63 (F := Ideal) x0 x1 x2 x3 x4 x5 x6 x7 x8 x9 x10 (ix2 r l) = x4 (ix2 r l) := by
  unfold k0_pay63
  rw [whole3]
  pointwise [k0_pay9]

theorem cosQ_at (r : Fin 512) (l : Fin 128) : k0_pay65 (F := Ideal) x0 x1 x2 x3 x4 x5 x6 x7 x8 x9 x10 (ix2 r l) = (x3 (ix2 r l) + if (l : ℕ) < 64 then 1 else 0) * qs := by
  unfold k0_pay65 k0_pay59 k0_pay64
  rw [pay11_at, tabC_at]

theorem sinQ_at (r : Fin 512) (l : Fin 128) : k0_pay66 (F := Ideal) x0 x1 x2 x3 x4 x5 x6 x7 x8 x9 x10 (ix2 r l) = x4 (ix2 r l) * qs := by
  unfold k0_pay66
  rw [pay12_at, tabS_at]

theorem turnK_at (r : Fin 512) (l : Fin 128) : k0_pay72 (F := Ideal) x0 x1 x2 x3 x4 x5 x6 x7 x8 x9 x10 (ix2 r l)
    = row x0 x1 x2 r ⟨2176 + l, by omega⟩ * x3 (ix2 r l) + row x0 x1 x2 r ⟨2176 + (l + 32) % 128, by omega⟩ * x4 (ix2 r l) + if (l : ℕ) = 96 then 1 else 0 := by
  unfold k0_pay72 k0_pay59
  rw [pay32_at, tabC_at, tabS_at, latR_at, latR_at]

/-- One lane of the queries a step writes. -/
theorem stepQ_at (h : Fin 8) (r : Fin 512) (l : Fin 128) : out0_12 (F := Ideal) x0 x1 x2 x3 x4 x5 x6 x7 x8 x9 x10 (ix4 0 h r l)
    = rowQ x0 x1 x2 x5 x6 r ⟨h * 128 + l, by omega⟩ * ((x3 (ix2 r l) + if (l : ℕ) < 64 then 1 else 0) * qs)
      + rowQ x0 x1 x2 x5 x6 r ⟨h * 128 + (l + 32) % 128, by omega⟩ * (x4 (ix2 r l) * qs) := by
  rw [out12_at]
  unfold headQ
  rw [cosQ_at, sinQ_at, upQ_at, upQ_at]

/-- One lane of the keys a step writes. -/
theorem stepK_at (h : Fin 8) (r : Fin 512) (l : Fin 128) : out0_13 (F := Ideal) x0 x1 x2 x3 x4 x5 x6 x7 x8 x9 x10 (ix4 0 h r l)
    = (∑ k : Fin 256, rowN x0 x1 x2 x7 r k * x8 (ix2 k ⟨h * 128 + l, by omega⟩))
      + (row x0 x1 x2 r ⟨2176 + l, by omega⟩ * x3 (ix2 r l) + row x0 x1 x2 r ⟨2176 + (l + 32) % 128, by omega⟩ * x4 (ix2 r l) + if (l : ℕ) = 96 then 1 else 0) := by
  rw [out13_at]
  unfold headK
  rw [turnK_at, upK_at]

end Cert.InpIdeal.Att
-- ==== Proof.InpRef.lean ====
module

public import proofs.«01_k».proof.Proof.Gen.InpRefIdeal.Run
public import proofs.«01_k».proof.Proof.OutRef
public import Idealize.ShloMosaic.Lib.Pointwise

@[expose] public section

set_option maxRecDepth 16384

noncomputable section

namespace Cert.InpRefIdeal.Att

open Cert.InpRefIdeal Cert.InpRefIdeal.Gen
open Idealize.ShloMosaic Idealize.ShloMosaic.TcCoe Idealize.SL.Sem
open Facts
open Cert.OutRefIdeal.Att (nrm)

/-! ## The reference in steps -/

/-- The normalised rows of the input. -/
def hidden (X : FVec Ideal S2x8192x1024 .f32) (G : FVec Ideal S1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 G))

/-- The normalised rows of the queries' latent. -/
def normQ (X : FVec Ideal S2x8192x384 .f32) (G : FVec Ideal S384 .f32) : FVec Ideal S2x8192x384 .f32 :=
  mulf (mulf X (broadcastInDim S2x8192x384 ![0, 1, 2] bcast_S2x8192x1_S2x8192x384_0_1_2 (Host.rsqrt (addf (Host.divf (broadcastInDim S2x8192x1 ![0, 1] bcast_S2x8192_S2x8192x1_0_1 (Host.reduceAdd (mulf X X) (constant S_ .f32 0x00000000#32) reducesTo_S2x8192x384_S2x8192_d2 h_S_)) (broadcastInDim S2x8192x1 ![] bcast_S_S2x8192x1 (constant S_ .f32 0x43C00000#32))) (broadcastInDim S2x8192x1 ![] bcast_S_S2x8192x1 (constant S_ .f32 0x358637BD#32))))))
    (broadcastInDim S2x8192x384 ![0, 1, 2] bcast_S1x1x384_S2x8192x384_0_1_2 (broadcastInDim S1x1x384 ![2] bcast_S384_S1x1x384_2 G))

/-- The normalised rows of the keys' and values' latent. -/
def normK (X : FVec Ideal S2x8192x256 .f32) (G : FVec Ideal S256 .f32) : FVec Ideal S2x8192x256 .f32 :=
  mulf (mulf X (broadcastInDim S2x8192x256 ![0, 1, 2] bcast_S2x8192x1_S2x8192x256_0_1_2 (Host.rsqrt (addf (Host.divf (broadcastInDim S2x8192x1 ![0, 1] bcast_S2x8192_S2x8192x1_0_1 (Host.reduceAdd (mulf X X) (constant S_ .f32 0x00000000#32) reducesTo_S2x8192x256_S2x8192_d2 h_S_)) (broadcastInDim S2x8192x1 ![] bcast_S_S2x8192x1 (constant S_ .f32 0x43800000#32))) (broadcastInDim S2x8192x1 ![] bcast_S_S2x8192x1 (constant S_ .f32 0x358637BD#32))))))
    (broadcastInDim S2x8192x256 ![0, 1, 2] bcast_S1x1x256_S2x8192x256_0_1_2 (broadcastInDim S1x1x256 ![2] bcast_S256_S1x1x256_2 G))

/-- The input projection. -/
def proj (N : FVec Ideal S2x8192x1024 .f32) (W : FVec Ideal S1024x2208 .f32) : FVec Ideal S2x8192x2208 .f32 :=
  Host.dotGeneral dot_S2x8192x1024_S1024x2208_S2x8192x2208_2_0_01_1_n_n none N W

/-- The up-projection of the queries, by heads. -/
def upQ (N : FVec Ideal S2x8192x384 .f32) (W : FVec Ideal S384x768 .f32) : FVec Ideal S2x8192x8x96 .f32 :=
  shapeCast _ (Host.dotGeneral dot_S2x8192x384_S384x768_S2x8192x768_2_0_01_1_n_n none N W) shapeCasts_S2x8192x768_S2x8192x8x96

/-- The up-projection of keys and values, by heads. -/
def upK (N : FVec Ideal S2x8192x256 .f32) (W : FVec Ideal S256x1024 .f32) : FVec Ideal S2x8192x8x128 .f32 :=
  shapeCast _ (Host.dotGeneral dot_S2x8192x256_S256x1024_S2x8192x1024_2_0_01_1_n_n none N W) shapeCasts_S2x8192x1024_S2x8192x8x128

/-- The angles: the position times the frequency. -/
def angle : FVec Ideal S8192x16 .f32 :=
  mulf (broadcastInDim S8192x16 ![0, 1] bcast_S8192x1_S8192x16_0_1 (broadcastInDim S8192x1 ![0] bcast_S8192_S8192x1_0 (sitofp .f32 (iotaInDim S8192 32 0)))) (broadcastInDim S8192x16 ![0, 1] bcast_S1x16_S8192x16_0_1 (broadcastInDim S1x16 ![1] bcast_S16_S1x16_1 (Host.exp (Host.divf (mulf (broadcastInDim S16 ![] bcast_S_S16 (constant S_ .f32 0xC1135D8E#32)) (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

/-- The rotated lanes of the queries. -/
def turnQ (R : FVec Ideal S2x8192x8x32 .f32) (C S : FVec Ideal S8192x16 .f32) : FVec Ideal S2x8192x8x32 .f32 :=
  concatenate S2x8192x8x32 3
    [⟨S2x8192x8x16, subf (mulf (extractStridedSlice S2x8192x8x16 ![0, 0, 0, 0] R slices_S2x8192x8x32_S2x8192x8x16_0_0_0_0) (broadcastInDim S2x8192x8x16 ![0, 1, 2, 3] bcast_S1x8192x1x16_S2x8192x8x16_0_1_2_3 (broadcastInDim S1x8192x1x16 ![1, 2, 3] bcast_S8192x1x16_S1x8192x1x16_1_2_3 (broadcastInDim S8192x1x16 ![0, 2] bcast_S8192x16_S8192x1x16_0_2 C))))
        (mulf (extractStridedSlice S2x8192x8x16 ![0, 0, 0, 16] R slices_S2x8192x8x32_S2x8192x8x16_0_0_0_16) (broadcastInDim S2x8192x8x16 ![0, 1, 2, 3] bcast_S1x8192x1x16_S2x8192x8x16_0_1_2_3 (broadcastInDim S1x8192x1x16 ![1, 2, 3] bcast_S8192x1x16_S1x8192x1x16_1_2_3 (broadcastInDim S8192x1x16 ![0, 2] bcast_S8192x16_S8192x1x16_0_2 S))))⟩,
     ⟨S2x8192x8x16, addf (mulf (extractStridedSlice S2x8192x8x16 ![0, 0, 0, 16] R slices_S2x8192x8x32_S2x8192x8x16_0_0_0_16) (broadcastInDim S2x8192x8x16 ![0, 1, 2, 3] bcast_S1x8192x1x16_S2x8192x8x16_0_1_2_3 (broadcastInDim S1x8192x1x16 ![1, 2, 3] bcast_S8192x1x16_S1x8192x1x16_1_2_3 (broadcastInDim S8192x1x16 ![0, 2] bcast_S8192x16_S8192x1x16_0_2 C))))
        (mulf (extractStridedSlice S2x8192x8x16 ![0, 0, 0, 0] R slices_S2x8192x8x32_S2x8192x8x16_0_0_0_0) (broadcastInDim S2x8192x8x16 ![0, 1, 2, 3] bcast_S1x8192x1x16_S2x8192x8x16_0_1_2_3 (broadcastInDim S1x8192x1x16 ![1, 2, 3] bcast_S8192x1x16_S1x8192x1x16_1_2_3 (broadcastInDim S8192x1x16 ![0, 2] bcast_S8192x16_S8192x1x16_0_2 S))))⟩]
    concatenates_S2x8192x8x16_S2x8192x8x16_S2x8192x8x32_d3

/-- The rotated lanes of the keys, one head for all. -/
def turnK (R : FVec Ideal S2x8192x32 .f32) (C S : FVec Ideal S8192x16 .f32) : FVec Ideal S2x8192x32 .f32 :=
  concatenate S2x8192x32 2
    [⟨S2x8192x16, subf (mulf (extractStridedSlice S2x8192x16 ![0, 0, 0] R slices_S2x8192x32_S2x8192x16_0_0_0) (broadcastInDim S2x8192x16 ![0, 1, 2] bcast_S1x8192x16_S2x8192x16_0_1_2 (broadcastInDim S1x8192x16 ![1, 2] bcast_S8192x16_S1x8192x16_1_2 C)))
        (mulf (extractStridedSlice S2x8192x16 ![0, 0, 16] R slices_S2x8192x32_S2x8192x16_0_0_16) (broadcastInDim S2x8192x16 ![0, 1, 2] bcast_S1x8192x16_S2x8192x16_0_1_2 (broadcastInDim S1x8192x16 ![1, 2] bcast_S8192x16_S1x8192x16_1_2 S)))⟩,
     ⟨S2x8192x16, addf (mulf (extractStridedSlice S2x8192x16 ![0, 0, 16] R slices_S2x8192x32_S2x8192x16_0_0_16) (broadcastInDim S2x8192x16 ![0, 1, 2] bcast_S1x8192x16_S2x8192x16_0_1_2 (broadcastInDim S1x8192x16 ![1, 2] bcast_S8192x16_S1x8192x16_1_2 C)))
        (mulf (extractStridedSlice S2x8192x16 ![0, 0, 0] R slices_S2x8192x32_S2x8192x16_0_0_0) (broadcastInDim S2x8192x16 ![0, 1, 2] bcast_S1x8192x16_S2x8192x16_0_1_2 (broadcastInDim S1x8192x16 ![1, 2] bcast_S8192x16_S1x8192x16_1_2 S)))⟩]
    concatenates_S2x8192x16_S2x8192x16_S2x8192x32_d2

/-- The queries as the attention reads them: scaled, padded to 128 lanes, heads first. -/
def laidQ (Q : FVec Ideal S2x8192x8x96 .f32) (R : FVec Ideal S2x8192x8x32 .f32) : FVec Ideal S2x8x8192x128 .bf16 :=
  truncf .bf16 (transpose S2x8x8192x128 [0, 2, 1, 3] (pad S2x8192x8x128 ![0, 0, 0, 0] ![0, 0, 0, 32] ![0, 0, 0, 0] (mulf (concatenate S2x8192x8x96 3 [⟨S2x8192x8x64, (extractStridedSlice S2x8192x8x64 ![0, 0, 0, 0] Q slices_S2x8192x8x96_S2x8192x8x64_0_0_0_0)⟩, ⟨S2x8192x8x32, R⟩] concatenates_S2x8192x8x64_S2x8192x8x32_S2x8192x8x96_d3) (broadcastInDim S2x8192x8x96 ![] bcast_S_S2x8192x8x96 (constant S_ .f32 0x3E16C740#32))) (sitofp .f32 (constantI S_ 32 0#32)) pads_S2x8192x8x96_S2x8192x8x128_000_000_000_0320 h_S_) transposes_S2x8192x8x128_S2x8x8192x128_0_2_1_3) bitsLt_bf16_f32

/-- The keys as the attention reads them: with a 1 in lane 96, heads first. -/
def laidK (U : FVec Ideal S2x8192x8x128 .f32) (R : FVec Ideal S2x8192x32 .f32) : FVec Ideal S2x8x8192x128 .bf16 :=
  truncf .bf16 (transpose S2x8x8192x128 [0, 2, 1, 3] (concatenate S2x8192x8x128 3 [⟨S2x8192x8x64, (extractStridedSlice S2x8192x8x64 ![0, 0, 0, 0] U slices_S2x8192x8x128_S2x8192x8x64_0_0_0_0)⟩, ⟨S2x8192x8x32, (broadcastInDim S2x8192x8x32 ![0, 1, 2, 3] bcast_S2x8192x1x32_S2x8192x8x32_0_1_2_3 (broadcastInDim S2x8192x1x32 ![0, 1, 3] bcast_S2x8192x32_S2x8192x1x32_0_1_3 R))⟩, ⟨S2x8192x8x1, (broadcastInDim S2x8192x8x1 ![] bcast_S_S2x8192x8x1 (constant S_ .f32 0x3F800000#32))⟩, ⟨S2x8192x8x31, (broadcastInDim S2x8192x8x31 ![] bcast_S_S2x8192x8x31 (constant S_ .f32 0x00000000#32))⟩] concatenates_S2x8192x8x64_S2x8192x8x32_S2x8192x8x1_S2x8192x8x31_S2x8192x8x128_d3) transposes_S2x8192x8x128_S2x8x8192x128_0_2_1_3) bitsLt_bf16_f32

/-- The values as the attention reads them: in tiles of 512 positions, the positions last. -/
def laidV (U : FVec Ideal S2x8192x8x128 .f32) : FVec Ideal S2x16x512x512 .bf16 :=
  truncf .bf16 (transpose S2x16x512x512 [0, 1, 3, 2] (shapeCast _ (shapeCast _ (extractStridedSlice S2x8192x8x64 ![0, 0, 0, 64] U slices_S2x8192x8x128_S2x8192x8x64_0_0_0_64) shapeCasts_S2x8192x8x64_S2x8192x512) shapeCasts_S2x8192x512_S2x16x512x512) transposes_S2x16x512x512_S2x16x512x512_0_1_3_2) bitsLt_bf16_f32

/-- The columns of the dilated attention. -/
def partA (P : FVec Ideal S2x8192x2208 .f32) : FVec Ideal S2x8192x1536 .f32 := extractStridedSlice S2x8192x1536 ![0, 0, 0] P slices_S2x8192x2208_S2x8192x1536_0_0_0
/-- The columns of the queries' latent. -/
def partQ (P : FVec Ideal S2x8192x2208 .f32) : FVec Ideal S2x8192x384 .f32 := extractStridedSlice S2x8192x384 ![0, 0, 1536] P slices_S2x8192x2208_S2x8192x384_0_0_1536
/-- The columns of the keys' and values' latent. -/
def partK (P : FVec Ideal S2x8192x2208 .f32) : FVec Ideal S2x8192x256 .f32 := extractStridedSlice S2x8192x256 ![0, 0, 1920] P slices_S2x8192x2208_S2x8192x256_0_0_1920
/-- The columns of the keys' rotated lanes. -/
def partR (P : FVec Ideal S2x8192x2208 .f32) : FVec Ideal S2x8192x32 .f32 := extractStridedSlice S2x8192x32 ![0, 0, 2176] P slices_S2x8192x2208_S2x8192x32_0_0_2176
/-- The lanes of the queries that are rotated. -/
def lanesQ (Q : FVec Ideal S2x8192x8x96 .f32) : FVec Ideal S2x8192x8x32 .f32 := extractStridedSlice S2x8192x8x32 ![0, 0, 0, 64] Q slices_S2x8192x8x96_S2x8192x8x32_0_0_0_64

variable (X0 : FVec Ideal S2x8192x1024 .f32) (X1 : FVec Ideal S1024 .f32) (X2 : FVec Ideal S1024x2208 .f32) (X3 : FVec Ideal S384 .f32)
  (X4 : FVec Ideal S384x768 .f32) (X5 : FVec Ideal S256 .f32) (X6 : FVec Ideal S256x1024 .f32)

/-- The projected rows. -/
def all : FVec Ideal S2x8192x2208 .f32 := proj (hidden X0 X1) X2
/-- The queries before the rotation. -/
def allQ : FVec Ideal S2x8192x8x96 .f32 := upQ (normQ (partQ (all X0 X1 X2)) X3) X4
/-- Keys and values. -/
def allK : FVec Ideal S2x8192x8x128 .f32 := upK (normK (partK (all X0 X1 X2)) X5) X6

/-- The four results. -/
def outA : FVec Ideal S2x8192x1536 .f32 := partA (all X0 X1 X2)
def outQ : FVec Ideal S2x8x8192x128 .bf16 := laidQ (allQ X0 X1 X2 X3 X4) (turnQ (lanesQ (allQ X0 X1 X2 X3 X4)) (Host.cos angle) (Host.sin angle))
def outK : FVec Ideal S2x8x8192x128 .bf16 := laidK (allK X0 X1 X2 X5 X6) (turnK (partR (all X0 X1 X2)) (Host.cos angle) (Host.sin angle))
def outV : FVec Ideal S2x16x512x512 .bf16 := laidV (allK X0 X1 X2 X5 X6)

section
variable (m : (ℓ : Loc nD τ sig) → Buf (Elt Ideal) ℓ) (c : Dev nD)

theorem resQ_eq : Value.res_main_v119 (F := Ideal) m c = outQ (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  unfold Value.res_main_v119
  rfl

theorem resK_eq : Value.res_main_v121 (F := Ideal) m c = outK (m ((c.tc : Thread nD τ).loc main_arg0)) (m ((c.tc : Thread nD τ).loc main_arg1)) (m ((c.tc : Thread nD τ).loc main_arg2))
    (m ((c.tc : Thread nD τ).loc main_arg5)) (m ((c.tc : Thread nD τ).loc main_arg6)) := by
  unfold Value.res_main_v121
  rfl
end

/-! ## At an element -/

theorem all_at (b : Fin 2) (s : Fin 8192) (f : Fin 2208) :
    all X0 X1 X2 (ix3 b s f) = ∑ d : Fin 1024, nrm 0x44800000#32 (fun e => X0 (ix3 b s e)) (X1 (ix1 d)) d * X2 (ix2 d f) := by
  unfold nrm
  pointwise [all, proj, hidden]

theorem normQ_at (P : FVec Ideal S2x8192x2208 .f32) (b : Fin 2) (s : Fin 8192) (k : Fin 384) :
    normQ (partQ P) X3 (ix3 b s k) = nrm 0x43C00000#32 (fun e : Fin 384 => P (ix3 b s ⟨1536 + e, by omega⟩)) (X3 (ix1 k)) k := by
  unfold nrm
  pointwise [normQ, partQ]

theorem normK_at (P : FVec Ideal S2x8192x2208 .f32) (b : Fin 2) (s : Fin 8192) (k : Fin 256) :
    normK (partK P) X5 (ix3 b s k) = nrm 0x43800000#32 (fun e : Fin 256 => P (ix3 b s ⟨1920 + e, by omega⟩)) (X5 (ix1 k)) k := by
  unfold nrm
  pointwise [normK, partK]

theorem partA_at (P : FVec Ideal S2x8192x2208 .f32) (b : Fin 2) (s : Fin 8192) (f : Fin 1536) : partA P (ix3 b s f) = P (ix3 b s ⟨f, by omega⟩) := by
  pointwise [partA]

theorem partR_at (P : FVec Ideal S2x8192x2208 .f32) (b : Fin 2) (s : Fin 8192) (f : Fin 32) : partR P (ix3 b s f) = P (ix3 b s ⟨2176 + f, by omega⟩) := by
  pointwise [partR]

theorem upQ_at (N : FVec Ideal S2x8192x384 .f32) (b : Fin 2) (s : Fin 8192) (h : Fin 8) (j : Fin 96) :
    upQ N X4 (ix4 b s h j) = ∑ k : Fin 384, N (ix3 b s k) * X4 (ix2 k ⟨h * 96 + j, by omega⟩) := by
  pointwise [upQ]

theorem upK_at (N : FVec Ideal S2x8192x256 .f32) (b : Fin 2) (s : Fin 8192) (h : Fin 8) (j : Fin 128) :
    upK N X6 (ix4 b s h j) = ∑ k : Fin 256, N (ix3 b s k) * X6 (ix2 k ⟨h * 128 + j, by omega⟩) := by
  pointwise [upK]

theorem turnQ_low (Q : FVec Ideal S2x8192x8x96 .f32) (C S : FVec Ideal S8192x16 .f32) (b : Fin 2) (s : Fin 8192) (h : Fin 8) (j : Fin 16) :
    turnQ (lanesQ Q) C S (ix4 b s h ⟨j, by omega⟩) = Q (ix4 b s h ⟨64 + j, by omega⟩) * C (ix2 s j) - Q (ix4 b s h ⟨64 + (16 + j), by omega⟩) * S (ix2 s j) := by
  pointwise [turnQ, lanesQ]

theorem turnQ_high (Q : FVec Ideal S2x8192x8x96 .f32) (C S : FVec Ideal S8192x16 .f32) (b : Fin 2) (s : Fin 8192) (h : Fin 8) (j : Fin 16) :
    turnQ (lanesQ Q) C S (ix4 b s h ⟨16 + j, by omega⟩) = Q (ix4 b s h ⟨64 + (16 + j), by omega⟩) * C (ix2 s j) + Q (ix4 b s h ⟨64 + j, by omega⟩) * S (ix2 s j) := by
  pointwise [turnQ, lanesQ]

theorem turnK_low (P : FVec Ideal S2x8192x2208 .f32) (C S : FVec Ideal S8192x16 .f32) (b : Fin 2) (s : Fin 8192) (j : Fin 16) :
    turnK (partR P) C S (ix3 b s ⟨j, by omega⟩) = P (ix3 b s ⟨2176 + j, by omega⟩) * C (ix2 s j) - P (ix3 b s ⟨2176 + (16 + j), by omega⟩) * S (ix2 s j) := by
  pointwise [turnK, partR]

theorem turnK_high (P : FVec Ideal S2x8192x2208 .f32) (C S : FVec Ideal S8192x16 .f32) (b : Fin 2) (s : Fin 8192) (j : Fin 16) :
    turnK (partR P) C S (ix3 b s ⟨16 + j, by omega⟩) = P (ix3 b s ⟨2176 + (16 + j), by omega⟩) * C (ix2 s j) + P (ix3 b s ⟨2176 + j, by omega⟩) * S (ix2 s j) := by
  pointwise [turnK, partR]

/-- The scale of the queries. -/
abbrev qs : EReal := Ideal.ofBits .f32 0x3E16C740#32

theorem laidQ_low (Q : FVec Ideal S2x8192x8x96 .f32) (R : FVec Ideal S2x8192x8x32 .f32) (b : Fin 2) (h : Fin 8) (s : Fin 8192) (l : Fin 64) :
    laidQ Q R (ix4 b h s ⟨l, by omega⟩) = Q (ix4 b s h ⟨l, by omega⟩) * qs := by
  pointwise [laidQ]
  exact dif_pos (by omega)

theorem laidQ_mid (Q : FVec Ideal S2x8192x8x96 .f32) (R : FVec Ideal S2x8192x8x32 .f32) (b : Fin 2) (h : Fin 8) (s : Fin 8192) (l : Fin 32) :
    laidQ Q R (ix4 b h s ⟨64 + l, by omega⟩) = R (ix4 b s h l) * qs := by
  pointwise [laidQ]
  exact dif_pos (by omega)

theorem laidQ_high (Q : FVec Ideal S2x8192x8x96 .f32) (R : FVec Ideal S2x8192x8x32 .f32) (b : Fin 2) (h : Fin 8) (s : Fin 8192) (l : Fin 32) :
    laidQ Q R (ix4 b h s ⟨96 + l, by omega⟩) = 0 := by
  pointwise [laidQ]
  show (((0#32 : BitVec 32).toInt : ℝ) : EReal) = 0
  simp

theorem laidK_low (U : FVec Ideal S2x8192x8x128 .f32) (R : FVec Ideal S2x8192x32 .f32) (b : Fin 2) (h : Fin 8) (s : Fin 8192) (l : Fin 64) :
    laidK U R (ix4 b h s ⟨l, by omega⟩) = U (ix4 b s h ⟨l, by omega⟩) := by
  pointwise [laidK]

theorem laidK_mid (U : FVec Ideal S2x8192x8x128 .f32) (R : FVec Ideal S2x8192x32 .f32) (b : Fin 2) (h : Fin 8) (s : Fin 8192) (l : Fin 32) :
    laidK U R (ix4 b h s ⟨64 + l, by omega⟩) = R (ix3 b s l) := by
  pointwise [laidK]

theorem laidK_one (U : FVec Ideal S2x8192x8x128 .f32) (R : FVec Ideal S2x8192x32 .f32) (b : Fin 2) (h : Fin 8) (s : Fin 8192) :
    laidK U R (ix4 b h s 96) = 1 := by
  pointwise [laidK]

theorem laidK_high (U : FVec Ideal S2x8192x8x128 .f32) (R : FVec Ideal S2x8192x32 .f32) (b : Fin 2) (h : Fin 8) (s : Fin 8192) (l : Fin 31) :
    laidK U R (ix4 b h s ⟨97 + l, by omega⟩) = 0 := by
  pointwise [laidK]
  rw [dif_neg (by omega), dif_neg (by omega), dif_neg (by omega)]

theorem laidV_at (U : FVec Ideal S2x8192x8x128 .f32) (b : Fin 2) (t : Fin 16) (h : Fin 8) (v : Fin 64) (r : Fin 512) :
    laidV U (ix4 b t ⟨h * 64 + v, by omega⟩ r) = U (ix4 b ⟨t * 512 + r, by omega⟩ h ⟨64 + v, by omega⟩) := by
  pointwise [laidV]

end Cert.InpRefIdeal.Att
-- ==== Proof.InpEntry.lean ====
module

public import proofs.«01_k».proof.Proof.InpStep
public import proofs.«01_k».proof.Proof.InpRef

@[expose] public section

set_option maxRecDepth 16384

noncomputable section

namespace Cert.InpIdeal.Att

open Cert.InpIdeal Cert.InpIdeal.Gen
open Idealize.ShloMosaic Idealize.ShloMosaic.TcCoe Idealize.SL.Sem
open Cert.InpRefIdeal.Att (angle)

variable (m : (ℓ : Loc nD τ sig) → Buf (Elt Ideal) ℓ)

abbrev argX (c : Dev nD) : FVec Ideal S2x8192x1024 .f32 := m ((c : Thread nD τ).loc main_arg0)
abbrev argG (c : Dev nD) : FVec Ideal S1024 .f32 := m ((c : Thread nD τ).loc main_arg1)
abbrev argW (c : Dev nD) : FVec Ideal S1024x2208 .f32 := m ((c : Thread nD τ).loc main_arg2)
abbrev argGq (c : Dev nD) : FVec Ideal S384 .f32 := m ((c : Thread nD τ).loc main_arg3)
abbrev argWq (c : Dev nD) : FVec Ideal S384x768 .f32 := m ((c : Thread nD τ).loc main_arg4)
abbrev argGk (c : Dev nD) : FVec Ideal S256 .f32 := m ((c : Thread nD τ).loc main_arg5)
abbrev argWk (c : Dev nD) : FVec Ideal S256x1024 .f32 := m ((c : Thread nD τ).loc main_arg6)

/-! ## The arrays the launch reads, from the arguments -/

theorem zero_pad : FloatOps.sitofp (F := Ideal) .f32 (0#32 : BitVec 32) = 0 := by
  show (((0#32 : BitVec 32).toInt : ℝ) : EReal) = 0
  simp

/-- The input weights as the launch reads them: the rotated columns once plain and once with the halves exchanged, the second negated. -/
def winOf (W : FVec Ideal S1024x2208 .f32) : FVec Ideal S1024x2304 .bf16 :=
  truncf .bf16 (concatenate S1024x2304 1 [⟨S1024x2176, extractStridedSlice S1024x2176 ![0, 0] W slices_S1024x2208_S1024x2176_0_0⟩,
    ⟨S1024x128, pad S1024x128 ![0, 64] ![0, 0] ![0, 0] (concatenate S1024x64 1 [⟨S1024x32, extractStridedSlice S1024x32 ![0, 2176] W slices_S1024x2208_S1024x32_0_2176⟩,
      ⟨S1024x32, concatenate S1024x32 1 [⟨S1024x16, Host.negf (extractStridedSlice S1024x16 ![0, 16] (extractStridedSlice S1024x32 ![0, 2176] W slices_S1024x2208_S1024x32_0_2176) slices_S1024x32_S1024x16_0_16)⟩,
        ⟨S1024x16, extractStridedSlice S1024x16 ![0, 0] (extractStridedSlice S1024x32 ![0, 2176] W slices_S1024x2208_S1024x32_0_2176) slices_S1024x32_S1024x16_0_0⟩] concatenates_S1024x16_S1024x16_S1024x32_d1⟩] concatenates_S1024x32_S1024x32_S1024x64_d1)
      (sitofp .f32 (constantI S_ 32 0#32)) pads_S1024x64_S1024x128_000_6400 h_S_⟩] concatenates_S1024x2176_S1024x128_S1024x2304_d1) bitsLt_bf16_f32

/-- The queries' weights as the launch reads them: each head with its rotated columns once more, exchanged, behind. -/
def wqOf (W : FVec Ideal S384x768 .f32) : FVec Ideal S384x1024 .bf16 :=
  truncf .bf16 (shapeCast _ (concatenate S384x8x128 2 [⟨S384x8x96, shapeCast _ W shapeCasts_S384x768_S384x8x96⟩,
    ⟨S384x8x32, concatenate S384x8x32 2 [⟨S384x8x16, Host.negf (extractStridedSlice S384x8x16 ![0, 0, 16] (extractStridedSlice S384x8x32 ![0, 0, 64] (shapeCast _ W shapeCasts_S384x768_S384x8x96) slices_S384x8x96_S384x8x32_0_0_64) slices_S384x8x32_S384x8x16_0_0_16)⟩,
      ⟨S384x8x16, extractStridedSlice S384x8x16 ![0, 0, 0] (extractStridedSlice S384x8x32 ![0, 0, 64] (shapeCast _ W shapeCasts_S384x768_S384x8x96) slices_S384x8x96_S384x8x32_0_0_64) slices_S384x8x32_S384x8x16_0_0_0⟩] concatenates_S384x8x16_S384x8x16_S384x8x32_d2⟩]
    concatenates_S384x8x96_S384x8x32_S384x8x128_d2) shapeCasts_S384x8x128_S384x1024) bitsLt_bf16_f32

/-- The keys' weights as the launch reads them: each head padded with zeros. -/
def wkOf (W : FVec Ideal S256x1024 .f32) : FVec Ideal S256x1024 .bf16 :=
  truncf .bf16 (shapeCast _ (pad S256x8x128 ![0, 0, 0] ![0, 0, 64] ![0, 0, 0] (extractStridedSlice S256x8x64 ![0, 0, 0] (shapeCast _ W shapeCasts_S256x1024_S256x8x128) slices_S256x8x128_S256x8x64_0_0_0)
    (sitofp .f32 (constantI S_ 32 0#32)) pads_S256x8x64_S256x8x128_000_000_0640 h_S_) shapeCasts_S256x8x128_S256x1024) bitsLt_bf16_f32

/-- The values' weights as the launch reads them: turned. -/
def wvOf (W : FVec Ideal S256x1024 .f32) : FVec Ideal S512x256 .bf16 :=
  truncf .bf16 (transpose S512x256 [1, 0] (shapeCast _ (extractStridedSlice S256x8x64 ![0, 0, 64] (shapeCast _ W shapeCasts_S256x1024_S256x8x128) slices_S256x8x128_S256x8x64_0_0_64) shapeCasts_S256x8x64_S256x512) transposes_S256x512_S512x256_1_0) bitsLt_bf16_f32

/-- A function of the angles as the launch reads it: twice side by side, between lanes of zeros. -/
def tabOf (T : FVec Ideal S8192x16 .f32) : FVec Ideal S8192x128 .f32 :=
  pad S8192x128 ![0, 64] ![0, 32] ![0, 0] (shapeCast _ (broadcastInDim S1x8192x2x16 ![0, 1, 2, 3] bcast_S1x8192x1x16_S1x8192x2x16_0_1_2_3 (shapeCast _ T shapeCasts_S8192x16_S1x8192x1x16)) shapeCasts_S1x8192x2x16_S8192x32)
    (sitofp .f32 (constantI S_ 32 0#32)) pads_S8192x32_S8192x128_000_64320 h_S_

theorem win_eq (c : Dev nD) : (show FVec Ideal S1024x2304 .bf16 from V m c main_v9) = winOf (argW m c) := by
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.unary, StableHlo.TRef.binary, StableHlo.TRef.toBuf, StableHlo.TRef.ofBuf, cast_eq]
  entry_read
  rfl

theorem wq_eq (c : Dev nD) : (show FVec Ideal S384x1024 .bf16 from V m c main_v18) = wqOf (argWq m c) := by
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.unary, StableHlo.TRef.binary, StableHlo.TRef.toBuf, StableHlo.TRef.ofBuf, cast_eq]
  entry_read
  rfl

theorem wk_eq (c : Dev nD) : (show FVec Ideal S256x1024 .bf16 from V m c main_v23) = wkOf (argWk m c) := by
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.unary, StableHlo.TRef.binary, StableHlo.TRef.toBuf, StableHlo.TRef.ofBuf, cast_eq]
  entry_read
  rfl

theorem wv_eq (c : Dev nD) : (show FVec Ideal S512x256 .bf16 from V m c main_v27) = wvOf (argWk m c) := by
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.unary, StableHlo.TRef.binary, StableHlo.TRef.toBuf, StableHlo.TRef.ofBuf, cast_eq]
  entry_read
  rfl

theorem cos_eq (c : Dev nD) : (show FVec Ideal S8192x128 .f32 from V m c main_v48) = tabOf (Host.cos angle) := by
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.unary, StableHlo.TRef.binary, StableHlo.TRef.toBuf, StableHlo.TRef.ofBuf, cast_eq]
  entry_read
  rfl

theorem sin_eq (c : Dev nD) : (show FVec Ideal S8192x128 .f32 from V m c main_v53) = tabOf (Host.sin angle) := by
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.unary, StableHlo.TRef.binary, StableHlo.TRef.toBuf, StableHlo.TRef.ofBuf, cast_eq]
  entry_read
  rfl

theorem gain (c : Dev nD) (d : Fin 1024) : (show FVec Ideal S1x1024 .f32 from V m c main_v54) (ix2 0 d) = argG m c (ix1 d) := by
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.unary, StableHlo.TRef.binary, StableHlo.TRef.toBuf, StableHlo.TRef.ofBuf, cast_eq]
  entry_read
  pointwise []

theorem gainQ (c : Dev nD) (d : Fin 384) : (show FVec Ideal S1x384 .f32 from V m c main_v55) (ix2 0 d) = argGq m c (ix1 d) := by
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.unary, StableHlo.TRef.binary, StableHlo.TRef.toBuf, StableHlo.TRef.ofBuf, cast_eq]
  entry_read
  pointwise []

theorem gainK (c : Dev nD) (d : Fin 256) : (show FVec Ideal S1x256 .f32 from V m c main_v56) (ix2 0 d) = argGk m c (ix1 d) := by
  simp only [V, hostOps0, hostOps0_1, hostOps0_2, hostOps0_3, hostOps0_4, hostOps0_5, hostOps0_6, hostOps0_7, hostOps0_8, List.flatten_cons, List.flatten_nil,
    List.append_nil, List.cons_append, List.nil_append, StableHlo.TRef.unary, StableHlo.TRef.binary, StableHlo.TRef.toBuf, StableHlo.TRef.ofBuf, cast_eq]
  entry_read
  pointwise []

theorem win_low (W : FVec Ideal S1024x2208 .f32) (d : Fin 1024) (f : Fin 2176) : winOf W (ix2 d ⟨f, by omega⟩) = W (ix2 d ⟨f, by omega⟩) := by
  pointwise [winOf]

theorem win_zero (W : FVec Ideal S1024x2208 .f32) (d : Fin 1024) (l : Fin 64) : winOf W (ix2 d ⟨2176 + l, by omega⟩) = 0 := by
  pointwise [winOf]
  exact zero_pad

theorem win_rope (W : FVec Ideal S1024x2208 .f32) (d : Fin 1024) (j : Fin 32) : winOf W (ix2 d ⟨2176 + (64 + j), by omega⟩) = W (ix2 d ⟨2176 + j, by omega⟩) := by
  pointwise [winOf]
  exact dif_pos (by omega)

theorem win_neg (W : FVec Ideal S1024x2208 .f32) (d : Fin 1024) (j : Fin 16) :
    winOf W (ix2 d ⟨2176 + (64 + (32 + j)), by omega⟩) = -W (ix2 d ⟨2176 + (16 + j), by omega⟩) := by
  pointwise [winOf]
  exact dif_pos (by omega)

theorem win_pos (W : FVec Ideal S1024x2208 .f32) (d : Fin 1024) (j : Fin 16) :
    winOf W (ix2 d ⟨2176 + (64 + (32 + (16 + j))), by omega⟩) = W (ix2 d ⟨2176 + j, by omega⟩) := by
  pointwise [winOf]
  exact dif_pos (by omega)

theorem wq_low (W : FVec Ideal S384x768 .f32) (k : Fin 384) (h : Fin 8) (j : Fin 96) :
    wqOf W (ix2 k ⟨h * 128 + j, by omega⟩) = W (ix2 k ⟨h * 96 + j, by omega⟩) := by
  pointwise [wqOf]
  exact (dif_pos (by omega)).trans (congrArg (fun j => W (ix2 k j)) (Fin.ext (by dsimp only; omega)))

theorem wq_neg (W : FVec Ideal S384x768 .f32) (k : Fin 384) (h : Fin 8) (j : Fin 16) :
    wqOf W (ix2 k ⟨h * 128 + (96 + j), by omega⟩) = -W (ix2 k ⟨h * 96 + (64 + (16 + j)), by omega⟩) := by
  pointwise [wqOf]
  exact (dif_neg (by omega)).trans ((dif_pos (by omega)).trans (congrArg (fun j => -W (ix2 k j)) (Fin.ext (by dsimp only; omega))))

theorem wq_pos (W : FVec Ideal S384x768 .f32) (k : Fin 384) (h : Fin 8) (j : Fin 16) :
    wqOf W (ix2 k ⟨h * 128 + (96 + (16 + j)), by omega⟩) = W (ix2 k ⟨h * 96 + (64 + j), by omega⟩) := by
  pointwise [wqOf]
  exact (dif_neg (by omega)).trans ((dif_neg (by omega)).trans (congrArg (fun j => W (ix2 k j)) (Fin.ext (by dsimp only; omega))))

theorem wk_low (W : FVec Ideal S256x1024 .f32) (k : Fin 256) (h : Fin 8) (j : Fin 64) :
    wkOf W (ix2 k ⟨h * 128 + j, by omega⟩) = W (ix2 k ⟨h * 128 + j, by omega⟩) := by
  pointwise [wkOf]
  exact (dif_pos (by omega)).trans (congrArg (fun j => W (ix2 k j)) (Fin.ext (by dsimp only; omega)))

theorem wk_high (W : FVec Ideal S256x1024 .f32) (k : Fin 256) (h : Fin 8) (j : Fin 64) : wkOf W (ix2 k ⟨h * 128 + (64 + j), by omega⟩) = 0 := by
  pointwise [wkOf]
  exact (dif_neg (by omega)).trans zero_pad

theorem wv_at (W : FVec Ideal S256x1024 .f32) (k : Fin 256) (h : Fin 8) (v : Fin 64) :
    wvOf W (ix2 ⟨h * 64 + v, by omega⟩ k) = W (ix2 k ⟨h * 128 + (64 + v), by omega⟩) := by
  pointwise [wvOf]

theorem tab_low (T : FVec Ideal S8192x16 .f32) (s : Fin 8192) (l : Fin 64) : tabOf T (ix2 s ⟨l, by omega⟩) = 0 := by
  pointwise [tabOf]
  exact zero_pad

theorem tab_mid (T : FVec Ideal S8192x16 .f32) (s : Fin 8192) (j : Fin 32) : tabOf T (ix2 s ⟨64 + j, by omega⟩) = T (ix2 s ⟨j % 16, by omega⟩) := by
  pointwise [tabOf]

theorem tab_high (T : FVec Ideal S8192x16 .f32) (s : Fin 8192) (j : Fin 32) : tabOf T (ix2 s ⟨96 + j, by omega⟩) = 0 := by
  pointwise [tabOf]
  exact (dif_neg (by omega)).trans zero_pad

end Cert.InpIdeal.Att
-- ==== Proof.InpReal.lean ====
module

public import proofs.«01_k».proof.Proof.Soft
public import proofs.«01_k».proof.Proof.OutRef

@[expose] public section

noncomputable section

namespace Cert.InpReal

open Idealize.ShloMosaic
open Cert.OutRefIdeal.Att (nrm)
open Cert.Soft (coe_sum div_real)

theorem eps_f32 : ∃ r : ℝ, 0 < r ∧ Ideal.ofBits .f32 0x358637BD#32 = (r : EReal) := by
  refine ⟨_, ?_, by simp [Ideal.ofBits, Ideal.ieee, -EReal.coe_mul]; rfl⟩
  norm_num

theorem width_1024 : ∃ r : ℝ, 0 < r ∧ Ideal.ofBits .f32 0x44800000#32 = (r : EReal) := by
  refine ⟨_, ?_, by simp [Ideal.ofBits, Ideal.ieee, -EReal.coe_mul]; rfl⟩
  norm_num

theorem width_384 : ∃ r : ℝ, 0 < r ∧ Ideal.ofBits .f32 0x43C00000#32 = (r : EReal) := by
  refine ⟨_, ?_, by simp [Ideal.ofBits, Ideal.ieee, -EReal.coe_mul]; rfl⟩
  norm_num

theorem scale_f32 : ∃ r : ℝ, 0 < r ∧ Ideal.ofBits .f32 0x3E16C740#32 = (r : EReal) := by
  refine ⟨_, ?_, by simp [Ideal.ofBits, Ideal.ieee, -EReal.coe_mul]; rfl⟩
  norm_num

theorem sq_nonneg (x : EReal) : 0 ≤ x * x := by
  induction x using EReal.rec with
  | bot => simp
  | top => simp
  | coe r => exact_mod_cast mul_self_nonneg r

/-- A row over the root of its mean square is real, whatever the row is: an infinite entry makes the mean square infinite and the factor zero. -/
theorem nrm_real {n : ℕ} (w : BitVec 32) (hw : ∃ r : ℝ, 0 < r ∧ Ideal.ofBits .f32 w = (r : EReal)) (x : Fin n → EReal) (g : EReal)
    (hg : ∃ r : ℝ, g = (r : EReal)) (d : Fin n) : ∃ r : ℝ, nrm w x g d = (r : EReal) := by
  obtain ⟨N, hN, hw⟩ := hw
  obtain ⟨e, he, hE⟩ := eps_f32
  obtain ⟨g, rfl⟩ := hg
  unfold nrm
  rw [hw, hE]
  by_cases hx : ∀ i, ∃ r : ℝ, x i = (r : EReal)
  · choose y hy using hx
    simp only [hy, ← EReal.coe_mul, ← coe_sum]
    rw [div_real _ _ hN, ← EReal.coe_add]
    have hs : 0 < (∑ i, y i * y i) / N + e := add_pos_of_nonneg_of_pos (div_nonneg (Finset.sum_nonneg fun i _ => mul_self_nonneg _) hN.le) he
    refine ⟨y d * (Real.sqrt ((∑ i, y i * y i) / N + e))⁻¹ * g, ?_⟩
    have : Ideal.rsqrt (((∑ i, y i * y i) / N + e : ℝ) : EReal) = (((Real.sqrt ((∑ i, y i * y i) / N + e))⁻¹ : ℝ) : EReal) := by
      show (if (∑ i, y i * y i) / N + e < 0 then ⊥ else if (∑ i, y i * y i) / N + e = 0 then ⊤ else _) = _
      rw [if_neg (not_lt.mpr hs.le), if_neg hs.ne']
    rw [this, ← EReal.coe_mul, ← EReal.coe_mul]
  · obtain ⟨i, hi⟩ := not_forall.mp hx
    have ht : x i * x i = ⊤ := by
      generalize x i = z at hi
      induction z using EReal.rec with
      | bot => simp
      | top => simp
      | coe r => exact absurd ⟨r, rfl⟩ hi
    have hsum : ∑ j, x j * x j = ⊤ := by
      refine top_le_iff.mp ?_
      rw [← ht]
      exact Finset.single_le_sum (f := fun j => x j * x j) (fun j _ => sq_nonneg (x j)) (Finset.mem_univ i)
    have hd : Ideal.div ⊤ (N : EReal) = ⊤ := by
      have h0 : ((N : ℝ) : EReal) ≠ 0 := by exact_mod_cast hN.ne'
      unfold Ideal.div
      rw [if_neg h0, ← EReal.coe_inv, EReal.top_mul_coe_of_pos (inv_pos.mpr hN)]
    refine ⟨0, ?_⟩
    rw [hsum, hd, EReal.top_add_coe]
    show x d * 0 * (g : EReal) = _
    simp

/-- A sum of products of reals with every second factor negated is the sum, negated. -/
theorem sum_neg {n : ℕ} (a w : Fin n → EReal) (ha : ∀ i, ∃ r : ℝ, a i = (r : EReal)) (hw : ∀ i, ∃ r : ℝ, w i = (r : EReal)) :
    ∑ i, a i * -w i = -∑ i, a i * w i := by
  choose a' ha using ha
  choose w' hw using hw
  simp only [ha, hw, ← EReal.coe_neg, ← EReal.coe_mul, ← coe_sum]
  congr 1
  simp

/-- The lower half of a rotation, with the scale taken into the two tables. -/
theorem rot_low (q c r s k : EReal) (hk : ∃ x : ℝ, 0 < x ∧ k = (x : EReal)) : q * ((c + 0) * k) + -r * (s * k) = (q * c - r * s) * k := by
  obtain ⟨x, hx, rfl⟩ := hk
  have h0 : (0 : EReal) ≤ (x : EReal) := by exact_mod_cast hx.le
  rw [add_zero, sub_eq_add_neg, EReal.right_distrib_of_nonneg_of_ne_top h0 (EReal.coe_ne_top x), mul_assoc, neg_mul, neg_mul, mul_assoc]

/-- The upper half. -/
theorem rot_high (q c r s k : EReal) (hk : ∃ x : ℝ, 0 < x ∧ k = (x : EReal)) : q * ((c + 0) * k) + r * (s * k) = (q * c + r * s) * k := by
  obtain ⟨x, hx, rfl⟩ := hk
  have h0 : (0 : EReal) ≤ (x : EReal) := by exact_mod_cast hx.le
  rw [add_zero, EReal.right_distrib_of_nonneg_of_ne_top h0 (EReal.coe_ne_top x), mul_assoc, mul_assoc]

end Cert.InpReal

end
-- ==== Proof.InpFinal.lean ====
module

public import proofs.«01_k».proof.Proof.Gen.InpIdeal.Value
public import proofs.«01_k».proof.Proof.InpPoint
public import proofs.«01_k».proof.Proof.InpEntry
public import proofs.«01_k».proof.Proof.InpReal

@[expose] public section

set_option maxRecDepth 16384

noncomputable section

namespace Cert.InpIdeal.Att

open Cert.InpIdeal Cert.InpIdeal.Gen
open Idealize.ShloMosaic Idealize.ShloMosaic.TcCoe Idealize.SL.Sem
open Cert.OutRefIdeal.Att (nrm)
open Cert.InpRefIdeal.Att (angle outA outQ outK outV all)

variable (m : (ℓ : Loc nD τ sig) → Buf (Elt Ideal) ℓ)

/-! ## The input blocks of a grid step -/

theorem idx : ∀ t : Fin cfg0.N, win0_0.index t = ![t.val / 16, t.val % 16, 0] ∧ win0_3.index t = ![t.val % 16, 0] ∧ win0_4.index t = ![t.val % 16, 0]
    ∧ win0_11.index t = ![t.val / 16, t.val % 16, 0] ∧ win0_12.index t = ![t.val / 16, 0, t.val % 16, 0] ∧ win0_13.index t = ![t.val / 16, 0, t.val % 16, 0]
    ∧ win0_14.index t = ![t.val / 16, t.val % 16, 0, 0] ∧ t.val < 32 :=
  (by decide +kernel : ∀ t : Fin grid0.N, _)

theorem idx_whole : ∀ t : Fin cfg0.N, win0_1.index t = ![0, 0] ∧ win0_2.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

theorem t_lt (t : Fin cfg0.N) : t.val < 32 := (idx t).2.2.2.2.2.2.2

/-- The batch of a grid step. -/
abbrev bAt (t : Fin cfg0.N) : Fin 2 := ⟨t.val / 16, by have := t_lt t; omega⟩
/-- The position of a row of a grid step. -/
abbrev sAt (t : Fin cfg0.N) (r : Fin 512) : Fin 8192 := ⟨t.val % 16 * 512 + r, by omega⟩

theorem blk0 (c : Dev nD) (t : Fin cfg0.N) (r : Fin 512) (k : Fin 1024) : iblk m c 0 t (ix3 0 r k) = argX m c (ix3 (bAt t) (sAt t r) k) := by
  have := t_lt t
  show V m c main_arg0 ((win0_0.blk t).view.emb (ix3 0 r k)) = _
  rw [V_main_arg0]
  blk_ext! [idx t]

theorem blk1 (c : Dev nD) (t : Fin cfg0.N) (d : Fin 1024) : iblk m c 1 t (ix2 0 d) = argG m c (ix1 d) := by
  refine Eq.trans ?_ (gain m c d)
  show V m c main_v54 ((win0_1.blk t).view.emb (ix2 0 d)) = _
  congr 1
  blk_ext! [idx_whole t]

theorem blk2 (c : Dev nD) (t : Fin cfg0.N) (k : Fin 1024) (d : Fin 2304) : iblk m c 2 t (ix2 k d) = winOf (argW m c) (ix2 k d) := by
  refine Eq.trans ?_ (congrFun (win_eq m c) (ix2 k d))
  show V m c main_v9 ((win0_2.blk t).view.emb (ix2 k d)) = _
  congr 1
  blk_ext! [idx_whole t]

theorem blk3 (c : Dev nD) (t : Fin cfg0.N) (r : Fin 512) (l : Fin 128) : iblk m c 3 t (ix2 r l) = tabOf (Host.cos angle) (ix2 (sAt t r) l) := by
  have := t_lt t
  refine Eq.trans ?_ (congrFun (cos_eq m c) (ix2 (sAt t r) l))
  show V m c main_v48 ((win0_3.blk t).view.emb (ix2 r l)) = _
  congr 1
  blk_ext! [idx t]

theorem blk4 (c : Dev nD) (t : Fin cfg0.N) (r : Fin 512) (l : Fin 128) : iblk m c 4 t (ix2 r l) = tabOf (Host.sin angle) (ix2 (sAt t r) l) := by
  have := t_lt t
  refine Eq.trans ?_ (congrFun (sin_eq m c) (ix2 (sAt t r) l))
  show V m c main_v53 ((win0_4.blk t).view.emb (ix2 r l)) = _
  congr 1
  blk_ext! [idx t]

theorem blk5 (c : Dev nD) (t : Fin cfg0.N) (d : Fin 384) : iblk m c 5 t (ix2 0 d) = argGq m c (ix1 d) := by
  refine Eq.trans ?_ (gainQ m c d)
  show V m c main_v55 ((win0_5.blk t).view.emb (ix2 0 d)) = _
  congr 1
  blk_ext! [idx_whole t]

theorem blk6 (c : Dev nD) (t : Fin cfg0.N) (k : Fin 384) (d : Fin 1024) : iblk m c 6 t (ix2 k d) = wqOf (argWq m c) (ix2 k d) := by
  refine Eq.trans ?_ (congrFun (wq_eq m c) (ix2 k d))
  show V m c main_v18 ((win0_6.blk t).view.emb (ix2 k d)) = _
  congr 1
  blk_ext! [idx_whole t]

theorem blk7 (c : Dev nD) (t : Fin cfg0.N) (d : Fin 256) : iblk m c 7 t (ix2 0 d) = argGk m c (ix1 d) := by
  refine Eq.trans ?_ (gainK m c d)
  show V m c main_v56 ((win0_7.blk t).view.emb (ix2 0 d)) = _
  congr 1
  blk_ext! [idx_whole t]

theorem blk8 (c : Dev nD) (t : Fin cfg0.N) (k : Fin 256) (d : Fin 1024) : iblk m c 8 t (ix2 k d) = wkOf (argWk m c) (ix2 k d) := by
  refine Eq.trans ?_ (congrFun (wk_eq m c) (ix2 k d))
  show V m c main_v23 ((win0_8.blk t).view.emb (ix2 k d)) = _
  congr 1
  blk_ext! [idx_whole t]

theorem blk9 (c : Dev nD) (t : Fin cfg0.N) (k : Fin 512) (d : Fin 256) : iblk m c 9 t (ix2 k d) = wvOf (argWk m c) (ix2 k d) := by
  refine Eq.trans ?_ (congrFun (wv_eq m c) (ix2 k d))
  show V m c main_v27 ((win0_9.blk t).view.emb (ix2 k d)) = _
  congr 1
  blk_ext! [idx_whole t]

/-! ## The values of a step are the reference's -/

/-- What the precondition says of the arguments. -/
structure Good (G : FVec Ideal S1024 .f32) (W : FVec Ideal S1024x2208 .f32) (Gq : FVec Ideal S384 .f32) (Wq : FVec Ideal S384x768 .f32) : Prop where
  gain : ∀ d : Fin 1024, ∃ r : ℝ, (G (ix1 d) : EReal) = (r : EReal)
  turned : ∀ (d : Fin 1024) (j : Fin 32), ∃ r : ℝ, (W (ix2 d ⟨2176 + j, by omega⟩) : EReal) = (r : EReal)
  gainQ : ∀ d : Fin 384, ∃ r : ℝ, (Gq (ix1 d) : EReal) = (r : EReal)
  turnedQ : ∀ (k : Fin 384) (h : Fin 8) (j : Fin 32), ∃ r : ℝ, (Wq (ix2 k ⟨h * 96 + (64 + j), by omega⟩) : EReal) = (r : EReal)

/-- The reference's projected rows, of the arguments of this program. -/
abbrev rows (c : Dev nD) := all (argX m c) (argG m c) (argW m c)
/-- The reference's queries before the rotation. -/
abbrev queries (c : Dev nD) := Cert.InpRefIdeal.Att.allQ (argX m c) (argG m c) (argW m c) (argGq m c) (argWq m c)
/-- The reference's keys and values. -/
abbrev keys (c : Dev nD) := Cert.InpRefIdeal.Att.allK (argX m c) (argG m c) (argW m c) (argGk m c) (argWk m c)

abbrev rowAt (c : Dev nD) (t : Fin cfg0.N) := row (iblk m c 0 t) (iblk m c 1 t) (iblk m c 2 t)
abbrev rowQAt (c : Dev nD) (t : Fin cfg0.N) := rowQ (iblk m c 0 t) (iblk m c 1 t) (iblk m c 2 t) (iblk m c 5 t) (iblk m c 6 t)
abbrev rowNAt (c : Dev nD) (t : Fin cfg0.N) := rowN (iblk m c 0 t) (iblk m c 1 t) (iblk m c 2 t) (iblk m c 7 t)

theorem row_eq (c : Dev nD) (t : Fin cfg0.N) (r : Fin 512) (f : Fin 2304) : rowAt m c t r f
    = ∑ d : Fin 1024, nrm 0x44800000#32 (fun e => argX m c (ix3 (bAt t) (sAt t r) e)) (argG m c (ix1 d)) d * winOf (argW m c) (ix2 d f) := by
  unfold rowAt row
  simp only [blk0, blk1, blk2]

theorem row_low (c : Dev nD) (t : Fin cfg0.N) (r : Fin 512) (f : Fin 2176) : rowAt m c t r ⟨f, by omega⟩ = rows m c (ix3 (bAt t) (sAt t r) ⟨f, by omega⟩) := by
  refine (row_eq m c t r _).trans (Eq.trans ?_ (Cert.InpRefIdeal.Att.all_at _ _ _ _ _ _).symm)
  simp only [win_low]

theorem row_rope (c : Dev nD) (t : Fin cfg0.N) (r : Fin 512) (j : Fin 32) :
    rowAt m c t r ⟨2176 + (64 + j), by omega⟩ = rows m c (ix3 (bAt t) (sAt t r) ⟨2176 + j, by omega⟩) := by
  refine (row_eq m c t r _).trans (Eq.trans ?_ (Cert.InpRefIdeal.Att.all_at _ _ _ _ _ _).symm)
  simp only [win_rope]

theorem row_pos (c : Dev nD) (t : Fin cfg0.N) (r : Fin 512) (j : Fin 16) :
    rowAt m c t r ⟨2176 + (64 + (32 + (16 + j))), by omega⟩ = rows m c (ix3 (bAt t) (sAt t r) ⟨2176 + j, by omega⟩) := by
  refine (row_eq m c t r _).trans (Eq.trans ?_ (Cert.InpRefIdeal.Att.all_at _ _ _ _ _ _).symm)
  simp only [win_pos]

theorem row_neg (c : Dev nD) (hg : Good (argG m c) (argW m c) (argGq m c) (argWq m c)) (t : Fin cfg0.N) (r : Fin 512) (j : Fin 16) :
    rowAt m c t r ⟨2176 + (64 + (32 + j)), by omega⟩ = -rows m c (ix3 (bAt t) (sAt t r) ⟨2176 + (16 + j), by omega⟩) := by
  refine (row_eq m c t r _).trans (Eq.trans ?_ (congrArg (-·) (Cert.InpRefIdeal.Att.all_at _ _ _ _ _ _).symm))
  simp only [win_neg]
  exact Cert.InpReal.sum_neg _ _ (fun d => Cert.InpReal.nrm_real _ Cert.InpReal.width_1024 _ _ (hg.gain d) d) (fun d => hg.turned d ⟨16 + j, by omega⟩)

theorem normQ_eq (c : Dev nD) (t : Fin cfg0.N) (r : Fin 512) (k : Fin 384) :
    nrm 0x43C00000#32 (fun e : Fin 384 => rowAt m c t r ⟨1536 + e, by omega⟩) (argGq m c (ix1 k)) k
      = Cert.InpRefIdeal.Att.normQ (Cert.InpRefIdeal.Att.partQ (rows m c)) (argGq m c) (ix3 (bAt t) (sAt t r) k) := by
  rw [Cert.InpRefIdeal.Att.normQ_at]
  exact congrArg (fun y => nrm 0x43C00000#32 y (argGq m c (ix1 k)) k) (funext fun e => row_low m c t r ⟨1536 + e, by omega⟩)

theorem rowQ_eq (c : Dev nD) (t : Fin cfg0.N) (r : Fin 512) (f : Fin 1024) : rowQAt m c t r f
    = ∑ k : Fin 384, Cert.InpRefIdeal.Att.normQ (Cert.InpRefIdeal.Att.partQ (rows m c)) (argGq m c) (ix3 (bAt t) (sAt t r) k) * wqOf (argWq m c) (ix2 k f) := by
  unfold rowQAt rowQ
  simp only [blk5, blk6]
  exact Finset.sum_congr rfl fun k _ => congrArg (· * _) (normQ_eq m c t r k)

theorem rowN_eq (c : Dev nD) (t : Fin cfg0.N) (r : Fin 512) (k : Fin 256) : rowNAt m c t r k
    = Cert.InpRefIdeal.Att.normK (Cert.InpRefIdeal.Att.partK (rows m c)) (argGk m c) (ix3 (bAt t) (sAt t r) k) := by
  rw [Cert.InpRefIdeal.Att.normK_at]
  unfold rowNAt rowN
  rw [blk7]
  exact congrArg (fun y => nrm 0x43800000#32 y (argGk m c (ix1 k)) k) (funext fun e => row_low m c t r ⟨1920 + e, by omega⟩)

theorem rowQ_low (c : Dev nD) (t : Fin cfg0.N) (r : Fin 512) (h : Fin 8) (j : Fin 96) :
    rowQAt m c t r ⟨h * 128 + j, by omega⟩ = queries m c (ix4 (bAt t) (sAt t r) h j) := by
  rw [rowQ_eq]
  refine Eq.trans ?_ (Cert.InpRefIdeal.Att.upQ_at _ _ _ _ _ _).symm
  simp only [wq_low]

theorem rowQ_pos (c : Dev nD) (t : Fin cfg0.N) (r : Fin 512) (h : Fin 8) (j : Fin 16) :
    rowQAt m c t r ⟨h * 128 + (96 + (16 + j)), by omega⟩ = queries m c (ix4 (bAt t) (sAt t r) h ⟨64 + j, by omega⟩) := by
  rw [rowQ_eq]
  refine Eq.trans ?_ (Cert.InpRefIdeal.Att.upQ_at _ _ _ _ _ _).symm
  simp only [wq_pos]

theorem rowQ_neg (c : Dev nD) (hg : Good (argG m c) (argW m c) (argGq m c) (argWq m c)) (t : Fin cfg0.N) (r : Fin 512) (h : Fin 8) (j : Fin 16) :
    rowQAt m c t r ⟨h * 128 + (96 + j), by omega⟩ = -queries m c (ix4 (bAt t) (sAt t r) h ⟨64 + (16 + j), by omega⟩) := by
  rw [rowQ_eq]
  refine Eq.trans ?_ (congrArg (-·) (Cert.InpRefIdeal.Att.upQ_at _ _ _ _ _ _).symm)
  simp only [wq_neg]
  refine Cert.InpReal.sum_neg _ _ (fun k => ?_) (fun k => hg.turnedQ k h ⟨16 + j, by omega⟩)
  rw [Cert.InpRefIdeal.Att.normQ_at]
  exact Cert.InpReal.nrm_real _ Cert.InpReal.width_384 _ _ (hg.gainQ k) k

theorem keys_eq (c : Dev nD) (t : Fin cfg0.N) (r : Fin 512) (h : Fin 8) (j : Fin 128) :
    keys m c (ix4 (bAt t) (sAt t r) h j) = ∑ k : Fin 256, rowNAt m c t r k * argWk m c (ix2 k ⟨h * 128 + j, by omega⟩) := by
  refine (Cert.InpRefIdeal.Att.upK_at _ _ _ _ _ _).trans ?_
  simp only [rowN_eq]

/-! ## The four results -/

abbrev resA (c : Dev nD) := outA (argX m c) (argG m c) (argW m c)
abbrev resQ (c : Dev nD) := outQ (argX m c) (argG m c) (argW m c) (argGq m c) (argWq m c)
abbrev resK (c : Dev nD) := outK (argX m c) (argG m c) (argW m c) (argGk m c) (argWk m c)
abbrev resV (c : Dev nD) := outV (argX m c) (argG m c) (argW m c) (argGk m c) (argWk m c)

theorem pointA (c : Dev nD) (t : Fin cfg0.N) (r : Fin 512) (f : Fin 1536) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r f)
      = resA m c (ix3 (bAt t) (sAt t r) f) := by
  rw [out11_at]
  exact (row_low m c t r ⟨f, by omega⟩).trans (Cert.InpRefIdeal.Att.partA_at _ _ _ _).symm

theorem pointV (c : Dev nD) (t : Fin cfg0.N) (h : Fin 8) (v : Fin 64) (r : Fin 512) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 0 ⟨h * 64 + v, by omega⟩ r)
      = resV m c (ix4 (bAt t) ⟨t.val % 16, by omega⟩ ⟨h * 64 + v, by omega⟩ r) := by
  rw [out14_at]
  simp only [blk9, wv_at]
  refine (keys_eq m c t r h ⟨64 + v, by omega⟩).symm.trans ?_
  exact (Cert.InpRefIdeal.Att.laidV_at (keys m c) (bAt t) ⟨t.val % 16, by omega⟩ h v r).symm

theorem lane_zero (c : Dev nD) (T : FVec Ideal S8192x16 .f32) (s : Fin 8192) (l : Fin 128) (h : (l : ℕ) < 64 ∨ 96 ≤ (l : ℕ)) : tabOf T (ix2 s l) = 0 := by
  rcases h with h | h
  · exact tab_low T s ⟨l, h⟩
  · have := tab_high T s ⟨(l : ℕ) - 96, by omega⟩
    rwa [show (⟨96 + ((l : ℕ) - 96), by omega⟩ : Fin 128) = l from Fin.ext (by dsimp only; omega)] at this

theorem lane_first (T : FVec Ideal S8192x16 .f32) (s : Fin 8192) (j : Fin 16) : tabOf T (ix2 s ⟨64 + j, by omega⟩) = T (ix2 s j) := by
  refine (tab_mid T s ⟨j, by omega⟩).trans (congrArg (fun i => T (ix2 s i)) (Fin.ext ?_))
  show (j : ℕ) % 16 = j
  omega

theorem lane_second (T : FVec Ideal S8192x16 .f32) (s : Fin 8192) (j : Fin 16) : tabOf T (ix2 s ⟨64 + (16 + j), by omega⟩) = T (ix2 s j) := by
  refine (tab_mid T s ⟨16 + j, by omega⟩).trans (congrArg (fun i => T (ix2 s i)) (Fin.ext ?_))
  show (16 + (j : ℕ)) % 16 = j
  omega

theorem lanes (l : Fin 128) : (∃ j : Fin 64, l = ⟨j, by omega⟩) ∨ (∃ j : Fin 16, l = ⟨64 + j, by omega⟩) ∨ (∃ j : Fin 16, l = ⟨64 + (16 + j), by omega⟩)
    ∨ l = 96 ∨ ∃ j : Fin 31, l = ⟨97 + j, by omega⟩ := by
  by_cases h1 : (l : ℕ) < 64
  · exact Or.inl ⟨⟨l, h1⟩, rfl⟩
  by_cases h2 : (l : ℕ) < 80
  · exact Or.inr (Or.inl ⟨⟨l - 64, by omega⟩, Fin.ext (by dsimp only; omega)⟩)
  by_cases h3 : (l : ℕ) < 96
  · exact Or.inr (Or.inr (Or.inl ⟨⟨l - 80, by omega⟩, Fin.ext (by dsimp only; omega)⟩))
  by_cases h4 : (l : ℕ) = 96
  · exact Or.inr (Or.inr (Or.inr (Or.inl (Fin.ext h4))))
  · exact Or.inr (Or.inr (Or.inr (Or.inr ⟨⟨l - 97, by omega⟩, Fin.ext (by dsimp only; omega)⟩)))

theorem pointQ (c : Dev nD) (hg : Good (argG m c) (argW m c) (argGq m c) (argWq m c)) (t : Fin cfg0.N) (h : Fin 8) (r : Fin 512) (l : Fin 128) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 h r l)
      = resQ m c (ix4 (bAt t) h (sAt t r) l) := by
  have high : ∀ j : Fin 32, l = ⟨96 + j, by omega⟩ → rowQAt m c t r ⟨h * 128 + l, by omega⟩ * ((tabOf (Host.cos angle) (ix2 (sAt t r) l) + if (l : ℕ) < 64 then 1 else 0) * qs)
      + rowQAt m c t r ⟨h * 128 + (l + 32) % 128, by omega⟩ * (tabOf (Host.sin angle) (ix2 (sAt t r) l) * qs) = resQ m c (ix4 (bAt t) h (sAt t r) l) := by
    rintro j rfl
    rw [lane_zero c _ _ _ (Or.inr (by dsimp only; omega)), lane_zero c _ _ _ (Or.inr (by dsimp only; omega)), if_neg (by dsimp only; omega)]
    refine Eq.trans ?_ (Cert.InpRefIdeal.Att.laidQ_high _ _ _ _ _ _).symm
    rw [add_zero, zero_mul, mul_zero, mul_zero, add_zero]
  rw [stepQ_at, blk3, blk4]
  rcases lanes l with ⟨j, rfl⟩ | ⟨j, rfl⟩ | ⟨j, rfl⟩ | rfl | ⟨j, rfl⟩
  · rw [lane_zero c _ _ _ (Or.inl j.isLt), lane_zero c _ _ _ (Or.inl j.isLt), if_pos j.isLt, zero_add, one_mul, zero_mul, mul_zero, add_zero]
    refine Eq.trans ?_ (Cert.InpRefIdeal.Att.laidQ_low _ _ _ _ _ _).symm
    exact congrArg (· * qs) (rowQ_low m c t r h ⟨j, by omega⟩)
  · rw [lane_first, lane_first, if_neg (by dsimp only; omega)]
    refine Eq.trans ?_ (Cert.InpRefIdeal.Att.laidQ_mid _ _ _ _ _ ⟨j, by omega⟩).symm
    rw [Cert.InpRefIdeal.Att.turnQ_low]
    refine Eq.trans ?_ (Cert.InpReal.rot_low _ _ _ _ _ Cert.InpReal.scale_f32)
    refine congrArg₂ (· + ·) (congrArg (· * _) (rowQ_low m c t r h ⟨64 + j, by omega⟩)) (congrArg (· * _) ?_)
    refine (congrArg (rowQAt m c t r) (Fin.ext ?_)).trans (rowQ_neg m c hg t r h j)
    show (h : ℕ) * 128 + (64 + j + 32) % 128 = h * 128 + (96 + j)
    omega
  · rw [lane_second, lane_second, if_neg (by dsimp only; omega)]
    refine Eq.trans ?_ (Cert.InpRefIdeal.Att.laidQ_mid _ _ _ _ _ ⟨16 + j, by omega⟩).symm
    rw [Cert.InpRefIdeal.Att.turnQ_high]
    refine Eq.trans ?_ (Cert.InpReal.rot_high _ _ _ _ _ Cert.InpReal.scale_f32)
    refine congrArg₂ (· + ·) (congrArg (· * _) (rowQ_low m c t r h ⟨64 + (16 + j), by omega⟩)) (congrArg (· * _) ?_)
    refine (congrArg (rowQAt m c t r) (Fin.ext ?_)).trans (rowQ_pos m c t r h j)
    show (h : ℕ) * 128 + (64 + (16 + j) + 32) % 128 = h * 128 + (96 + (16 + j))
    omega
  · exact high 0 rfl
  · exact high ⟨1 + j, by omega⟩ (Fin.ext (by dsimp only; omega))

theorem upK_high (c : Dev nD) (t : Fin cfg0.N) (r : Fin 512) (h : Fin 8) (l : Fin 128) (hl : 64 ≤ (l : ℕ)) :
    ∑ k : Fin 256, rowNAt m c t r k * (iblk m c 8 t) (ix2 k ⟨h * 128 + l, by omega⟩) = (0 : EReal) := by
  refine Finset.sum_eq_zero fun k _ => ?_
  rw [blk8]
  have := wk_high (argWk m c) k h ⟨(l : ℕ) - 64, by omega⟩
  rw [show (⟨h * 128 + (64 + ((l : ℕ) - 64)), by omega⟩ : Fin 1024) = ⟨h * 128 + l, by omega⟩ from Fin.ext (by dsimp only; omega)] at this
  rw [this, mul_zero]

set_option maxHeartbeats 2000000 in
theorem pointK (c : Dev nD) (hg : Good (argG m c) (argW m c) (argGq m c) (argWq m c)) (t : Fin cfg0.N) (h : Fin 8) (r : Fin 512) (l : Fin 128) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 h r l)
      = resK m c (ix4 (bAt t) h (sAt t r) l) := by
  rw [stepK_at, blk3, blk4]
  rcases lanes l with ⟨j, rfl⟩ | ⟨j, rfl⟩ | ⟨j, rfl⟩ | rfl | ⟨j, rfl⟩
  · rw [lane_zero c _ _ _ (Or.inl j.isLt), lane_zero c _ _ _ (Or.inl j.isLt), if_neg (by dsimp only; omega), mul_zero, mul_zero, add_zero, add_zero, add_zero]
    refine Eq.trans ?_ (Cert.InpRefIdeal.Att.laidK_low _ _ _ _ _ _).symm
    refine Eq.trans ?_ (keys_eq m c t r h ⟨j, by omega⟩).symm
    simp only [blk8, wk_low]
  · rw [lane_first, lane_first, if_neg (by dsimp only; omega), upK_high m c t r h ⟨64 + j, by omega⟩ (by dsimp only; omega), zero_add, add_zero]
    refine Eq.trans ?_ (Cert.InpRefIdeal.Att.laidK_mid _ _ _ _ _ ⟨j, by omega⟩).symm
    rw [Cert.InpRefIdeal.Att.turnK_low, sub_eq_add_neg, ← neg_mul]
    refine congrArg₂ (· + ·) (congrArg (· * _) (row_rope m c t r ⟨j, by omega⟩)) (congrArg (· * _) ?_)
    refine (congrArg (rowAt m c t r) (Fin.ext ?_)).trans (row_neg m c hg t r j)
    show 2176 + (64 + (j : ℕ) + 32) % 128 = 2176 + (64 + (32 + j))
    omega
  · rw [lane_second, lane_second, if_neg (by dsimp only; omega), upK_high m c t r h ⟨64 + (16 + j), by omega⟩ (by dsimp only; omega), zero_add, add_zero]
    refine Eq.trans ?_ (Cert.InpRefIdeal.Att.laidK_mid _ _ _ _ _ ⟨16 + j, by omega⟩).symm
    rw [Cert.InpRefIdeal.Att.turnK_high]
    refine congrArg₂ (· + ·) (congrArg (· * _) (row_rope m c t r ⟨16 + j, by omega⟩)) (congrArg (· * _) ?_)
    refine (congrArg (rowAt m c t r) (Fin.ext ?_)).trans (row_pos m c t r j)
    show 2176 + (64 + (16 + (j : ℕ)) + 32) % 128 = 2176 + (64 + (32 + (16 + j)))
    omega
  · rw [lane_zero c _ _ _ (Or.inr (le_refl 96)), lane_zero c _ _ _ (Or.inr (le_refl 96)), if_pos (show ((96 : Fin 128) : ℕ) = 96 from rfl), upK_high m c t r h 96 (by decide), zero_add, mul_zero, mul_zero, add_zero, zero_add]
    exact (Cert.InpRefIdeal.Att.laidK_one _ _ _ _ _).symm
  · rw [lane_zero c _ _ _ (Or.inr (by dsimp only; omega)), lane_zero c _ _ _ (Or.inr (by dsimp only; omega)), if_neg (by dsimp only; omega),
      upK_high m c t r h ⟨97 + j, by omega⟩ (by dsimp only; omega), zero_add, mul_zero, mul_zero, add_zero, add_zero]
    exact (Cert.InpRefIdeal.Att.laidK_high _ _ _ _ _ _).symm

/-! ## The result arrays of the whole run -/

theorem finalA (c : Dev nD) : (dats m 0 c).arrAt 11 cfg0.N = resA m c := by
  refine (dats m 0 c).arrAt_eq_of_covers 11 _ (by decide +kernel) fun t _ y => ?_
  obtain ⟨a, r, d, rfl⟩ : ∃ a r d, y = ix3 a r d := ⟨_, _, _, eq_ix3 y⟩
  obtain rfl : a = 0 := Subsingleton.elim _ _
  refine (congrFun (after0_11 m c t) (ix3 0 r d)).trans ?_
  refine (pointA m c t r d).trans ?_
  have ht := t_lt t
  refine congrArg (resA m c) ?_
  blk_ext! [idx t]

theorem finalQ (c : Dev nD) (hg : Good (argG m c) (argW m c) (argGq m c) (argWq m c)) : (dats m 0 c).arrAt 12 cfg0.N = resQ m c := by
  refine (dats m 0 c).arrAt_eq_of_covers 12 _ (by decide +kernel) fun t _ y => ?_
  obtain ⟨a, h, r, l, rfl⟩ : ∃ a h r l, y = ix4 a h r l := ⟨_, _, _, _, eq_ix4 y⟩
  obtain rfl : a = 0 := Subsingleton.elim _ _
  refine (congrFun (after0_12 m c t) (ix4 0 h r l)).trans ?_
  refine (pointQ m c hg t h r l).trans ?_
  have ht := t_lt t
  refine congrArg (resQ m c) ?_
  blk_ext! [idx t]

theorem finalK (c : Dev nD) (hg : Good (argG m c) (argW m c) (argGq m c) (argWq m c)) : (dats m 0 c).arrAt 13 cfg0.N = resK m c := by
  refine (dats m 0 c).arrAt_eq_of_covers 13 _ (by decide +kernel) fun t _ y => ?_
  obtain ⟨a, h, r, l, rfl⟩ : ∃ a h r l, y = ix4 a h r l := ⟨_, _, _, _, eq_ix4 y⟩
  obtain rfl : a = 0 := Subsingleton.elim _ _
  refine (congrFun (after0_13 m c t) (ix4 0 h r l)).trans ?_
  refine (pointK m c hg t h r l).trans ?_
  have ht := t_lt t
  refine congrArg (resK m c) ?_
  blk_ext! [idx t]

theorem finalV (c : Dev nD) : (dats m 0 c).arrAt 14 cfg0.N = resV m c := by
  refine (dats m 0 c).arrAt_eq_of_covers 14 _ (by decide +kernel) fun t _ y => ?_
  obtain ⟨a, b, e, r, rfl⟩ : ∃ a b e r, y = ix4 a b e r := ⟨_, _, _, _, eq_ix4 y⟩
  obtain rfl : a = 0 := Subsingleton.elim _ _
  obtain rfl : b = 0 := Subsingleton.elim _ _
  refine (congrFun (after0_14 m c t) (ix4 0 0 e r)).trans ?_
  have p := pointV m c t ⟨(e : ℕ) / 64, by omega⟩ ⟨(e : ℕ) % 64, by omega⟩ r
  rw [show (⟨(e : ℕ) / 64 * 64 + (e : ℕ) % 64, by omega⟩ : Fin 512) = e from Fin.ext (by dsimp only; omega)] at p
  refine p.trans ?_
  have ht := t_lt t
  refine congrArg (resV m c) ?_
  blk_ext! [idx t]

end Cert.InpIdeal.Att
-- ==== Proof.InpPre.lean ====
module

public import proofs.«01_k».proof.Proof.BoundPre
public import proofs.«01_k».proof.Proof.InpFinal
public import proofs.«01_k».proof.Proof.Gen.Pre_finite_rope

@[expose] public section

set_option maxRecDepth 16384

noncomputable section

namespace Cert.InpPre

open Cert.Pre_finite_rope Cert.Pre_finite_rope.Gen
open Idealize.ShloMosaic
open Cert.BoundPre (and1 real_of_test)
open Facts

variable (X0 : FVec Ideal S2x8192x1024 .f32) (X1 : FVec Ideal S1024 .f32) (X2 : FVec Ideal S1024x2208 .f32) (X3 : FVec Ideal S384 .f32)
  (X4 : FVec Ideal S384x768 .f32) (X5 : FVec Ideal S256 .f32) (X6 : FVec Ideal S256x1024 .f32)

/-- One element's test against the infinity says that the element is a real. -/
theorem real (x : EReal) (h : BitVec.ofBool (decide (max x (-x) < Ideal.ofBits .f32 0x7F800000#32)) = 1#1) : ∃ r : ℝ, x = (r : EReal) :=
  ⟨_, real_of_test x h⟩

/-- What the precondition says of the arguments. -/
theorem good (h : Cert.Pre_finite_rope.fn (F := Ideal) X0 X1 X2 X3 X4 X5 X6 = fun _ => 1#1) : Cert.InpIdeal.Att.Good X1 X2 X3 X4 := by
  have h := congrFun h ix0
  unfold Cert.Pre_finite_rope.fn fn_part1 at h
  dsimp only at h
  obtain ⟨h, h4⟩ := and1 _ _ h
  obtain ⟨h, h3⟩ := and1 _ _ h
  obtain ⟨h1, h2⟩ := and1 _ _ h
  have h1 := Host.reduce_andi_all _ _ _ _ _ h1
  have h2 := Host.reduce_andi_all _ _ _ _ _ h2
  have h3 := Host.reduce_andi_all _ _ _ _ _ h3
  have h4 := Host.reduce_andi_all _ _ _ _ _ h4
  have g2 : ∀ (d : Fin 1024) (j : Fin 32), ∃ r : ℝ, (X2 (ix2 d ⟨2176 + j, by omega⟩) : EReal) = (r : EReal) := by
    intro d j
    refine real _ ?_
    have := h2 (ix2 d j)
    revert this
    pointwise []
    exact id
  have g4 : ∀ (k : Fin 384) (a : Fin 8) (j : Fin 32), ∃ r : ℝ, (X4 (ix2 k ⟨a * 96 + (64 + j), by omega⟩) : EReal) = (r : EReal) := by
    intro k a j
    refine real _ ?_
    have := h4 (ix3 k a j)
    revert this
    pointwise []
    exact id
  exact ⟨fun d => real _ (h1 (ix1 d)), g2, fun d => real _ (h3 (ix1 d)), g4⟩

end Cert.InpPre

end
-- ==== Proof.lean ====
module

public import proofs.«01_k».proof.Defs
public import proofs.«01_k».proof.Proof.BoundFrame
public import proofs.«01_k».proof.Proof.BoundIdealFrame
public import proofs.«01_k».proof.Proof.BoundPre
public import proofs.«01_k».proof.Proof.FfnHyps
public import proofs.«01_k».proof.Proof.FfnFinal
public import proofs.«01_k».proof.Proof.OutFinal
public import proofs.«01_k».proof.Proof.InpPre
public import Idealize.ShloMosaic.Lib.Quiescent
public import proofs.«01_k».proof.Proof.Gen.BoundRefIdeal.Run
public import proofs.«01_k».proof.Proof.Gen.Bound
public import proofs.«01_k».proof.Proof.Gen.Bound.Skeleton
public import proofs.«01_k».proof.Proof.Gen.Bound.Loops
public import proofs.«01_k».proof.Proof.Gen.Bound.Launch
public import proofs.«01_k».proof.Proof.Gen.Bound.Points
public import proofs.«01_k».proof.Proof.Gen.BoundIdeal
public import proofs.«01_k».proof.Proof.Gen.BoundIdeal.Skeleton
public import proofs.«01_k».proof.Proof.Gen.BoundIdeal.Loops
public import proofs.«01_k».proof.Proof.Gen.BoundIdeal.Launch
public import proofs.«01_k».proof.Proof.Gen.BoundIdeal.Points
public import proofs.«01_k».proof.Proof.Gen.BoundRefIdeal
public import proofs.«01_k».proof.Proof.Gen.Pre_finite
public import proofs.«01_k».proof.Proof.Gen.FfnIdeal.Frame
public import proofs.«01_k».proof.Proof.Gen.FfnIdeal.Value
public import proofs.«01_k».proof.Proof.Gen.Ffn.Frame
public import proofs.«01_k».proof.Proof.Gen.FfnRefIdeal.Run
public import proofs.«01_k».proof.Proof.Gen.OutIdeal.Frame
public import proofs.«01_k».proof.Proof.Gen.OutIdeal.Value
public import proofs.«01_k».proof.Proof.Gen.Out.Frame
public import proofs.«01_k».proof.Proof.Gen.OutRefIdeal.Run
public import proofs.«01_k».proof.Proof.Gen.InpIdeal.Frame
public import proofs.«01_k».proof.Proof.Gen.InpIdeal.Value
public import proofs.«01_k».proof.Proof.Gen.Inp.Frame
public import proofs.«01_k».proof.Proof.Gen.InpRefIdeal.Run
public import proofs.«01_k».proof.Proof.Gen.Pre_finite_rope
public import Idealize.ShloMosaic.Adequacy
public import Idealize.ShloMosaic.Init

@[expose] public section

noncomputable section

namespace Cert.Proof

open Idealize.ShloMosaic Idealize.SL.Sem Cert.Bound

/-- The host-only reference of the bounded attention ends with its arguments unchanged and every counter at zero. -/
theorem frame_boundRef : Cert.quiescent_BoundRefIdeal (hBoundRefIdeal := Cert.BoundRefIdeal.Gen.facts) := fun m g _ =>
  (θ_run (Cert.BoundRefIdeal.defs (F := Ideal)) _ _).mono
    (fun r h => ⟨fun c => (h c).2, Idealize.ShloMosaic.sem_eq_zero_of_no_sems (by decide) r.2⟩) (Cert.BoundRefIdeal.Value.run (F := Ideal) m g)

/-- The bounded attention and its reference end with one result. -/
theorem value_bound : Cert.algebraic_BoundIdeal_BoundRefIdeal_pre_finite (hBoundIdeal := Cert.BoundIdeal.Gen.facts) (hBoundRefIdeal := Cert.BoundRefIdeal.Gen.facts) (hPre_finite := Cert.Pre_finite.Gen.facts) := by
  intro m g m' g' hpre hag
  refine ⟨fun c => Cert.BoundRefIdeal.Att.out (Cert.BoundIdeal.Att.argQ m c) (Cert.BoundIdeal.Att.argK m c) (Cert.BoundIdeal.Att.argV m c), ?_, ?_⟩
  · refine (θ_run _ _ _).mono (fun r h c => ?_) (Cert.BoundIdeal.Att.run_result (F := Ideal) m g)
    exact ⟨(h c).1.trans (Cert.BoundIdeal.Att.final c (Cert.BoundPre.good _ _ _ _ (hpre c))), (h c).2⟩
  · refine (θ_run _ _ _).mono (fun r h c => ?_) (Cert.BoundRefIdeal.Value.run (F := Ideal) m' g')
    refine ⟨(h c).1.trans ?_, (h c).2⟩
    rw [(hag c).2.1, (hag c).2.2.1, (hag c).2.2.2]
    rfl

/-- The host-only reference of the feed-forward half ends with its arguments unchanged and every counter at zero. -/
theorem frame_ffnRef : Cert.quiescent_FfnRefIdeal (hFfnRefIdeal := Cert.FfnRefIdeal.Gen.facts) := fun m g _ =>
  (θ_run (Cert.FfnRefIdeal.defs (F := Ideal)) _ _).mono
    (fun r h => ⟨fun c => (h c).2, Idealize.ShloMosaic.sem_eq_zero_of_no_sems (by decide) r.2⟩) (Cert.FfnRefIdeal.Value.run (F := Ideal) m g)

/-- The feed-forward half and its reference end with one result. -/
theorem value_ffn : Cert.algebraic_FfnIdeal_FfnRefIdeal (hFfnIdeal := Cert.FfnIdeal.Gen.facts) (hFfnRefIdeal := Cert.FfnRefIdeal.Gen.facts) := by
  intro m g m' g' _ hag
  refine ⟨fun c => Cert.FfnIdeal.Att.outAt m c, ?_, ?_⟩
  · refine (θ_run _ _ _).mono (fun r h c => ?_) (Cert.FfnIdeal.Value.run_blocks (F := Ideal) m g (Cert.FfnIdeal.Att.hyps m))
    exact ⟨(h c).1.trans (Cert.FfnIdeal.Att.final m c), (h c).2⟩
  · refine (θ_run _ _ _).mono (fun r h c => ?_) (Cert.FfnRefIdeal.Value.run (F := Ideal) m' g')
    refine ⟨(h c).1.trans ((Cert.FfnRefIdeal.Att.res_eq m' c).trans ?_), (h c).2⟩
    rw [(hag c).1, (hag c).2.1, (hag c).2.2.1, (hag c).2.2.2.1, (hag c).2.2.2.2.1, (hag c).2.2.2.2.2.1, (hag c).2.2.2.2.2.2]

/-- The host-only reference of the output projection ends with its arguments unchanged and every counter at zero. -/
theorem frame_outRef : Cert.quiescent_OutRefIdeal (hOutRefIdeal := Cert.OutRefIdeal.Gen.facts) := fun m g _ =>
  (θ_run (Cert.OutRefIdeal.defs (F := Ideal)) _ _).mono
    (fun r h => ⟨fun c => (h c).2, Idealize.ShloMosaic.sem_eq_zero_of_no_sems (by decide) r.2⟩) (Cert.OutRefIdeal.Value.run (F := Ideal) m g)

/-- The output projection and its reference end with one result. -/
theorem value_out : Cert.algebraic_OutIdeal_OutRefIdeal (hOutIdeal := Cert.OutIdeal.Gen.facts) (hOutRefIdeal := Cert.OutRefIdeal.Gen.facts) := by
  intro m g m' g' _ hag
  refine ⟨fun c => Cert.OutIdeal.Att.outAt m c, ?_, ?_⟩
  · refine (θ_run _ _ _).mono (fun r h c => ?_) (Cert.OutIdeal.Value.run_blocks (F := Ideal) m g)
    exact ⟨(h c).1.trans (Cert.OutIdeal.Att.final m c), (h c).2⟩
  · refine (θ_run _ _ _).mono (fun r h c => ?_) (Cert.OutRefIdeal.Value.run (F := Ideal) m' g')
    refine ⟨(h c).1.trans ((Cert.OutRefIdeal.Att.res_eq m' c).trans ?_), (h c).2⟩
    rw [(hag c).1, (hag c).2.1, (hag c).2.2.1, (hag c).2.2.2.1, (hag c).2.2.2.2.1, (hag c).2.2.2.2.2.1, (hag c).2.2.2.2.2.2]

/-- The host-only reference of the input projection ends with its arguments unchanged and every counter at zero. -/
theorem frame_inpRef : Cert.quiescent_InpRefIdeal (hInpRefIdeal := Cert.InpRefIdeal.Gen.facts) := fun m g _ =>
  (θ_run (Cert.InpRefIdeal.defs (F := Ideal)) _ _).mono
    (fun r h => ⟨fun c => (h c).2.2.2.2, Idealize.ShloMosaic.sem_eq_zero_of_no_sems (by decide) r.2⟩) (Cert.InpRefIdeal.Value.run (F := Ideal) m g)

/-- The input projection and its reference end with the same four results. -/
theorem value_inp : Cert.algebraic_InpIdeal_InpRefIdeal_pre_finite_rope (hInpIdeal := Cert.InpIdeal.Gen.facts) (hInpRefIdeal := Cert.InpRefIdeal.Gen.facts) (hPre_finite_rope := Cert.Pre_finite_rope.Gen.facts) := by
  intro m g m' g' hpre hag
  refine ⟨fun c => Cert.InpIdeal.Att.resA m c, fun c => Cert.InpIdeal.Att.resQ m c, fun c => Cert.InpIdeal.Att.resK m c, fun c => Cert.InpIdeal.Att.resV m c, ?_, ?_⟩
  · refine (θ_run _ _ _).mono (fun r h c => ?_) (Cert.InpIdeal.Value.run_blocks (F := Ideal) m g)
    have hg := Cert.InpPre.good _ _ _ _ _ _ _ (hpre c)
    exact ⟨(h c).1.trans (Cert.InpIdeal.Att.finalA m c), (h c).2.1.trans (Cert.InpIdeal.Att.finalQ m c hg), (h c).2.2.1.trans (Cert.InpIdeal.Att.finalK m c hg),
      (h c).2.2.2.1.trans (Cert.InpIdeal.Att.finalV m c), (h c).2.2.2.2.2⟩
  · refine (θ_run _ _ _).mono (fun r h c => ?_) (Cert.InpRefIdeal.Value.run (F := Ideal) m' g')
    obtain ⟨a0, a1, a2, a3, a4, a5, a6⟩ := hag c
    refine ⟨(h c).1.trans (Eq.trans (b := Cert.InpRefIdeal.Att.outA (m' ((c.tc : Thread Cert.InpRefIdeal.nD Cert.InpRefIdeal.τ).loc Cert.InpRefIdeal.main_arg0)) (m' ((c.tc : Thread Cert.InpRefIdeal.nD Cert.InpRefIdeal.τ).loc Cert.InpRefIdeal.main_arg1)) (m' ((c.tc : Thread Cert.InpRefIdeal.nD Cert.InpRefIdeal.τ).loc Cert.InpRefIdeal.main_arg2))) rfl ?_), (h c).2.1.trans ((Cert.InpRefIdeal.Att.resQ_eq m' c).trans ?_),
      (h c).2.2.1.trans ((Cert.InpRefIdeal.Att.resK_eq m' c).trans ?_), (h c).2.2.2.1.trans (Eq.trans (b := Cert.InpRefIdeal.Att.outV (m' ((c.tc : Thread Cert.InpRefIdeal.nD Cert.InpRefIdeal.τ).loc Cert.InpRefIdeal.main_arg0)) (m' ((c.tc : Thread Cert.InpRefIdeal.nD Cert.InpRefIdeal.τ).loc Cert.InpRefIdeal.main_arg1)) (m' ((c.tc : Thread Cert.InpRefIdeal.nD Cert.InpRefIdeal.τ).loc Cert.InpRefIdeal.main_arg2)) (m' ((c.tc : Thread Cert.InpRefIdeal.nD Cert.InpRefIdeal.τ).loc Cert.InpRefIdeal.main_arg5)) (m' ((c.tc : Thread Cert.InpRefIdeal.nD Cert.InpRefIdeal.τ).loc Cert.InpRefIdeal.main_arg6))) rfl ?_), (h c).2.2.2.2⟩
    · rw [a0, a1, a2]
    · rw [a0, a1, a2, a3, a4]
    · rw [a0, a1, a2, a5, a6]
    · rw [a0, a1, a2, a5, a6]

theorem claim : Cert.Claim := ⟨Cert.Bound.Gen.facts, Cert.BoundIdeal.Gen.facts, Cert.BoundRefIdeal.Gen.facts,
    Cert.Ffn.Gen.facts, Cert.FfnIdeal.Gen.facts, Cert.FfnRefIdeal.Gen.facts,
    Cert.Out.Gen.facts, Cert.OutIdeal.Gen.facts, Cert.OutRefIdeal.Gen.facts,
    Cert.Inp.Gen.facts, Cert.InpIdeal.Gen.facts, Cert.InpRefIdeal.Gen.facts, Cert.Pre_finite.Gen.facts, Cert.Pre_finite_rope.Gen.facts, by
  exact ⟨fun m ρ _ => Cert.Bound.Att.frame m ρ, fun m ρ _ => Cert.BoundIdeal.Att.frame m ρ, fun m ρ _ => Cert.BoundIdeal.Att.frame m ρ,
    frame_boundRef, fun m ρ _ => frame_boundRef m ρ trivial,
    fun m ρ _ => Cert.Ffn.Gen.frame m ρ (Cert.Ffn.Att.hyps m), fun m ρ _ => Cert.FfnIdeal.Gen.frame m ρ (Cert.FfnIdeal.Att.hyps m), frame_ffnRef,
    fun m ρ _ => Cert.Out.Gen.frame m ρ, fun m ρ _ => Cert.OutIdeal.Gen.frame m ρ, frame_outRef,
    fun m ρ _ => Cert.Inp.Gen.frame m ρ, fun m ρ _ => Cert.InpIdeal.Gen.frame m ρ, fun m ρ _ => Cert.InpIdeal.Gen.frame m ρ,
    frame_inpRef, fun m ρ _ => frame_inpRef m ρ trivial,
    trivial, value_bound, trivial, value_ffn, trivial, value_out, trivial, value_inp⟩⟩

end Cert.Proof

end
